-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)) (v2 : (c : Dev Cert.InProjIdeal.nD) → Buf (Elt Ideal) ((c.tc : Thread Cert.InProjIdeal.nD Cert.InProjIdeal.τ).loc Cert.InProjIdeal.main_v4_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_v4_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3_0) = v0 c
          ∧ r.2.mem ((c.tc : Thread Cert.InProjRefIdeal.nD Cert.InProjRefIdeal.τ).loc Cert.InProjRefIdeal.main_v3_1) = v1 c
          ∧ r.2.mem ((c.tc : Thread Cert.InProjRefIdeal.nD Cert.InProjRefIdeal.τ).loc Cert.InProjRefIdeal.main_v3_2) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)) (v2 : (c : Dev Cert.OutProjIdeal.nD) → Buf (Elt Ideal) ((c.tc : Thread Cert.OutProjIdeal.nD Cert.OutProjIdeal.τ).loc Cert.OutProjIdeal.main_v3_2)) (v3 : (c : Dev Cert.OutProjIdeal.nD) → Buf (Elt Ideal) ((c.tc : Thread Cert.OutProjIdeal.nD Cert.OutProjIdeal.τ).loc Cert.OutProjIdeal.main_v3_3)) (v4 : (c : Dev Cert.OutProjIdeal.nD) → Buf (Elt Ideal) ((c.tc : Thread Cert.OutProjIdeal.nD Cert.OutProjIdeal.τ).loc Cert.OutProjIdeal.main_v3_4)) (v5 : (c : Dev Cert.OutProjIdeal.nD) → Buf (Elt Ideal) ((c.tc : Thread Cert.OutProjIdeal.nD Cert.OutProjIdeal.τ).loc Cert.OutProjIdeal.main_v3_5)) (v6 : (c : Dev Cert.OutProjIdeal.nD) → Buf (Elt Ideal) ((c.tc : Thread Cert.OutProjIdeal.nD Cert.OutProjIdeal.τ).loc Cert.OutProjIdeal.main_v3_6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_v3_2) = v2 c
          ∧ r.2.mem ((c.tc : Thread Cert.OutProjIdeal.nD Cert.OutProjIdeal.τ).loc Cert.OutProjIdeal.main_v3_3) = v3 c
          ∧ r.2.mem ((c.tc : Thread Cert.OutProjIdeal.nD Cert.OutProjIdeal.τ).loc Cert.OutProjIdeal.main_v3_4) = v4 c
          ∧ r.2.mem ((c.tc : Thread Cert.OutProjIdeal.nD Cert.OutProjIdeal.τ).loc Cert.OutProjIdeal.main_v3_5) = v5 c
          ∧ r.2.mem ((c.tc : Thread Cert.OutProjIdeal.nD Cert.OutProjIdeal.τ).loc Cert.OutProjIdeal.main_v3_6) = v6 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3_0) = v0 c
          ∧ r.2.mem ((c.tc : Thread Cert.OutProjRefIdeal.nD Cert.OutProjRefIdeal.τ).loc Cert.OutProjRefIdeal.main_v3_1) = v1 c
          ∧ r.2.mem ((c.tc : Thread Cert.OutProjRefIdeal.nD Cert.OutProjRefIdeal.τ).loc Cert.OutProjRefIdeal.main_v3_2) = v2 c
          ∧ r.2.mem ((c.tc : Thread Cert.OutProjRefIdeal.nD Cert.OutProjRefIdeal.τ).loc Cert.OutProjRefIdeal.main_v3_3) = v3 c
          ∧ r.2.mem ((c.tc : Thread Cert.OutProjRefIdeal.nD Cert.OutProjRefIdeal.τ).loc Cert.OutProjRefIdeal.main_v3_4) = v4 c
          ∧ r.2.mem ((c.tc : Thread Cert.OutProjRefIdeal.nD Cert.OutProjRefIdeal.τ).loc Cert.OutProjRefIdeal.main_v3_5) = v5 c
          ∧ r.2.mem ((c.tc : Thread Cert.OutProjRefIdeal.nD Cert.OutProjRefIdeal.τ).loc Cert.OutProjRefIdeal.main_v3_6) = v6 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)) (v2 : (c : Dev Cert.GateUpIdeal.nD) → Buf (Elt Ideal) ((c.tc : Thread Cert.GateUpIdeal.nD Cert.GateUpIdeal.τ).loc Cert.GateUpIdeal.main_v2_2)) (v3 : (c : Dev Cert.GateUpIdeal.nD) → Buf (Elt Ideal) ((c.tc : Thread Cert.GateUpIdeal.nD Cert.GateUpIdeal.τ).loc Cert.GateUpIdeal.main_v2_3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_v2_2) = v2 c
          ∧ r.2.mem ((c.tc : Thread Cert.GateUpIdeal.nD Cert.GateUpIdeal.τ).loc Cert.GateUpIdeal.main_v2_3) = v3 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2_0) = v0 c
          ∧ r.2.mem ((c.tc : Thread Cert.GateUpRefIdeal.nD Cert.GateUpRefIdeal.τ).loc Cert.GateUpRefIdeal.main_v2_1) = v1 c
          ∧ r.2.mem ((c.tc : Thread Cert.GateUpRefIdeal.nD Cert.GateUpRefIdeal.τ).loc Cert.GateUpRefIdeal.main_v2_2) = v2 c
          ∧ r.2.mem ((c.tc : Thread Cert.GateUpRefIdeal.nD Cert.GateUpRefIdeal.τ).loc Cert.GateUpRefIdeal.main_v2_3) = v3 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1_0) = v0 c
          ∧ r.2.mem ((c.tc : Thread Cert.DownRefIdeal.nD Cert.DownRefIdeal.τ).loc Cert.DownRefIdeal.main_v1_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts),
    quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== InProj.lean ====
abbrev S640x1x2048 : Shape := ⟨3, ![640, 1, 2048]⟩
abbrev S2048 : Shape := ⟨1, ![2048]⟩
abbrev S2048x8416 : Shape := ⟨2, ![2048, 8416]⟩
abbrev S8416 : Shape := ⟨1, ![8416]⟩
abbrev S640x2048 : Shape := ⟨2, ![640, 2048]⟩
abbrev S1x2048 : Shape := ⟨2, ![1, 2048]⟩
abbrev S8416x2048 : Shape := ⟨2, ![8416, 2048]⟩
abbrev S1x8416 : Shape := ⟨2, ![1, 8416]⟩
abbrev S8416x640 : Shape := ⟨2, ![8416, 640]⟩
abbrev S1x640 : Shape := ⟨2, ![1, 640]⟩
abbrev S1024x2048 : Shape := ⟨2, ![1024, 2048]⟩
abbrev S1x1024 : Shape := ⟨2, ![1, 1024]⟩
abbrev S1024x640 : Shape := ⟨2, ![1024, 640]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 11
  | .vmem => 10
  | .smem => 0
  | _ => 0

abbrev bufTy : (tb : Table) → Fin (tcTables nBuf tb) → BufTy
  | .hbm, ⟨0, _⟩ => ⟨S640x1x2048, .bf16⟩
  | .hbm, ⟨1, _⟩ => ⟨S2048, .f32⟩
  | .hbm, ⟨2, _⟩ => ⟨S2048x8416, .fp8e4m3⟩
  | .hbm, ⟨3, _⟩ => ⟨S8416, .f32⟩
  | .hbm, ⟨4, _⟩ => ⟨S640x2048, .bf16⟩
  | .hbm, ⟨5, _⟩ => ⟨S1x2048, .f32⟩
  | .hbm, ⟨6, _⟩ => ⟨S8416x2048, .fp8e4m3⟩
  | .hbm, ⟨7, _⟩ => ⟨S1x8416, .f32⟩
  | .hbm, ⟨8, _⟩ => ⟨S8416x640, .f32⟩
  | .hbm, ⟨9, _⟩ => ⟨S640x2048, .fp8e4m3⟩
  | .hbm, ⟨10, _⟩ => ⟨S1x640, .f32⟩
  | .local _ .vmem, ⟨0, _⟩ => ⟨S640x2048, .bf16⟩
  | .local _ .vmem, ⟨1, _⟩ => ⟨S1x2048, .f32⟩
  | .local _ .vmem, ⟨2, _⟩ => ⟨S1024x2048, .fp8e4m3⟩
  | .local _ .vmem, ⟨3, _⟩ => ⟨S1024x2048, .fp8e4m3⟩
  | .local _ .vmem, ⟨4, _⟩ => ⟨S1x1024, .f32⟩
  | .local _ .vmem, ⟨5, _⟩ => ⟨S1x1024, .f32⟩
  | .local _ .vmem, ⟨6, _⟩ => ⟨S1024x640, .f32⟩
  | .local _ .vmem, ⟨7, _⟩ => ⟨S1024x640, .f32⟩
  | .local _ .vmem, ⟨8, _⟩ => ⟨S640x2048, .fp8e4m3⟩
  | .local _ .vmem, ⟨9, _⟩ => ⟨S1x640, .f32⟩
  | _, _ => ⟨S640x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S640x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S640x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InProjRefIdeal.lean ====
abbrev S640x1x2048 : Shape := ⟨3, ![640, 1, 2048]⟩
abbrev S2048 : Shape := ⟨1, ![2048]⟩
abbrev S2048x8416 : Shape := ⟨2, ![2048, 8416]⟩
abbrev S8416 : Shape := ⟨1, ![8416]⟩
abbrev S640x2048 : Shape := ⟨2, ![640, 2048]⟩
abbrev S1x2048 : Shape := ⟨2, ![1, 2048]⟩
abbrev S1x8416 : Shape := ⟨2, ![1, 8416]⟩
abbrev S8416x640 : Shape := ⟨2, ![8416, 640]⟩
abbrev S1x640 : Shape := ⟨2, ![1, 640]⟩
abbrev S640 : Shape := ⟨1, ![640]⟩
abbrev S640x1 : Shape := ⟨2, ![640, 1]⟩
abbrev S640x8416 : Shape := ⟨2, ![640, 8416]⟩

abbrev nBuf : Space → Nat
  | .hbm => 10
  | .vmem => 7
  | .smem => 0
  | _ => 0

abbrev bufTy : (tb : Table) → Fin (tcTables nBuf tb) → BufTy
  | .hbm, ⟨0, _⟩ => ⟨S640x1x2048, .bf16⟩
  | .hbm, ⟨1, _⟩ => ⟨S2048, .f32⟩
  | .hbm, ⟨2, _⟩ => ⟨S2048x8416, .fp8e4m3⟩
  | .hbm, ⟨3, _⟩ => ⟨S8416, .f32⟩
  | .hbm, ⟨4, _⟩ => ⟨S640x2048, .bf16⟩
  | .hbm, ⟨5, _⟩ => ⟨S1x2048, .f32⟩
  | .hbm, ⟨6, _⟩ => ⟨S1x8416, .f32⟩
  | .hbm, ⟨7, _⟩ => ⟨S8416x640, .f32⟩
  | .hbm, ⟨8, _⟩ => ⟨S640x2048, .fp8e4m3⟩
  | .hbm, ⟨9, _⟩ => ⟨S1x640, .f32⟩
  | .local _ .vmem, ⟨0, _⟩ => ⟨S640x2048, .bf16⟩
  | .local _ .vmem, ⟨1, _⟩ => ⟨S1x2048, .f32⟩
  | .local _ .vmem, ⟨2, _⟩ => ⟨S2048x8416, .fp8e4m3⟩
  | .local _ .vmem, ⟨3, _⟩ => ⟨S1x8416, .f32⟩
  | .local _ .vmem, ⟨4, _⟩ => ⟨S8416x640, .f32⟩
  | .local _ .vmem, ⟨5, _⟩ => ⟨S640x2048, .fp8e4m3⟩
  | .local _ .vmem, ⟨6, _⟩ => ⟨S1x640, .f32⟩
  | _, _ => ⟨S640x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S640x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8416 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8416 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8416x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OutProj.lean ====
abbrev S3072x640 : Shape := ⟨2, ![3072, 640]⟩
abbrev S3072x2048 : Shape := ⟨2, ![3072, 2048]⟩
abbrev S2048 : Shape := ⟨1, ![2048]⟩
abbrev S640x1x2048 : Shape := ⟨3, ![640, 1, 2048]⟩
abbrev S1x2048 : Shape := ⟨2, ![1, 2048]⟩
abbrev S640x2048 : Shape := ⟨2, ![640, 2048]⟩
abbrev S640x1x3072 : Shape := ⟨3, ![640, 1, 3072]⟩
abbrev S640x3072 : Shape := ⟨2, ![640, 3072]⟩
abbrev S1x640 : Shape := ⟨2, ![1, 640]⟩
abbrev S3072x128 : Shape := ⟨2, ![3072, 128]⟩
abbrev S128x2048 : Shape := ⟨2, ![128, 2048]⟩
abbrev S128x1x3072 : Shape := ⟨3, ![128, 1, 3072]⟩
abbrev S128x3072 : Shape := ⟨2, ![128, 3072]⟩
abbrev S1x128 : Shape := ⟨2, ![1, 128]⟩
abbrev S128x1x2048 : Shape := ⟨3, ![128, 1, 2048]⟩
abbrev S128 : Shape := ⟨1, ![128]⟩
abbrev S128x1 : Shape := ⟨2, ![128, 1]⟩
abbrev S128x128 : Shape := ⟨2, ![128, 128]⟩

abbrev nBuf : Space → Nat
  | .hbm => 15
  | .vmem => 21
  | .smem => 0
  | _ => 0

abbrev bufTy : (tb : Table) → Fin (tcTables nBuf tb) → BufTy
  | .hbm, ⟨0, _⟩ => ⟨S3072x640, .f32⟩
  | .hbm, ⟨1, _⟩ => ⟨S3072x2048, .fp8e4m3⟩
  | .hbm, ⟨2, _⟩ => ⟨S2048, .f32⟩
  | .hbm, ⟨3, _⟩ => ⟨S640x1x2048, .bf16⟩
  | .hbm, ⟨4, _⟩ => ⟨S2048, .f32⟩
  | .hbm, ⟨5, _⟩ => ⟨S1x2048, .f32⟩
  | .hbm, ⟨6, _⟩ => ⟨S640x2048, .bf16⟩
  | .hbm, ⟨7, _⟩ => ⟨S1x2048, .f32⟩
  | .hbm, ⟨8, _⟩ => ⟨S640x1x3072, .f32⟩
  | .hbm, ⟨9, _⟩ => ⟨S640x3072, .fp8e4m3⟩
  | .hbm, ⟨10, _⟩ => ⟨S1x640, .f32⟩
  | .hbm, ⟨11, _⟩ => ⟨S640x1x2048, .f32⟩
  | .hbm, ⟨12, _⟩ => ⟨S640x2048, .f32⟩
  | .hbm, ⟨13, _⟩ => ⟨S640x2048, .fp8e4m3⟩
  | .hbm, ⟨14, _⟩ => ⟨S1x640, .f32⟩
  | .local _ .vmem, ⟨0, _⟩ => ⟨S3072x128, .f32⟩
  | .local _ .vmem, ⟨1, _⟩ => ⟨S3072x128, .f32⟩
  | .local _ .vmem, ⟨2, _⟩ => ⟨S3072x2048, .fp8e4m3⟩
  | .local _ .vmem, ⟨3, _⟩ => ⟨S1x2048, .f32⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S128x1x3072, .f32⟩
  | .local _ .vmem, ⟨8, _⟩ => ⟨S128x1x3072, .f32⟩
  | .local _ .vmem, ⟨9, _⟩ => ⟨S128x3072, .fp8e4m3⟩
  | .local _ .vmem, ⟨10, _⟩ => ⟨S128x3072, .fp8e4m3⟩
  | .local _ .vmem, ⟨11, _⟩ => ⟨S1x128, .f32⟩
  | .local _ .vmem, ⟨12, _⟩ => ⟨S1x128, .f32⟩
  | .local _ .vmem, ⟨13, _⟩ => ⟨S128x1x2048, .f32⟩
  | .local _ .vmem, ⟨14, _⟩ => ⟨S128x1x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .fp8e4m3⟩
  | .local _ .vmem, ⟨18, _⟩ => ⟨S128x2048, .fp8e4m3⟩
  | .local _ .vmem, ⟨19, _⟩ => ⟨S1x128, .f32⟩
  | .local _ .vmem, ⟨20, _⟩ => ⟨S1x128, .f32⟩
  | _, _ => ⟨S3072x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3072x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjRefIdeal.lean ====
abbrev S3072x640 : Shape := ⟨2, ![3072, 640]⟩
abbrev S3072x2048 : Shape := ⟨2, ![3072, 2048]⟩
abbrev S2048 : Shape := ⟨1, ![2048]⟩
abbrev S640x1x2048 : Shape := ⟨3, ![640, 1, 2048]⟩
abbrev S1x2048 : Shape := ⟨2, ![1, 2048]⟩
abbrev S640x2048 : Shape := ⟨2, ![640, 2048]⟩
abbrev S640x1x3072 : Shape := ⟨3, ![640, 1, 3072]⟩
abbrev S640x3072 : Shape := ⟨2, ![640, 3072]⟩
abbrev S1x640 : Shape := ⟨2, ![1, 640]⟩
abbrev S640 : Shape := ⟨1, ![640]⟩
abbrev S640x1 : Shape := ⟨2, ![640, 1]⟩

abbrev nBuf : Space → Nat
  | .hbm => 15
  | .vmem => 12
  | .smem => 0
  | _ => 0

abbrev bufTy : (tb : Table) → Fin (tcTables nBuf tb) → BufTy
  | .hbm, ⟨0, _⟩ => ⟨S3072x640, .f32⟩
  | .hbm, ⟨1, _⟩ => ⟨S3072x2048, .fp8e4m3⟩
  | .hbm, ⟨2, _⟩ => ⟨S2048, .f32⟩
  | .hbm, ⟨3, _⟩ => ⟨S640x1x2048, .bf16⟩
  | .hbm, ⟨4, _⟩ => ⟨S2048, .f32⟩
  | .hbm, ⟨5, _⟩ => ⟨S1x2048, .f32⟩
  | .hbm, ⟨6, _⟩ => ⟨S640x2048, .bf16⟩
  | .hbm, ⟨7, _⟩ => ⟨S1x2048, .f32⟩
  | .hbm, ⟨8, _⟩ => ⟨S640x1x3072, .f32⟩
  | .hbm, ⟨9, _⟩ => ⟨S640x3072, .fp8e4m3⟩
  | .hbm, ⟨10, _⟩ => ⟨S1x640, .f32⟩
  | .hbm, ⟨11, _⟩ => ⟨S640x1x2048, .f32⟩
  | .hbm, ⟨12, _⟩ => ⟨S640x2048, .f32⟩
  | .hbm, ⟨13, _⟩ => ⟨S640x2048, .fp8e4m3⟩
  | .hbm, ⟨14, _⟩ => ⟨S1x640, .f32⟩
  | .local _ .vmem, ⟨0, _⟩ => ⟨S3072x640, .f32⟩
  | .local _ .vmem, ⟨1, _⟩ => ⟨S3072x2048, .fp8e4m3⟩
  | .local _ .vmem, ⟨2, _⟩ => ⟨S1x2048, .f32⟩
  | .local _ .vmem, ⟨3, _⟩ => ⟨S640x2048, .bf16⟩
  | .local _ .vmem, ⟨4, _⟩ => ⟨S1x2048, .f32⟩
  | .local _ .vmem, ⟨5, _⟩ => ⟨S640x1x3072, .f32⟩
  | .local _ .vmem, ⟨6, _⟩ => ⟨S640x3072, .fp8e4m3⟩
  | .local _ .vmem, ⟨7, _⟩ => ⟨S1x640, .f32⟩
  | .local _ .vmem, ⟨8, _⟩ => ⟨S640x1x2048, .f32⟩
  | .local _ .vmem, ⟨9, _⟩ => ⟨S640x2048, .f32⟩
  | .local _ .vmem, ⟨10, _⟩ => ⟨S640x2048, .fp8e4m3⟩
  | .local _ .vmem, ⟨11, _⟩ => ⟨S1x640, .f32⟩
  | _, _ => ⟨S3072x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S3072x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S640x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S640x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S640x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S640x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== GateUp.lean ====
abbrev S640x2048 : Shape := ⟨2, ![640, 2048]⟩
abbrev S1x640 : Shape := ⟨2, ![1, 640]⟩
abbrev S2048x5632 : Shape := ⟨2, ![2048, 5632]⟩
abbrev S5632 : Shape := ⟨1, ![5632]⟩
abbrev S1x5632 : Shape := ⟨2, ![1, 5632]⟩
abbrev S640x1x5632 : Shape := ⟨3, ![640, 1, 5632]⟩
abbrev S640x5632 : Shape := ⟨2, ![640, 5632]⟩
abbrev S2048x512 : Shape := ⟨2, ![2048, 512]⟩
abbrev S1x512 : Shape := ⟨2, ![1, 512]⟩
abbrev S640x1x512 : Shape := ⟨3, ![640, 1, 512]⟩
abbrev S640x128 : Shape := ⟨2, ![640, 128]⟩
abbrev S1x128 : Shape := ⟨2, ![1, 128]⟩
abbrev S128x128 : Shape := ⟨2, ![128, 128]⟩
abbrev S640x1 : Shape := ⟨2, ![640, 1]⟩
abbrev S640x512 : Shape := ⟨2, ![640, 512]⟩
abbrev S128x5632 : Shape := ⟨2, ![128, 5632]⟩
abbrev S128 : Shape := ⟨1, ![128]⟩
abbrev S128x1 : Shape := ⟨2, ![128, 1]⟩

abbrev nBuf : Space → Nat
  | .hbm => 12
  | .vmem => 18
  | .smem => 0
  | _ => 0

abbrev bufTy : (tb : Table) → Fin (tcTables nBuf tb) → BufTy
  | .hbm, ⟨0, _⟩ => ⟨S640x2048, .fp8e4m3⟩
  | .hbm, ⟨1, _⟩ => ⟨S1x640, .f32⟩
  | .hbm, ⟨2, _⟩ => ⟨S2048x5632, .fp8e4m3⟩
  | .hbm, ⟨3, _⟩ => ⟨S5632, .f32⟩
  | .hbm, ⟨4, _⟩ => ⟨S2048x5632, .fp8e4m3⟩
  | .hbm, ⟨5, _⟩ => ⟨S5632, .f32⟩
  | .hbm, ⟨6, _⟩ => ⟨S1x5632, .f32⟩
  | .hbm, ⟨7, _⟩ => ⟨S1x5632, .f32⟩
  | .hbm, ⟨8, _⟩ => ⟨S640x1x5632, .f32⟩
  | .hbm, ⟨9, _⟩ => ⟨S640x1x5632, .f32⟩
  | .hbm, ⟨10, _⟩ => ⟨S640x5632, .fp8e4m3⟩
  | .hbm, ⟨11, _⟩ => ⟨S1x640, .f32⟩
  | .local _ .vmem, ⟨0, _⟩ => ⟨S640x2048, .fp8e4m3⟩
  | .local _ .vmem, ⟨1, _⟩ => ⟨S1x640, .f32⟩
  | .local _ .vmem, ⟨2, _⟩ => ⟨S2048x512, .fp8e4m3⟩
  | .local _ .vmem, ⟨3, _⟩ => ⟨S2048x512, .fp8e4m3⟩
  | .local _ .vmem, ⟨4, _⟩ => ⟨S1x512, .f32⟩
  | .local _ .vmem, ⟨5, _⟩ => ⟨S1x512, .f32⟩
  | .local _ .vmem, ⟨6, _⟩ => ⟨S2048x512, .fp8e4m3⟩
  | .local _ .vmem, ⟨7, _⟩ => ⟨S2048x512, .fp8e4m3⟩
  | .local _ .vmem, ⟨8, _⟩ => ⟨S1x512, .f32⟩
  | .local _ .vmem, ⟨9, _⟩ => ⟨S1x512, .f32⟩
  | .local _ .vmem, ⟨10, _⟩ => ⟨S640x1x512, .f32⟩
  | .local _ .vmem, ⟨11, _⟩ => ⟨S640x1x512, .f32⟩
  | .local _ .vmem, ⟨12, _⟩ => ⟨S640x1x512, .f32⟩
  | .local _ .vmem, ⟨13, _⟩ => ⟨S640x1x512, .f32⟩
  | .local _ .vmem, ⟨14, _⟩ => ⟨S640x5632, .fp8e4m3⟩
  | .local _ .vmem, ⟨15, _⟩ => ⟨S1x640, .f32⟩
  | .local _ .vmem, ⟨16, _⟩ => ⟨S640x5632, .f32⟩
  | .local _ .vmem, ⟨17, _⟩ => ⟨S640x128, .f32⟩
  | _, _ => ⟨S640x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![11], ![false]⟩

def k0_off1 (i : grid0.Coords) : Fin 2 → Nat :=
  let c0_22 : Index := 0#32
  let arg0 : BitVec 32 := BitVec.ofNat 32 (i 0).val
  let c512_i32 : BitVec 32 := 512#32
  let v36 : BitVec 32 := Scalar.muli arg0 c512_i32
  let v37 : Index := Scalar.indexCast v36
  ![0, v37.toNat]
def k0_cond2 (i : grid0.Coords) : BitVec 1 :=
  let arg0 : BitVec 32 := BitVec.ofNat 32 (i 0).val
  let c10_i32 : BitVec 32 := 10#32
  let v41 : BitVec 1 := Scalar.cmpi .eq arg0 c10_i32
  let v42 : BitVec 32 := Scalar.extui v41
  let c0_i32_23 : BitVec 32 := 0#32
  let v43 : BitVec 1 := Scalar.cmpi .ne v42 c0_i32_23
  v43

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S640x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S640x5632 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateUpRefIdeal.lean ====
abbrev S640x2048 : Shape := ⟨2, ![640, 2048]⟩
abbrev S1x640 : Shape := ⟨2, ![1, 640]⟩
abbrev S2048x5632 : Shape := ⟨2, ![2048, 5632]⟩
abbrev S5632 : Shape := ⟨1, ![5632]⟩
abbrev S1x5632 : Shape := ⟨2, ![1, 5632]⟩
abbrev S640x1x5632 : Shape := ⟨3, ![640, 1, 5632]⟩
abbrev S640x5632 : Shape := ⟨2, ![640, 5632]⟩
abbrev S640x1 : Shape := ⟨2, ![640, 1]⟩
abbrev S640 : Shape := ⟨1, ![640]⟩

abbrev nBuf : Space → Nat
  | .hbm => 12
  | .vmem => 10
  | .smem => 0
  | _ => 0

abbrev bufTy : (tb : Table) → Fin (tcTables nBuf tb) → BufTy
  | .hbm, ⟨0, _⟩ => ⟨S640x2048, .fp8e4m3⟩
  | .hbm, ⟨1, _⟩ => ⟨S1x640, .f32⟩
  | .hbm, ⟨2, _⟩ => ⟨S2048x5632, .fp8e4m3⟩
  | .hbm, ⟨3, _⟩ => ⟨S5632, .f32⟩
  | .hbm, ⟨4, _⟩ => ⟨S2048x5632, .fp8e4m3⟩
  | .hbm, ⟨5, _⟩ => ⟨S5632, .f32⟩
  | .hbm, ⟨6, _⟩ => ⟨S1x5632, .f32⟩
  | .hbm, ⟨7, _⟩ => ⟨S1x5632, .f32⟩
  | .hbm, ⟨8, _⟩ => ⟨S640x1x5632, .f32⟩
  | .hbm, ⟨9, _⟩ => ⟨S640x1x5632, .f32⟩
  | .hbm, ⟨10, _⟩ => ⟨S640x5632, .fp8e4m3⟩
  | .hbm, ⟨11, _⟩ => ⟨S1x640, .f32⟩
  | .local _ .vmem, ⟨0, _⟩ => ⟨S640x2048, .fp8e4m3⟩
  | .local _ .vmem, ⟨1, _⟩ => ⟨S1x640, .f32⟩
  | .local _ .vmem, ⟨2, _⟩ => ⟨S2048x5632, .fp8e4m3⟩
  | .local _ .vmem, ⟨3, _⟩ => ⟨S1x5632, .f32⟩
  | .local _ .vmem, ⟨4, _⟩ => ⟨S2048x5632, .fp8e4m3⟩
  | .local _ .vmem, ⟨5, _⟩ => ⟨S1x5632, .f32⟩
  | .local _ .vmem, ⟨6, _⟩ => ⟨S640x1x5632, .f32⟩
  | .local _ .vmem, ⟨7, _⟩ => ⟨S640x1x5632, .f32⟩
  | .local _ .vmem, ⟨8, _⟩ => ⟨S640x5632, .fp8e4m3⟩
  | .local _ .vmem, ⟨9, _⟩ => ⟨S1x640, .f32⟩
  | _, _ => ⟨S640x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S640x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x5632 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640x1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S640x5632 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Down.lean ====
abbrev S640x5632 : Shape := ⟨2, ![640, 5632]⟩
abbrev S1x640 : Shape := ⟨2, ![1, 640]⟩
abbrev S5632x2048 : Shape := ⟨2, ![5632, 2048]⟩
abbrev S2048 : Shape := ⟨1, ![2048]⟩
abbrev S640x2048 : Shape := ⟨2, ![640, 2048]⟩
abbrev S1x2048 : Shape := ⟨2, ![1, 2048]⟩
abbrev S640x1x2048 : Shape := ⟨3, ![640, 1, 2048]⟩
abbrev S5632x512 : Shape := ⟨2, ![5632, 512]⟩
abbrev S1x512 : Shape := ⟨2, ![1, 512]⟩
abbrev S640x512 : Shape := ⟨2, ![640, 512]⟩
abbrev S640x1x512 : Shape := ⟨3, ![640, 1, 512]⟩
abbrev S640x128 : Shape := ⟨2, ![640, 128]⟩
abbrev S1x128 : Shape := ⟨2, ![1, 128]⟩
abbrev S128x128 : Shape := ⟨2, ![128, 128]⟩
abbrev S640x1 : Shape := ⟨2, ![640, 1]⟩

abbrev nBuf : Space → Nat
  | .hbm => 8
  | .vmem => 13
  | .smem => 0
  | _ => 0

abbrev bufTy : (tb : Table) → Fin (tcTables nBuf tb) → BufTy
  | .hbm, ⟨0, _⟩ => ⟨S640x5632, .fp8e4m3⟩
  | .hbm, ⟨1, _⟩ => ⟨S1x640, .f32⟩
  | .hbm, ⟨2, _⟩ => ⟨S5632x2048, .fp8e4m3⟩
  | .hbm, ⟨3, _⟩ => ⟨S2048, .f32⟩
  | .hbm, ⟨4, _⟩ => ⟨S640x2048, .f32⟩
  | .hbm, ⟨5, _⟩ => ⟨S1x2048, .f32⟩
  | .hbm, ⟨6, _⟩ => ⟨S640x1x2048, .f32⟩
  | .hbm, ⟨7, _⟩ => ⟨S640x2048, .bf16⟩
  | .local _ .vmem, ⟨0, _⟩ => ⟨S640x5632, .fp8e4m3⟩
  | .local _ .vmem, ⟨1, _⟩ => ⟨S1x640, .f32⟩
  | .local _ .vmem, ⟨2, _⟩ => ⟨S5632x512, .fp8e4m3⟩
  | .local _ .vmem, ⟨3, _⟩ => ⟨S5632x512, .fp8e4m3⟩
  | .local _ .vmem, ⟨4, _⟩ => ⟨S1x512, .f32⟩
  | .local _ .vmem, ⟨5, _⟩ => ⟨S1x512, .f32⟩
  | .local _ .vmem, ⟨6, _⟩ => ⟨S640x512, .f32⟩
  | .local _ .vmem, ⟨7, _⟩ => ⟨S640x512, .f32⟩
  | .local _ .vmem, ⟨8, _⟩ => ⟨S640x1x512, .f32⟩
  | .local _ .vmem, ⟨9, _⟩ => ⟨S640x1x512, .f32⟩
  | .local _ .vmem, ⟨10, _⟩ => ⟨S640x512, .bf16⟩
  | .local _ .vmem, ⟨11, _⟩ => ⟨S640x512, .bf16⟩
  | .local _ .vmem, ⟨12, _⟩ => ⟨S640x128, .f32⟩
  | _, _ => ⟨S640x5632, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S640x5632 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5632x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S640x5632 : Shape := ⟨2, ![640, 5632]⟩
abbrev S1x640 : Shape := ⟨2, ![1, 640]⟩
abbrev S5632x2048 : Shape := ⟨2, ![5632, 2048]⟩
abbrev S2048 : Shape := ⟨1, ![2048]⟩
abbrev S640x2048 : Shape := ⟨2, ![640, 2048]⟩
abbrev S1x2048 : Shape := ⟨2, ![1, 2048]⟩
abbrev S640x1x2048 : Shape := ⟨3, ![640, 1, 2048]⟩
abbrev S640x1 : Shape := ⟨2, ![640, 1]⟩

abbrev nBuf : Space → Nat
  | .hbm => 8
  | .vmem => 7
  | .smem => 0
  | _ => 0

abbrev bufTy : (tb : Table) → Fin (tcTables nBuf tb) → BufTy
  | .hbm, ⟨0, _⟩ => ⟨S640x5632, .fp8e4m3⟩
  | .hbm, ⟨1, _⟩ => ⟨S1x640, .f32⟩
  | .hbm, ⟨2, _⟩ => ⟨S5632x2048, .fp8e4m3⟩
  | .hbm, ⟨3, _⟩ => ⟨S2048, .f32⟩
  | .hbm, ⟨4, _⟩ => ⟨S640x2048, .f32⟩
  | .hbm, ⟨5, _⟩ => ⟨S1x2048, .f32⟩
  | .hbm, ⟨6, _⟩ => ⟨S640x1x2048, .f32⟩
  | .hbm, ⟨7, _⟩ => ⟨S640x2048, .bf16⟩
  | .local _ .vmem, ⟨0, _⟩ => ⟨S640x5632, .fp8e4m3⟩
  | .local _ .vmem, ⟨1, _⟩ => ⟨S1x640, .f32⟩
  | .local _ .vmem, ⟨2, _⟩ => ⟨S5632x2048, .fp8e4m3⟩
  | .local _ .vmem, ⟨3, _⟩ => ⟨S1x2048, .f32⟩
  | .local _ .vmem, ⟨4, _⟩ => ⟨S640x2048, .f32⟩
  | .local _ .vmem, ⟨5, _⟩ => ⟨S640x1x2048, .f32⟩
  | .local _ .vmem, ⟨6, _⟩ => ⟨S640x2048, .bf16⟩
  | _, _ => ⟨S640x5632, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S640x5632 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.InProjIdealBody.lean ====
/- What the kernel's body leaves at one grid point, as functions of the blocks it reads, and the body's branch condition. -/
module

public import proofs.«01_k».proof.Proof.Gen.InProjIdeal.Frame
public import proofs.«01_k».proof.Proof.Gen.InProjIdeal.Skeleton
public import Idealize.ShloMosaic.Lib.WritesUnit
public import Idealize.ShloMosaic.Lib.Pipeline.Value

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- Offsets all zero, of rank two. -/
theorem hz2 : (![0, 0] : Fin 2 → ℕ) = fun _ => 0 := by decide

/-- The codes of the normalised rows, in five bands of 128 rows. -/
def codesOf (x0 : Vec F S640x2048 .bf16) (x1 : Vec F S1x2048 .f32) : Vec F S640x2048 .fp8e4m3 := View.canon [
    ⟨Rect.unit (s := S640x2048) ![512, 0] S128x2048.size inb_S640x2048_S128x2048_512_0, (k0_pay23 (k0_pay20 (View.ld x0 (Rect.unit (s := S640x2048) ![512, 0] S128x2048.size inb_S640x2048_S128x2048_512_0))) ((View.ld x1 (Rect.unit (s := S1x2048) ![0, 0] S1x2048.size inb_S1x2048_S1x2048_0_0))))⟩,
    ⟨Rect.unit (s := S640x2048) ![384, 0] S128x2048.size inb_S640x2048_S128x2048_384_0, (k0_pay18 (k0_pay15 (View.ld x0 (Rect.unit (s := S640x2048) ![384, 0] S128x2048.size inb_S640x2048_S128x2048_384_0))) (View.ld x1 (Rect.unit (s := S1x2048) ![0, 0] S1x2048.size inb_S1x2048_S1x2048_0_0)))⟩,
    ⟨Rect.unit (s := S640x2048) ![256, 0] S128x2048.size inb_S640x2048_S128x2048_256_0, (k0_pay13 (k0_pay10 (View.ld x0 (Rect.unit (s := S640x2048) ![256, 0] S128x2048.size inb_S640x2048_S128x2048_256_0))) (View.ld x1 (Rect.unit (s := S1x2048) ![0, 0] S1x2048.size inb_S1x2048_S1x2048_0_0)))⟩,
    ⟨Rect.unit (s := S640x2048) ![128, 0] S128x2048.size inb_S640x2048_S128x2048_128_0, (k0_pay8 (View.ld x0 (Rect.unit (s := S640x2048) ![128, 0] S128x2048.size inb_S640x2048_S128x2048_128_0)) (View.ld x1 (Rect.unit (s := S1x2048) ![0, 0] S1x2048.size inb_S1x2048_S1x2048_0_0)))⟩,
    ⟨Rect.unit (s := S640x2048) ![0, 0] S128x2048.size inb_S640x2048_S128x2048_0_0, (k0_pay4 (View.ld x0 (Rect.unit (s := S640x2048) ![0, 0] S128x2048.size inb_S640x2048_S128x2048_0_0)) (View.ld x1 (Rect.unit (s := S1x2048) ![0, 0] S1x2048.size inb_S1x2048_S1x2048_0_0)))⟩]

/-- The scales of the normalised rows, in five bands of 128. -/
def scalesOf (x0 : Vec F S640x2048 .bf16) (x1 : Vec F S1x2048 .f32) : Vec F S1x640 .f32 := View.canon [
    ⟨Rect.unit (s := S1x640) ![0, 512] S1x128.size inb_S1x640_S1x128_0_512, (k0_pay24 (k0_pay20 (View.ld x0 (Rect.unit (s := S640x2048) ![512, 0] S128x2048.size inb_S640x2048_S128x2048_512_0))) ((View.ld x1 (Rect.unit (s := S1x2048) ![0, 0] S1x2048.size inb_S1x2048_S1x2048_0_0))))⟩,
    ⟨Rect.unit (s := S1x640) ![0, 384] S1x128.size inb_S1x640_S1x128_0_384, (k0_pay19 (k0_pay15 (View.ld x0 (Rect.unit (s := S640x2048) ![384, 0] S128x2048.size inb_S640x2048_S128x2048_384_0))) (View.ld x1 (Rect.unit (s := S1x2048) ![0, 0] S1x2048.size inb_S1x2048_S1x2048_0_0)))⟩,
    ⟨Rect.unit (s := S1x640) ![0, 256] S1x128.size inb_S1x640_S1x128_0_256, (k0_pay14 (k0_pay10 (View.ld x0 (Rect.unit (s := S640x2048) ![256, 0] S128x2048.size inb_S640x2048_S128x2048_256_0))) (View.ld x1 (Rect.unit (s := S1x2048) ![0, 0] S1x2048.size inb_S1x2048_S1x2048_0_0)))⟩,
    ⟨Rect.unit (s := S1x640) ![0, 128] S1x128.size inb_S1x640_S1x128_0_128, (k0_pay9 (View.ld x0 (Rect.unit (s := S640x2048) ![128, 0] S128x2048.size inb_S640x2048_S128x2048_128_0)) (View.ld x1 (Rect.unit (s := S1x2048) ![0, 0] S1x2048.size inb_S1x2048_S1x2048_0_0)))⟩,
    ⟨Rect.unit (s := S1x640) ![0, 0] S1x128.size inb_S1x640_S1x128_0_0, (k0_pay5 (View.ld x0 (Rect.unit (s := S640x2048) ![0, 0] S128x2048.size inb_S640x2048_S128x2048_0_0)) (View.ld x1 (Rect.unit (s := S1x2048) ![0, 0] S1x2048.size inb_S1x2048_S1x2048_0_0)))⟩]

/-- The products a point writes, in forty tiles of 128 by 128, each tile of the whole product scaled by its columns and its rows. -/
def pTiles (x2 : Vec F S1024x2048 .fp8e4m3) (x3 : Vec F S1x1024 .f32) (xc : Vec F S640x2048 .fp8e4m3) (xs : Vec F S1x640 .f32) : Vec F S1024x640 .f32 := View.canon [
    ⟨Rect.unit (s := S1024x640) ![896, 512] S128x128.size inb_S1024x640_S128x128_896_512, (k0_pay1 (k0_pay25 x2 xc) (k0_pay74 (View.ld x3 (Rect.unit (s := S1x1024) ![0, 896] S1x128.size inb_S1x1024_S1x128_0_896))) (View.ld xs (Rect.unit (s := S1x640) ![0, 512] S1x128.size inb_S1x640_S1x128_0_512)))⟩,
    ⟨Rect.unit (s := S1024x640) ![896, 384] S128x128.size inb_S1024x640_S128x128_896_384, (k0_pay78 (k0_pay25 x2 xc) (View.ld x3 (Rect.unit (s := S1x1024) ![0, 896] S1x128.size inb_S1x1024_S1x128_0_896)) (View.ld xs (Rect.unit (s := S1x640) ![0, 384] S1x128.size inb_S1x640_S1x128_0_384)))⟩,
    ⟨Rect.unit (s := S1024x640) ![896, 256] S128x128.size inb_S1024x640_S128x128_896_256, (k0_pay77 (k0_pay25 x2 xc) (View.ld x3 (Rect.unit (s := S1x1024) ![0, 896] S1x128.size inb_S1x1024_S1x128_0_896)) (View.ld xs (Rect.unit (s := S1x640) ![0, 256] S1x128.size inb_S1x640_S1x128_0_256)))⟩,
    ⟨Rect.unit (s := S1024x640) ![896, 128] S128x128.size inb_S1024x640_S128x128_896_128, (k0_pay76 (k0_pay25 x2 xc) (View.ld x3 (Rect.unit (s := S1x1024) ![0, 896] S1x128.size inb_S1x1024_S1x128_0_896)) (View.ld xs (Rect.unit (s := S1x640) ![0, 128] S1x128.size inb_S1x640_S1x128_0_128)))⟩,
    ⟨Rect.unit (s := S1024x640) ![896, 0] S128x128.size inb_S1024x640_S128x128_896_0, (k0_pay75 (k0_pay25 x2 xc) (View.ld x3 (Rect.unit (s := S1x1024) ![0, 896] S1x128.size inb_S1x1024_S1x128_0_896)) (View.ld xs (Rect.unit (s := S1x640) ![0, 0] S1x128.size inb_S1x640_S1x128_0_0)))⟩,
    ⟨Rect.unit (s := S1024x640) ![768, 512] S128x128.size inb_S1024x640_S128x128_768_512, (k0_pay73 (k0_pay66 (View.ld x3 (Rect.unit (s := S1x1024) ![0, 768] S1x128.size inb_S1x1024_S1x128_0_768))) (k0_pay71 (k0_pay25 x2 xc)) (k0_pay72 (View.ld xs (Rect.unit (s := S1x640) ![0, 512] S1x128.size inb_S1x640_S1x128_0_512))))⟩,
    ⟨Rect.unit (s := S1024x640) ![768, 384] S128x128.size inb_S1024x640_S128x128_768_384, (k0_pay70 (k0_pay25 x2 xc) (View.ld x3 (Rect.unit (s := S1x1024) ![0, 768] S1x128.size inb_S1x1024_S1x128_0_768)) (View.ld xs (Rect.unit (s := S1x640) ![0, 384] S1x128.size inb_S1x640_S1x128_0_384)))⟩,
    ⟨Rect.unit (s := S1024x640) ![768, 256] S128x128.size inb_S1024x640_S128x128_768_256, (k0_pay69 (k0_pay25 x2 xc) (View.ld x3 (Rect.unit (s := S1x1024) ![0, 768] S1x128.size inb_S1x1024_S1x128_0_768)) (View.ld xs (Rect.unit (s := S1x640) ![0, 256] S1x128.size inb_S1x640_S1x128_0_256)))⟩,
    ⟨Rect.unit (s := S1024x640) ![768, 128] S128x128.size inb_S1024x640_S128x128_768_128, (k0_pay68 (k0_pay25 x2 xc) (View.ld x3 (Rect.unit (s := S1x1024) ![0, 768] S1x128.size inb_S1x1024_S1x128_0_768)) (View.ld xs (Rect.unit (s := S1x640) ![0, 128] S1x128.size inb_S1x640_S1x128_0_128)))⟩,
    ⟨Rect.unit (s := S1024x640) ![768, 0] S128x128.size inb_S1024x640_S128x128_768_0, (k0_pay67 (k0_pay25 x2 xc) (View.ld x3 (Rect.unit (s := S1x1024) ![0, 768] S1x128.size inb_S1x1024_S1x128_0_768)) (View.ld xs (Rect.unit (s := S1x640) ![0, 0] S1x128.size inb_S1x640_S1x128_0_0)))⟩,
    ⟨Rect.unit (s := S1024x640) ![640, 512] S128x128.size inb_S1024x640_S128x128_640_512, (k0_pay65 (k0_pay25 x2 xc) (k0_pay59 (View.ld x3 (Rect.unit (s := S1x1024) ![0, 640] S1x128.size inb_S1x1024_S1x128_0_640))) (View.ld xs (Rect.unit (s := S1x640) ![0, 512] S1x128.size inb_S1x640_S1x128_0_512)))⟩,
    ⟨Rect.unit (s := S1024x640) ![640, 384] S128x128.size inb_S1024x640_S128x128_640_384, (k0_pay64 (k0_pay25 x2 xc) (k0_pay59 (View.ld x3 (Rect.unit (s := S1x1024) ![0, 640] S1x128.size inb_S1x1024_S1x128_0_640))) (View.ld xs (Rect.unit (s := S1x640) ![0, 384] S1x128.size inb_S1x640_S1x128_0_384)))⟩,
    ⟨Rect.unit (s := S1024x640) ![640, 256] S128x128.size inb_S1024x640_S128x128_640_256, (k0_pay63 (k0_pay25 x2 xc) (k0_pay59 (View.ld x3 (Rect.unit (s := S1x1024) ![0, 640] S1x128.size inb_S1x1024_S1x128_0_640))) (View.ld xs (Rect.unit (s := S1x640) ![0, 256] S1x128.size inb_S1x640_S1x128_0_256)))⟩,
    ⟨Rect.unit (s := S1024x640) ![640, 128] S128x128.size inb_S1024x640_S128x128_640_128, (k0_pay62 (k0_pay25 x2 xc) (k0_pay59 (View.ld x3 (Rect.unit (s := S1x1024) ![0, 640] S1x128.size inb_S1x1024_S1x128_0_640))) (View.ld xs (Rect.unit (s := S1x640) ![0, 128] S1x128.size inb_S1x640_S1x128_0_128)))⟩,
    ⟨Rect.unit (s := S1024x640) ![640, 0] S128x128.size inb_S1024x640_S128x128_640_0, (k0_pay61 (k0_pay59 (View.ld x3 (Rect.unit (s := S1x1024) ![0, 640] S1x128.size inb_S1x1024_S1x128_0_640))) (k0_pay60 (k0_pay25 x2 xc)) (View.ld xs (Rect.unit (s := S1x640) ![0, 0] S1x128.size inb_S1x640_S1x128_0_0)))⟩,
    ⟨Rect.unit (s := S1024x640) ![512, 512] S128x128.size inb_S1024x640_S128x128_512_512, (k0_pay58 (k0_pay25 x2 xc) (k0_pay53 (View.ld x3 (Rect.unit (s := S1x1024) ![0, 512] S1x128.size inb_S1x1024_S1x128_0_512))) (View.ld xs (Rect.unit (s := S1x640) ![0, 512] S1x128.size inb_S1x640_S1x128_0_512)))⟩,
    ⟨Rect.unit (s := S1024x640) ![512, 384] S128x128.size inb_S1024x640_S128x128_512_384, (k0_pay57 (k0_pay25 x2 xc) (k0_pay53 (View.ld x3 (Rect.unit (s := S1x1024) ![0, 512] S1x128.size inb_S1x1024_S1x128_0_512))) (View.ld xs (Rect.unit (s := S1x640) ![0, 384] S1x128.size inb_S1x640_S1x128_0_384)))⟩,
    ⟨Rect.unit (s := S1024x640) ![512, 256] S128x128.size inb_S1024x640_S128x128_512_256, (k0_pay56 (k0_pay25 x2 xc) (k0_pay53 (View.ld x3 (Rect.unit (s := S1x1024) ![0, 512] S1x128.size inb_S1x1024_S1x128_0_512))) (View.ld xs (Rect.unit (s := S1x640) ![0, 256] S1x128.size inb_S1x640_S1x128_0_256)))⟩,
    ⟨Rect.unit (s := S1024x640) ![512, 128] S128x128.size inb_S1024x640_S128x128_512_128, (k0_pay55 (k0_pay25 x2 xc) (k0_pay53 (View.ld x3 (Rect.unit (s := S1x1024) ![0, 512] S1x128.size inb_S1x1024_S1x128_0_512))) (View.ld xs (Rect.unit (s := S1x640) ![0, 128] S1x128.size inb_S1x640_S1x128_0_128)))⟩,
    ⟨Rect.unit (s := S1024x640) ![512, 0] S128x128.size inb_S1024x640_S128x128_512_0, (k0_pay54 (k0_pay25 x2 xc) (View.ld x3 (Rect.unit (s := S1x1024) ![0, 512] S1x128.size inb_S1x1024_S1x128_0_512)) (View.ld xs (Rect.unit (s := S1x640) ![0, 0] S1x128.size inb_S1x640_S1x128_0_0)))⟩,
    ⟨Rect.unit (s := S1024x640) ![384, 512] S128x128.size inb_S1024x640_S128x128_384_512, (k0_pay52 (k0_pay25 x2 xc) (k0_pay46 (View.ld x3 (Rect.unit (s := S1x1024) ![0, 384] S1x128.size inb_S1x1024_S1x128_0_384))) (View.ld xs (Rect.unit (s := S1x640) ![0, 512] S1x128.size inb_S1x640_S1x128_0_512)))⟩,
    ⟨Rect.unit (s := S1024x640) ![384, 384] S128x128.size inb_S1024x640_S128x128_384_384, (k0_pay51 (k0_pay25 x2 xc) (k0_pay46 (View.ld x3 (Rect.unit (s := S1x1024) ![0, 384] S1x128.size inb_S1x1024_S1x128_0_384))) (View.ld xs (Rect.unit (s := S1x640) ![0, 384] S1x128.size inb_S1x640_S1x128_0_384)))⟩,
    ⟨Rect.unit (s := S1024x640) ![384, 256] S128x128.size inb_S1024x640_S128x128_384_256, (k0_pay50 (k0_pay25 x2 xc) (k0_pay46 (View.ld x3 (Rect.unit (s := S1x1024) ![0, 384] S1x128.size inb_S1x1024_S1x128_0_384))) (View.ld xs (Rect.unit (s := S1x640) ![0, 256] S1x128.size inb_S1x640_S1x128_0_256)))⟩,
    ⟨Rect.unit (s := S1024x640) ![384, 128] S128x128.size inb_S1024x640_S128x128_384_128, (k0_pay49 (k0_pay46 (View.ld x3 (Rect.unit (s := S1x1024) ![0, 384] S1x128.size inb_S1x1024_S1x128_0_384))) (k0_pay48 (k0_pay25 x2 xc)) (View.ld xs (Rect.unit (s := S1x640) ![0, 128] S1x128.size inb_S1x640_S1x128_0_128)))⟩,
    ⟨Rect.unit (s := S1024x640) ![384, 0] S128x128.size inb_S1024x640_S128x128_384_0, (k0_pay47 (k0_pay25 x2 xc) (View.ld x3 (Rect.unit (s := S1x1024) ![0, 384] S1x128.size inb_S1x1024_S1x128_0_384)) (View.ld xs (Rect.unit (s := S1x640) ![0, 0] S1x128.size inb_S1x640_S1x128_0_0)))⟩,
    ⟨Rect.unit (s := S1024x640) ![256, 512] S128x128.size inb_S1024x640_S128x128_256_512, (k0_pay45 (k0_pay25 x2 xc) (k0_pay40 (View.ld x3 (Rect.unit (s := S1x1024) ![0, 256] S1x128.size inb_S1x1024_S1x128_0_256))) (View.ld xs (Rect.unit (s := S1x640) ![0, 512] S1x128.size inb_S1x640_S1x128_0_512)))⟩,
    ⟨Rect.unit (s := S1024x640) ![256, 384] S128x128.size inb_S1024x640_S128x128_256_384, (k0_pay44 (k0_pay25 x2 xc) (k0_pay40 (View.ld x3 (Rect.unit (s := S1x1024) ![0, 256] S1x128.size inb_S1x1024_S1x128_0_256))) (View.ld xs (Rect.unit (s := S1x640) ![0, 384] S1x128.size inb_S1x640_S1x128_0_384)))⟩,
    ⟨Rect.unit (s := S1024x640) ![256, 256] S128x128.size inb_S1024x640_S128x128_256_256, (k0_pay43 (k0_pay25 x2 xc) (k0_pay40 (View.ld x3 (Rect.unit (s := S1x1024) ![0, 256] S1x128.size inb_S1x1024_S1x128_0_256))) (View.ld xs (Rect.unit (s := S1x640) ![0, 256] S1x128.size inb_S1x640_S1x128_0_256)))⟩,
    ⟨Rect.unit (s := S1024x640) ![256, 128] S128x128.size inb_S1024x640_S128x128_256_128, (k0_pay42 (k0_pay25 x2 xc) (View.ld x3 (Rect.unit (s := S1x1024) ![0, 256] S1x128.size inb_S1x1024_S1x128_0_256)) (View.ld xs (Rect.unit (s := S1x640) ![0, 128] S1x128.size inb_S1x640_S1x128_0_128)))⟩,
    ⟨Rect.unit (s := S1024x640) ![256, 0] S128x128.size inb_S1024x640_S128x128_256_0, (k0_pay41 (k0_pay25 x2 xc) (View.ld x3 (Rect.unit (s := S1x1024) ![0, 256] S1x128.size inb_S1x1024_S1x128_0_256)) (View.ld xs (Rect.unit (s := S1x640) ![0, 0] S1x128.size inb_S1x640_S1x128_0_0)))⟩,
    ⟨Rect.unit (s := S1024x640) ![128, 512] S128x128.size inb_S1024x640_S128x128_128_512, (k0_pay39 (k0_pay25 x2 xc) (k0_pay32 (View.ld x3 (Rect.unit (s := S1x1024) ![0, 128] S1x128.size inb_S1x1024_S1x128_0_128))) (View.ld xs (Rect.unit (s := S1x640) ![0, 512] S1x128.size inb_S1x640_S1x128_0_512)))⟩,
    ⟨Rect.unit (s := S1024x640) ![128, 384] S128x128.size inb_S1024x640_S128x128_128_384, (k0_pay38 (k0_pay25 x2 xc) (k0_pay32 (View.ld x3 (Rect.unit (s := S1x1024) ![0, 128] S1x128.size inb_S1x1024_S1x128_0_128))) (View.ld xs (Rect.unit (s := S1x640) ![0, 384] S1x128.size inb_S1x640_S1x128_0_384)))⟩,
    ⟨Rect.unit (s := S1024x640) ![128, 256] S128x128.size inb_S1024x640_S128x128_128_256, (k0_pay37 (k0_pay32 (View.ld x3 (Rect.unit (s := S1x1024) ![0, 128] S1x128.size inb_S1x1024_S1x128_0_128))) (k0_pay35 (k0_pay25 x2 xc)) (k0_pay36 (View.ld xs (Rect.unit (s := S1x640) ![0, 256] S1x128.size inb_S1x640_S1x128_0_256))))⟩,
    ⟨Rect.unit (s := S1024x640) ![128, 128] S128x128.size inb_S1024x640_S128x128_128_128, (k0_pay34 (k0_pay25 x2 xc) (View.ld x3 (Rect.unit (s := S1x1024) ![0, 128] S1x128.size inb_S1x1024_S1x128_0_128)) (View.ld xs (Rect.unit (s := S1x640) ![0, 128] S1x128.size inb_S1x640_S1x128_0_128)))⟩,
    ⟨Rect.unit (s := S1024x640) ![128, 0] S128x128.size inb_S1024x640_S128x128_128_0, (k0_pay33 (k0_pay25 x2 xc) (View.ld x3 (Rect.unit (s := S1x1024) ![0, 128] S1x128.size inb_S1x1024_S1x128_0_128)) (View.ld xs (Rect.unit (s := S1x640) ![0, 0] S1x128.size inb_S1x640_S1x128_0_0)))⟩,
    ⟨Rect.unit (s := S1024x640) ![0, 512] S128x128.size inb_S1024x640_S128x128_0_512, (k0_pay31 (k0_pay25 x2 xc) (k0_pay26 (View.ld x3 (Rect.unit (s := S1x1024) ![0, 0] S1x128.size inb_S1x1024_S1x128_0_0))) (View.ld xs (Rect.unit (s := S1x640) ![0, 512] S1x128.size inb_S1x640_S1x128_0_512)))⟩,
    ⟨Rect.unit (s := S1024x640) ![0, 384] S128x128.size inb_S1024x640_S128x128_0_384, (k0_pay30 (k0_pay25 x2 xc) (k0_pay26 (View.ld x3 (Rect.unit (s := S1x1024) ![0, 0] S1x128.size inb_S1x1024_S1x128_0_0))) (View.ld xs (Rect.unit (s := S1x640) ![0, 384] S1x128.size inb_S1x640_S1x128_0_384)))⟩,
    ⟨Rect.unit (s := S1024x640) ![0, 256] S128x128.size inb_S1024x640_S128x128_0_256, (k0_pay29 x2 xc (View.ld x3 (Rect.unit (s := S1x1024) ![0, 0] S1x128.size inb_S1x1024_S1x128_0_0)) (View.ld xs (Rect.unit (s := S1x640) ![0, 256] S1x128.size inb_S1x640_S1x128_0_256)))⟩,
    ⟨Rect.unit (s := S1024x640) ![0, 128] S128x128.size inb_S1024x640_S128x128_0_128, (k0_pay28 x2 xc (View.ld x3 (Rect.unit (s := S1x1024) ![0, 0] S1x128.size inb_S1x1024_S1x128_0_0)) (View.ld xs (Rect.unit (s := S1x640) ![0, 128] S1x128.size inb_S1x640_S1x128_0_128)))⟩,
    ⟨Rect.unit (s := S1024x640) ![0, 0] S128x128.size inb_S1024x640_S128x128_0_0, (k0_pay27 x2 xc (View.ld x3 (Rect.unit (s := S1x1024) ![0, 0] S1x128.size inb_S1x1024_S1x128_0_0)) (View.ld xs (Rect.unit (s := S1x640) ![0, 0] S1x128.size inb_S1x640_S1x128_0_0)))⟩]

/-- The products a point writes: of its weight rows `x2` and their scales `x3` with the codes `xc` and their scales `xs`. -/
def pOut (x2 : Vec F S1024x2048 .fp8e4m3) (x3 : Vec F S1x1024 .f32) (xc : Vec F S640x2048 .fp8e4m3) (xs : Vec F S1x640 .f32) : Vec F S1024x640 .f32 :=
  pTiles (View.ld x2 (Rect.unit (s := S1024x2048) ![0, 0] S1024x2048.size inb_S1024x2048_S1024x2048_0_0)) x3 (View.ld xc (Rect.unit (s := S640x2048) ![0, 0] S640x2048.size inb_S640x2048_S640x2048_0_0)) xs

/-- The products a point writes, the loads of whole blocks read. -/
theorem pOut_eq (x2 : Vec F S1024x2048 .fp8e4m3) (x3 : Vec F S1x1024 .f32) (xc : Vec F S640x2048 .fp8e4m3) (xs : Vec F S1x640 .f32) : pOut x2 x3 xc xs = pTiles x2 x3 xc xs := by
  unfold pOut; rw [View.ld_unit_zero hz2 _ x2, View.ld_unit_zero hz2 _ xc]

/-! ## The body's branch condition -/

/-- The condition of the body's `scf.if`, from the grid coordinates. -/
abbrev cond0_0 (i : grid0.Coords) : Prop := k0_cond1 i = 1#1
/-- It holds at the first point only. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)
/-- Window 0's current staging buffer. -/
abbrev ms0_0 (t : Fin cfg0.N) : Memref sig .tc .vmem S640x2048 .bf16 := win0_0.stage (cfg0.slots t 0)
/-- It is a whole buffer. -/
abbrev hs0_0 (t : Fin cfg0.N) : (ms0_0 t).IsWhole := hstage0_0 ((cfg0.slots t 0).cast nbuf0_0)
/-- Window 1's current staging buffer. -/
abbrev ms0_1 (t : Fin cfg0.N) : Memref sig .tc .vmem S1x2048 .f32 := win0_1.stage (cfg0.slots t 1)
/-- It is a whole buffer. -/
abbrev hs0_1 (t : Fin cfg0.N) : (ms0_1 t).IsWhole := hstage0_1 ((cfg0.slots t 1).cast nbuf0_1)
/-- Window 2's current staging buffer. -/
abbrev ms0_2 (t : Fin cfg0.N) : Memref sig .tc .vmem S1024x2048 .fp8e4m3 := win0_2.stage (cfg0.slots t 2)
/-- It is a whole buffer. -/
abbrev hs0_2 (t : Fin cfg0.N) : (ms0_2 t).IsWhole := hstage0_2 ((cfg0.slots t 2).cast nbuf0_2)
/-- Window 3's current staging buffer. -/
abbrev ms0_3 (t : Fin cfg0.N) : Memref sig .tc .vmem S1x1024 .f32 := win0_3.stage (cfg0.slots t 3)
/-- It is a whole buffer. -/
abbrev hs0_3 (t : Fin cfg0.N) : (ms0_3 t).IsWhole := hstage0_3 ((cfg0.slots t 3).cast nbuf0_3)
/-- Window 4's current staging buffer. -/
abbrev ms0_4 (t : Fin cfg0.N) : Memref sig .tc .vmem S1024x640 .f32 := win0_4.stage (cfg0.slots t 4)
/-- It is a whole buffer. -/
abbrev hs0_4 (t : Fin cfg0.N) : (ms0_4 t).IsWhole := hstage0_4 ((cfg0.slots t 4).cast nbuf0_4)
/-- Window 5's current staging buffer. -/
abbrev ms0_5 (t : Fin cfg0.N) : Memref sig .tc .vmem S640x2048 .fp8e4m3 := win0_5.stage (cfg0.slots t 5)
/-- It is a whole buffer. -/
abbrev hs0_5 (t : Fin cfg0.N) : (ms0_5 t).IsWhole := hstage0_5 ((cfg0.slots t 5).cast nbuf0_5)
/-- Window 6's current staging buffer. -/
abbrev ms0_6 (t : Fin cfg0.N) : Memref sig .tc .vmem S1x640 .f32 := win0_6.stage (cfg0.slots t 6)
/-- It is a whole buffer. -/
abbrev hs0_6 (t : Fin cfg0.N) : (ms0_6 t).IsWhole := hstage0_6 ((cfg0.slots t 6).cast nbuf0_6)

end Cert.InProjIdeal.Hand

end
-- ==== Proof.InProjIdealRunA.lean ====
/- The body's run at the first grid point. -/
module

public import proofs.«01_k».proof.Proof.InProjIdealBody

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

set_option maxHeartbeats 4000000 in
/-- The first point: the normalised rows are quantised, then the products of its weight rows are made. -/
theorem run_A (c : Dev nD) (i : grid0.Coords) (arg1 : Memref sig .tc .vmem S640x2048 .bf16) (harg1 : arg1.IsWhole) (arg2 : Memref sig .tc .vmem S1x2048 .f32) (harg2 : arg2.IsWhole) (arg3 : Memref sig .tc .vmem S1024x2048 .fp8e4m3) (harg3 : arg3.IsWhole) (arg4 : Memref sig .tc .vmem S1x1024 .f32) (harg4 : arg4.IsWhole) (arg5 : Memref sig .tc .vmem S1024x640 .f32) (harg5 : arg5.IsWhole) (arg6 : Memref sig .tc .vmem S640x2048 .fp8e4m3) (harg6 : arg6.IsWhole) (arg7 : Memref sig .tc .vmem S1x640 .f32) (harg7 : arg7.IsWhole) (hc0 : cond0_0 i)
    (x0 : Vec F S640x2048 .bf16) (x1 : Vec F S1x2048 .f32) (x2 : Vec F S1024x2048 .fp8e4m3) (x3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (pOut x2 x3 (codesOf x0 x1) (scalesOf x0 x1)) ∗ owns (c : Thread nD τ) arg6 fullShare (codesOf x0 x1) ∗ owns (c : Thread nD τ) arg7 fullShare (scalesOf x0 x1)) -∗ K ⟨⟩))
      ⊢ wp frame (wpE (defs₀ (F := F)) Variants.none c none) E (cc0_in_proj i arg1 harg1 arg2 harg2 arg3 harg3 arg4 harg4 arg5 harg5 arg6 harg6 arg7 harg7) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; rw [View.read_writes_eq_canon _ _ _ (View.cover_of_tiledL (s := S1024x640) _ ![128,128] (by sl_kernel_rfl))]
    sl_unfold_words
    simp only [View.readAt_eq_ld, View.readCov_eq_canon', harg1.read_unread, harg2.read_unread, harg3.read_unread, harg4.read_unread]
    rfl
  isplitl [H5]
  · iexists _; isplitr; swap; · iexact H5
    ipureintro; rw [View.read_writes_eq_canon _ _ _ (View.cover_of_tiledL (s := S640x2048) _ ![128,2048] (by sl_kernel_rfl))]
    sl_unfold_words
    simp only [View.readAt_eq_ld, View.readCov_eq_canon', harg1.read_unread, harg2.read_unread, harg3.read_unread, harg4.read_unread]
    rfl
  iexists _; isplitr; swap; · iexact H6
  ipureintro; rw [View.read_writes_eq_canon _ _ _ (View.cover_of_tiledL (s := S1x640) _ ![1,128] (by sl_kernel_rfl))]
  sl_unfold_words
  simp only [View.readAt_eq_ld, View.readCov_eq_canon', harg1.read_unread, harg2.read_unread, harg3.read_unread, harg4.read_unread]
  rfl

end Cert.InProjIdeal.Hand

end
-- ==== Proof.InProjIdealRunB.lean ====
/- The body's run at a later grid point. -/
module

public import proofs.«01_k».proof.Proof.InProjIdealBody

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

set_option maxHeartbeats 4000000 in
/-- A later point: the products of its weight rows, from the codes and scales the first point left. -/
theorem run_B (c : Dev nD) (i : grid0.Coords) (arg1 : Memref sig .tc .vmem S640x2048 .bf16) (harg1 : arg1.IsWhole) (arg2 : Memref sig .tc .vmem S1x2048 .f32) (harg2 : arg2.IsWhole) (arg3 : Memref sig .tc .vmem S1024x2048 .fp8e4m3) (harg3 : arg3.IsWhole) (arg4 : Memref sig .tc .vmem S1x1024 .f32) (harg4 : arg4.IsWhole) (arg5 : Memref sig .tc .vmem S1024x640 .f32) (harg5 : arg5.IsWhole) (arg6 : Memref sig .tc .vmem S640x2048 .fp8e4m3) (harg6 : arg6.IsWhole) (arg7 : Memref sig .tc .vmem S1x640 .f32) (harg7 : arg7.IsWhole) (hc0 : ¬cond0_0 i)
    (x0 : Vec F S640x2048 .bf16) (x1 : Vec F S1x2048 .f32) (x2 : Vec F S1024x2048 .fp8e4m3) (x3 : Vec F S1x1024 .f32) (xc : Vec F S640x2048 .fp8e4m3) (xs : Vec F S1x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xc ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (pOut x2 x3 xc xs) ∗ owns (c : Thread nD τ) arg6 fullShare xc ∗ owns (c : Thread nD τ) arg7 fullShare xs) -∗ K ⟨⟩))
      ⊢ wp frame (wpE (defs₀ (F := F)) Variants.none c none) E (cc0_in_proj i arg1 harg1 arg2 harg2 arg3 harg3 arg4 harg4 arg5 harg5 arg6 harg6 arg7 harg7) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; rw [View.read_writes_eq_canon _ _ _ (View.cover_of_tiledL (s := S1024x640) _ ![128,128] (by sl_kernel_rfl))]
    sl_unfold_words
    simp only [View.readAt_eq_ld, View.readCov_eq_canon', harg1.read_unread, harg2.read_unread, harg3.read_unread, harg4.read_unread, harg6.read_unread, harg7.read_unread]
    rfl
  isplitl [H5]
  · iexists _; isplitr; · ipureintro; exact harg6.read_unread _
    iexact H5
  iexists _; isplitr; · ipureintro; exact harg7.read_unread _
  iexact H6

end Cert.InProjIdeal.Hand

end
-- ==== Proof.Spec.lean ====
/-
  The mathematics both sides of each value claim are read down to, one entry at a time, over the extended reals.
-/
module

public import Idealize.ShloMosaic.Lib.Pointwise

@[expose] public section

noncomputable section

namespace Cert.Spec

open Idealize.ShloMosaic
open scoped BigOperators

/-- The zero offsets of a two-axis rectangle, as the constant function. -/
theorem hz2 : (![0, 0] : Fin 2 → Nat) = fun _ => 0 := funext fun a => by fin_cases a <;> rfl
/-- The zero offsets of a three-axis rectangle, as the constant function. -/
theorem hz3 : (![0, 0, 0] : Fin 3 → Nat) = fun _ => 0 := funext fun a => by fin_cases a <;> rfl

/-- One entry of a scaled product of codes: the sum over the contracted axis, times the row's scale, times the column's. -/
def scaledDot {M K N : ℕ} (a : (⟨2, ![M, K]⟩ : Shape).Idx → EReal) (s : Fin M → EReal) (w : (⟨2, ![K, N]⟩ : Shape).Idx → EReal)
    (ws : (⟨1, ![N]⟩ : Shape).Idx → EReal) (b : Fin M) (j : Fin N) : EReal :=
  (∑ k : Fin K, a (ix2 b k) * w (ix2 k j)) * s b * ws (ix1 j)

/-- The largest absolute value of a row (minus infinity for no entries). -/
def rowMax {n : ℕ} (v : Fin n → EReal) : EReal :=
  Finset.fold max (Ideal.ofBits FTy.f32 0xFF800000#32) (fun k => FloatOps.absf (F := Ideal) (φ := .f32) (v k)) Finset.univ

/-- A row's scale: its largest absolute value over 448, and one for a row of zeros. -/
def qScale {n : ℕ} (v : Fin n → EReal) : EReal :=
  if rowMax v = 0 then 1 else Ideal.div (rowMax v) (Ideal.ofBits FTy.f32 0x43E00000#32)

/-- A row's codes: each entry over the row's scale, held between -448 and 448. -/
def qCode {n : ℕ} (v : Fin n → EReal) (k : Fin n) : EReal :=
  min (Ideal.ofBits FTy.f32 0x43E00000#32) (max (Ideal.ofBits FTy.f32 0xC3E00000#32) (Ideal.div (v k) (qScale v)))

/-- One entry of a row's quantised product with a matrix of codes: the codes' sum, times the row's scale, times the column's. -/
def quantDot {K N : ℕ} (v : Fin K → EReal) (w : (⟨2, ![K, N]⟩ : Shape).Idx → EReal) (ws : Fin N → EReal) (j : Fin N) : EReal :=
  (∑ k : Fin K, qCode v k * w (ix2 k j)) * qScale v * ws j

/-- A row of 2048 entries over the root of its mean square (plus the norm's constant), times the norm's weights. -/
def rmsNorm (v w : Fin 2048 → EReal) (j : Fin 2048) : EReal :=
  v j * Ideal.rsqrt (Ideal.div (∑ x, v x * v x) (Ideal.ofBits FTy.f32 0x45000000#32) + Ideal.ofBits FTy.f32 0x3727C5AC#32) * w j

/-- The gated product: the gate times its logistic function, times the other factor. -/
def siluMul (g v : EReal) : EReal := g * Ideal.div 1 (1 + Ideal.exp (0 - g)) * v

end Cert.Spec

end
-- ==== Proof.InProjTiles.lean ====
/-
  The tiles of products a point writes, read at an entry: the whole product there, times the column's scale, times the row's.
-/
module

public import proofs.«01_k».proof.Proof.InProjIdealBody
public import proofs.«01_k».proof.Proof.Spec

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open scoped BigOperators

variable (x2 : Vec Ideal S1024x2048 .fp8e4m3) (x3 : Vec Ideal S1x1024 .f32) (xc : Vec Ideal S640x2048 .fp8e4m3) (xs : Vec Ideal S1x640 .f32)

/-- The whole product of a point, at an entry: the sum over the contracted axis. -/
theorem pay25_at (r : Fin 1024) (b : Fin 640) : k0_pay25 x2 xc (ix2 r b) = ∑ k : Fin 2048, x2 (ix2 r k) * xc (ix2 b k) := by
  pointwise [k0_pay25]

/-- The product, scaled by its column and its row. -/
def scaled : Vec Ideal S1024x640 .f32 := fun y => k0_pay25 x2 xc y * xs (ix2 0 (y 1)) * x3 (ix2 0 (y 0))

/-- Two entries of the scaled product at the same row and column, by their parts. -/
theorem scaled_of (y : S1024x640.Idx) {i : S1024x640.Idx} {j : S1x640.Idx} {k : S1x1024.Idx} (hi : ∀ a, (i a).val = (y a).val)
    (hj : (j 1).val = (y 1).val) (hk : (k 1).val = (y 0).val) : k0_pay25 x2 xc i * xs j * x3 k = scaled x2 x3 xc xs y := by
  have ei : i = y := funext fun a => Fin.ext (hi a)
  have ej : j = ix2 0 (y 1) := funext fun a => by
    match a with
    | ⟨0, _⟩ => exact Subsingleton.elim (α := Fin 1) _ _
    | ⟨1, _⟩ => exact Fin.ext hj
  have ek : k = ix2 0 (y 0) := funext fun a => by
    match a with
    | ⟨0, _⟩ => exact Subsingleton.elim (α := Fin 1) _ _
    | ⟨1, _⟩ => exact Fin.ext hk
  unfold scaled
  rw [ei, ej, ek]
  rfl

/-- The forty tiles, read back: each entry is the scaled product's. -/
theorem pTiles_at (y : S1024x640.Idx) : pTiles x2 x3 xc xs y = scaled x2 x3 xc xs y := by
  unfold pTiles
  refine View.canon_apply_of_pieces (scaled x2 x3 xc xs) _ ?_ y
    (View.cover_of_tiledL (s := S1024x640) _ ![128, 128] (by sl_kernel_rfl) y)
  intro pc hpc
  simp only [List.mem_cons, List.mem_nil_iff, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro x
  · idx_vars x
    pointwise [k0_pay1, k0_pay74]
    exact scaled_of x2 x3 xc xs _ (fun a => by match a with | ⟨0, _⟩ => show 896 + x0.val = 896 + 1 * x0.val; omega | ⟨1, _⟩ => show 512 + x1.val = 512 + 1 * x1.val; omega) (by show 512 + x1.val = 512 + 1 * x1.val; omega) (by show 896 + x0.val = 896 + 1 * x0.val; omega)
  · idx_vars x
    pointwise [k0_pay78, k0_pay74]
    exact scaled_of x2 x3 xc xs _ (fun a => by match a with | ⟨0, _⟩ => show 896 + x0.val = 896 + 1 * x0.val; omega | ⟨1, _⟩ => show 384 + x1.val = 384 + 1 * x1.val; omega) (by show 384 + x1.val = 384 + 1 * x1.val; omega) (by show 896 + x0.val = 896 + 1 * x0.val; omega)
  · idx_vars x
    pointwise [k0_pay77, k0_pay74]
    exact scaled_of x2 x3 xc xs _ (fun a => by match a with | ⟨0, _⟩ => show 896 + x0.val = 896 + 1 * x0.val; omega | ⟨1, _⟩ => show 256 + x1.val = 256 + 1 * x1.val; omega) (by show 256 + x1.val = 256 + 1 * x1.val; omega) (by show 896 + x0.val = 896 + 1 * x0.val; omega)
  · idx_vars x
    pointwise [k0_pay76, k0_pay74]
    exact scaled_of x2 x3 xc xs _ (fun a => by match a with | ⟨0, _⟩ => show 896 + x0.val = 896 + 1 * x0.val; omega | ⟨1, _⟩ => show 128 + x1.val = 128 + 1 * x1.val; omega) (by show 128 + x1.val = 128 + 1 * x1.val; omega) (by show 896 + x0.val = 896 + 1 * x0.val; omega)
  · idx_vars x
    pointwise [k0_pay75, k0_pay74]
    exact scaled_of x2 x3 xc xs _ (fun a => by match a with | ⟨0, _⟩ => show 896 + x0.val = 896 + 1 * x0.val; omega | ⟨1, _⟩ => show x1.val = 0 + 1 * x1.val; omega) (by show x1.val = 0 + 1 * x1.val; omega) (by show 896 + x0.val = 896 + 1 * x0.val; omega)
  · idx_vars x
    pointwise [k0_pay73, k0_pay66, k0_pay71, k0_pay72]
    exact scaled_of x2 x3 xc xs _ (fun a => by match a with | ⟨0, _⟩ => show 768 + x0.val = 768 + 1 * x0.val; omega | ⟨1, _⟩ => show 512 + x1.val = 512 + 1 * x1.val; omega) (by show 512 + x1.val = 512 + 1 * x1.val; omega) (by show 768 + x0.val = 768 + 1 * x0.val; omega)
  · idx_vars x
    pointwise [k0_pay70, k0_pay66]
    exact scaled_of x2 x3 xc xs _ (fun a => by match a with | ⟨0, _⟩ => show 768 + x0.val = 768 + 1 * x0.val; omega | ⟨1, _⟩ => show 384 + x1.val = 384 + 1 * x1.val; omega) (by show 384 + x1.val = 384 + 1 * x1.val; omega) (by show 768 + x0.val = 768 + 1 * x0.val; omega)
  · idx_vars x
    pointwise [k0_pay69, k0_pay66]
    exact scaled_of x2 x3 xc xs _ (fun a => by match a with | ⟨0, _⟩ => show 768 + x0.val = 768 + 1 * x0.val; omega | ⟨1, _⟩ => show 256 + x1.val = 256 + 1 * x1.val; omega) (by show 256 + x1.val = 256 + 1 * x1.val; omega) (by show 768 + x0.val = 768 + 1 * x0.val; omega)
  · idx_vars x
    pointwise [k0_pay68, k0_pay66]
    exact scaled_of x2 x3 xc xs _ (fun a => by match a with | ⟨0, _⟩ => show 768 + x0.val = 768 + 1 * x0.val; omega | ⟨1, _⟩ => show 128 + x1.val = 128 + 1 * x1.val; omega) (by show 128 + x1.val = 128 + 1 * x1.val; omega) (by show 768 + x0.val = 768 + 1 * x0.val; omega)
  · idx_vars x
    pointwise [k0_pay67, k0_pay66]
    exact scaled_of x2 x3 xc xs _ (fun a => by match a with | ⟨0, _⟩ => show 768 + x0.val = 768 + 1 * x0.val; omega | ⟨1, _⟩ => show x1.val = 0 + 1 * x1.val; omega) (by show x1.val = 0 + 1 * x1.val; omega) (by show 768 + x0.val = 768 + 1 * x0.val; omega)
  · idx_vars x
    pointwise [k0_pay65, k0_pay59]
    exact scaled_of x2 x3 xc xs _ (fun a => by match a with | ⟨0, _⟩ => show 640 + x0.val = 640 + 1 * x0.val; omega | ⟨1, _⟩ => show 512 + x1.val = 512 + 1 * x1.val; omega) (by show 512 + x1.val = 512 + 1 * x1.val; omega) (by show 640 + x0.val = 640 + 1 * x0.val; omega)
  · idx_vars x
    pointwise [k0_pay64, k0_pay59]
    exact scaled_of x2 x3 xc xs _ (fun a => by match a with | ⟨0, _⟩ => show 640 + x0.val = 640 + 1 * x0.val; omega | ⟨1, _⟩ => show 384 + x1.val = 384 + 1 * x1.val; omega) (by show 384 + x1.val = 384 + 1 * x1.val; omega) (by show 640 + x0.val = 640 + 1 * x0.val; omega)
  · idx_vars x
    pointwise [k0_pay63, k0_pay59]
    exact scaled_of x2 x3 xc xs _ (fun a => by match a with | ⟨0, _⟩ => show 640 + x0.val = 640 + 1 * x0.val; omega | ⟨1, _⟩ => show 256 + x1.val = 256 + 1 * x1.val; omega) (by show 256 + x1.val = 256 + 1 * x1.val; omega) (by show 640 + x0.val = 640 + 1 * x0.val; omega)
  · idx_vars x
    pointwise [k0_pay62, k0_pay59]
    exact scaled_of x2 x3 xc xs _ (fun a => by match a with | ⟨0, _⟩ => show 640 + x0.val = 640 + 1 * x0.val; omega | ⟨1, _⟩ => show 128 + x1.val = 128 + 1 * x1.val; omega) (by show 128 + x1.val = 128 + 1 * x1.val; omega) (by show 640 + x0.val = 640 + 1 * x0.val; omega)
  · idx_vars x
    pointwise [k0_pay61, k0_pay59, k0_pay60]
    exact scaled_of x2 x3 xc xs _ (fun a => by match a with | ⟨0, _⟩ => show 640 + x0.val = 640 + 1 * x0.val; omega | ⟨1, _⟩ => show x1.val = 0 + 1 * x1.val; omega) (by show x1.val = 0 + 1 * x1.val; omega) (by show 640 + x0.val = 640 + 1 * x0.val; omega)
  · idx_vars x
    pointwise [k0_pay58, k0_pay53]
    exact scaled_of x2 x3 xc xs _ (fun a => by match a with | ⟨0, _⟩ => show 512 + x0.val = 512 + 1 * x0.val; omega | ⟨1, _⟩ => show 512 + x1.val = 512 + 1 * x1.val; omega) (by show 512 + x1.val = 512 + 1 * x1.val; omega) (by show 512 + x0.val = 512 + 1 * x0.val; omega)
  · idx_vars x
    pointwise [k0_pay57, k0_pay53]
    exact scaled_of x2 x3 xc xs _ (fun a => by match a with | ⟨0, _⟩ => show 512 + x0.val = 512 + 1 * x0.val; omega | ⟨1, _⟩ => show 384 + x1.val = 384 + 1 * x1.val; omega) (by show 384 + x1.val = 384 + 1 * x1.val; omega) (by show 512 + x0.val = 512 + 1 * x0.val; omega)
  · idx_vars x
    pointwise [k0_pay56, k0_pay53]
    exact scaled_of x2 x3 xc xs _ (fun a => by match a with | ⟨0, _⟩ => show 512 + x0.val = 512 + 1 * x0.val; omega | ⟨1, _⟩ => show 256 + x1.val = 256 + 1 * x1.val; omega) (by show 256 + x1.val = 256 + 1 * x1.val; omega) (by show 512 + x0.val = 512 + 1 * x0.val; omega)
  · idx_vars x
    pointwise [k0_pay55, k0_pay53]
    exact scaled_of x2 x3 xc xs _ (fun a => by match a with | ⟨0, _⟩ => show 512 + x0.val = 512 + 1 * x0.val; omega | ⟨1, _⟩ => show 128 + x1.val = 128 + 1 * x1.val; omega) (by show 128 + x1.val = 128 + 1 * x1.val; omega) (by show 512 + x0.val = 512 + 1 * x0.val; omega)
  · idx_vars x
    pointwise [k0_pay54, k0_pay53]
    exact scaled_of x2 x3 xc xs _ (fun a => by match a with | ⟨0, _⟩ => show 512 + x0.val = 512 + 1 * x0.val; omega | ⟨1, _⟩ => show x1.val = 0 + 1 * x1.val; omega) (by show x1.val = 0 + 1 * x1.val; omega) (by show 512 + x0.val = 512 + 1 * x0.val; omega)
  · idx_vars x
    pointwise [k0_pay52, k0_pay46]
    exact scaled_of x2 x3 xc xs _ (fun a => by match a with | ⟨0, _⟩ => show 384 + x0.val = 384 + 1 * x0.val; omega | ⟨1, _⟩ => show 512 + x1.val = 512 + 1 * x1.val; omega) (by show 512 + x1.val = 512 + 1 * x1.val; omega) (by show 384 + x0.val = 384 + 1 * x0.val; omega)
  · idx_vars x
    pointwise [k0_pay51, k0_pay46]
    exact scaled_of x2 x3 xc xs _ (fun a => by match a with | ⟨0, _⟩ => show 384 + x0.val = 384 + 1 * x0.val; omega | ⟨1, _⟩ => show 384 + x1.val = 384 + 1 * x1.val; omega) (by show 384 + x1.val = 384 + 1 * x1.val; omega) (by show 384 + x0.val = 384 + 1 * x0.val; omega)
  · idx_vars x
    pointwise [k0_pay50, k0_pay46]
    exact scaled_of x2 x3 xc xs _ (fun a => by match a with | ⟨0, _⟩ => show 384 + x0.val = 384 + 1 * x0.val; omega | ⟨1, _⟩ => show 256 + x1.val = 256 + 1 * x1.val; omega) (by show 256 + x1.val = 256 + 1 * x1.val; omega) (by show 384 + x0.val = 384 + 1 * x0.val; omega)
  · idx_vars x
    pointwise [k0_pay49, k0_pay46, k0_pay48]
    exact scaled_of x2 x3 xc xs _ (fun a => by match a with | ⟨0, _⟩ => show 384 + x0.val = 384 + 1 * x0.val; omega | ⟨1, _⟩ => show 128 + x1.val = 128 + 1 * x1.val; omega) (by show 128 + x1.val = 128 + 1 * x1.val; omega) (by show 384 + x0.val = 384 + 1 * x0.val; omega)
  · idx_vars x
    pointwise [k0_pay47, k0_pay46]
    exact scaled_of x2 x3 xc xs _ (fun a => by match a with | ⟨0, _⟩ => show 384 + x0.val = 384 + 1 * x0.val; omega | ⟨1, _⟩ => show x1.val = 0 + 1 * x1.val; omega) (by show x1.val = 0 + 1 * x1.val; omega) (by show 384 + x0.val = 384 + 1 * x0.val; omega)
  · idx_vars x
    pointwise [k0_pay45, k0_pay40]
    exact scaled_of x2 x3 xc xs _ (fun a => by match a with | ⟨0, _⟩ => show 256 + x0.val = 256 + 1 * x0.val; omega | ⟨1, _⟩ => show 512 + x1.val = 512 + 1 * x1.val; omega) (by show 512 + x1.val = 512 + 1 * x1.val; omega) (by show 256 + x0.val = 256 + 1 * x0.val; omega)
  · idx_vars x
    pointwise [k0_pay44, k0_pay40]
    exact scaled_of x2 x3 xc xs _ (fun a => by match a with | ⟨0, _⟩ => show 256 + x0.val = 256 + 1 * x0.val; omega | ⟨1, _⟩ => show 384 + x1.val = 384 + 1 * x1.val; omega) (by show 384 + x1.val = 384 + 1 * x1.val; omega) (by show 256 + x0.val = 256 + 1 * x0.val; omega)
  · idx_vars x
    pointwise [k0_pay43, k0_pay40]
    exact scaled_of x2 x3 xc xs _ (fun a => by match a with | ⟨0, _⟩ => show 256 + x0.val = 256 + 1 * x0.val; omega | ⟨1, _⟩ => show 256 + x1.val = 256 + 1 * x1.val; omega) (by show 256 + x1.val = 256 + 1 * x1.val; omega) (by show 256 + x0.val = 256 + 1 * x0.val; omega)
  · idx_vars x
    pointwise [k0_pay42, k0_pay40]
    exact scaled_of x2 x3 xc xs _ (fun a => by match a with | ⟨0, _⟩ => show 256 + x0.val = 256 + 1 * x0.val; omega | ⟨1, _⟩ => show 128 + x1.val = 128 + 1 * x1.val; omega) (by show 128 + x1.val = 128 + 1 * x1.val; omega) (by show 256 + x0.val = 256 + 1 * x0.val; omega)
  · idx_vars x
    pointwise [k0_pay41, k0_pay40]
    exact scaled_of x2 x3 xc xs _ (fun a => by match a with | ⟨0, _⟩ => show 256 + x0.val = 256 + 1 * x0.val; omega | ⟨1, _⟩ => show x1.val = 0 + 1 * x1.val; omega) (by show x1.val = 0 + 1 * x1.val; omega) (by show 256 + x0.val = 256 + 1 * x0.val; omega)
  · idx_vars x
    pointwise [k0_pay39, k0_pay32]
    exact scaled_of x2 x3 xc xs _ (fun a => by match a with | ⟨0, _⟩ => show 128 + x0.val = 128 + 1 * x0.val; omega | ⟨1, _⟩ => show 512 + x1.val = 512 + 1 * x1.val; omega) (by show 512 + x1.val = 512 + 1 * x1.val; omega) (by show 128 + x0.val = 128 + 1 * x0.val; omega)
  · idx_vars x
    pointwise [k0_pay38, k0_pay32]
    exact scaled_of x2 x3 xc xs _ (fun a => by match a with | ⟨0, _⟩ => show 128 + x0.val = 128 + 1 * x0.val; omega | ⟨1, _⟩ => show 384 + x1.val = 384 + 1 * x1.val; omega) (by show 384 + x1.val = 384 + 1 * x1.val; omega) (by show 128 + x0.val = 128 + 1 * x0.val; omega)
  · idx_vars x
    pointwise [k0_pay37, k0_pay32, k0_pay35, k0_pay36]
    exact scaled_of x2 x3 xc xs _ (fun a => by match a with | ⟨0, _⟩ => show 128 + x0.val = 128 + 1 * x0.val; omega | ⟨1, _⟩ => show 256 + x1.val = 256 + 1 * x1.val; omega) (by show 256 + x1.val = 256 + 1 * x1.val; omega) (by show 128 + x0.val = 128 + 1 * x0.val; omega)
  · idx_vars x
    pointwise [k0_pay34, k0_pay32]
    exact scaled_of x2 x3 xc xs _ (fun a => by match a with | ⟨0, _⟩ => show 128 + x0.val = 128 + 1 * x0.val; omega | ⟨1, _⟩ => show 128 + x1.val = 128 + 1 * x1.val; omega) (by show 128 + x1.val = 128 + 1 * x1.val; omega) (by show 128 + x0.val = 128 + 1 * x0.val; omega)
  · idx_vars x
    pointwise [k0_pay33, k0_pay32]
    exact scaled_of x2 x3 xc xs _ (fun a => by match a with | ⟨0, _⟩ => show 128 + x0.val = 128 + 1 * x0.val; omega | ⟨1, _⟩ => show x1.val = 0 + 1 * x1.val; omega) (by show x1.val = 0 + 1 * x1.val; omega) (by show 128 + x0.val = 128 + 1 * x0.val; omega)
  · idx_vars x
    pointwise [k0_pay31, k0_pay26]
    exact scaled_of x2 x3 xc xs _ (fun a => by match a with | ⟨0, _⟩ => show x0.val = 0 + 1 * x0.val; omega | ⟨1, _⟩ => show 512 + x1.val = 512 + 1 * x1.val; omega) (by show 512 + x1.val = 512 + 1 * x1.val; omega) (by show x0.val = 0 + 1 * x0.val; omega)
  · idx_vars x
    pointwise [k0_pay30, k0_pay26]
    exact scaled_of x2 x3 xc xs _ (fun a => by match a with | ⟨0, _⟩ => show x0.val = 0 + 1 * x0.val; omega | ⟨1, _⟩ => show 384 + x1.val = 384 + 1 * x1.val; omega) (by show 384 + x1.val = 384 + 1 * x1.val; omega) (by show x0.val = 0 + 1 * x0.val; omega)
  · idx_vars x
    pointwise [k0_pay29, k0_pay26]
    exact scaled_of x2 x3 xc xs _ (fun a => by match a with | ⟨0, _⟩ => show x0.val = 0 + 1 * x0.val; omega | ⟨1, _⟩ => show 256 + x1.val = 256 + 1 * x1.val; omega) (by show 256 + x1.val = 256 + 1 * x1.val; omega) (by show x0.val = 0 + 1 * x0.val; omega)
  · idx_vars x
    pointwise [k0_pay28, k0_pay26]
    exact scaled_of x2 x3 xc xs _ (fun a => by match a with | ⟨0, _⟩ => show x0.val = 0 + 1 * x0.val; omega | ⟨1, _⟩ => show 128 + x1.val = 128 + 1 * x1.val; omega) (by show 128 + x1.val = 128 + 1 * x1.val; omega) (by show x0.val = 0 + 1 * x0.val; omega)
  · idx_vars x
    pointwise [k0_pay27, k0_pay26]
    exact scaled_of x2 x3 xc xs _ (fun a => by match a with | ⟨0, _⟩ => show x0.val = 0 + 1 * x0.val; omega | ⟨1, _⟩ => show x1.val = 0 + 1 * x1.val; omega) (by show x1.val = 0 + 1 * x1.val; omega) (by show x0.val = 0 + 1 * x0.val; omega)

end Cert.InProjIdeal.Hand

end
-- ==== Proof.InProjIdealFrame.lean ====
/-
  The frame of the input projection call with every output's final contents named. The blocks of weights, of scales and of
  products that reach past the array's end are stated on the part inside it: an entry of the products there depends on that part
  of the weights and scales alone.
-/
module

public import proofs.«01_k».proof.Proof.InProjIdealRunA
public import proofs.«01_k».proof.Proof.InProjIdealRunB
public import proofs.«01_k».proof.Proof.InProjTiles
public import Idealize.ShloMosaic.Lib.Pointwise
public import Idealize.ShloMosaic.Lib.Claim

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The named contents -/

/-- The weight rows of point `t` as the point finds them: its block, filled out past the array's end with `d`. -/
def wAt (c : Dev nD) (t : Fin cfg0.N) (d : Vec Ideal S1024x2048 .fp8e4m3) : Vec Ideal S1024x2048 .fp8e4m3 :=
  win0_2.fill (grid0.coords t) d (iblk m c 2 t)

/-- The weight scales of point `t` likewise. -/
def sAt (c : Dev nD) (t : Fin cfg0.N) (d : Vec Ideal S1x1024 .f32) : Vec Ideal S1x1024 .f32 :=
  win0_3.fill (grid0.coords t) d (iblk m c 3 t)

/-- The word that fills the weight rows out past the array's end where one has to be named. -/
def fill2 : Vec Ideal S1024x2048 .fp8e4m3 := fun _ => (0 : EReal)

/-- The word that fills the weight scales out likewise. -/
def fill3 : Vec Ideal S1x1024 .f32 := fun _ => (0 : EReal)

/-- The activation codes, as the first point makes them. -/
def codesAt (c : Dev nD) : Vec Ideal S640x2048 .fp8e4m3 := codesOf (iblk m c 0 t0_0) (iblk m c 1 t0_0)

/-- The activation scales, as the first point makes them. -/
def scalesAt (c : Dev nD) : Vec Ideal S1x640 .f32 := scalesOf (iblk m c 0 t0_0) (iblk m c 1 t0_0)

/-- The products of point `t`. -/
def pAt (c : Dev nD) (t : Fin cfg0.N) : Vec Ideal S1024x640 .f32 := pOut (wAt m c t fill2) (sAt m c t fill3) (codesAt m c) (scalesAt m c)

/-- The proof data: each input's buffer at its block, the products at the point's, the codes and scales at what the first point
    makes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wAt m c t fill2
    | ⟨3, _⟩ => sAt m c t fill3
    | ⟨4, _⟩ => pAt m c t
    | ⟨5, _⟩ => codesAt m c
    | ⟨6, _⟩ => scalesAt m c
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- What window 0's buffer holds after point `t`. -/
theorem after0_0 (c : Dev nD) (t : Fin cfg0.N) : (dats m 0 c).after 0 t = iblk m c 0 t := by dsimp only [dats]
/-- What window 1's buffer holds after point `t`. -/
theorem after0_1 (c : Dev nD) (t : Fin cfg0.N) : (dats m 0 c).after 1 t = iblk m c 1 t := by dsimp only [dats]
/-- What window 2's buffer holds after point `t`. -/
theorem after0_2 (c : Dev nD) (t : Fin cfg0.N) : (dats m 0 c).after 2 t = wAt m c t fill2 := by dsimp only [dats]
/-- What window 3's buffer holds after point `t`. -/
theorem after0_3 (c : Dev nD) (t : Fin cfg0.N) : (dats m 0 c).after 3 t = sAt m c t fill3 := by dsimp only [dats]
/-- What window 4's buffer holds after point `t`. -/
theorem after0_4 (c : Dev nD) (t : Fin cfg0.N) : (dats m 0 c).after 4 t = pAt m c t := by dsimp only [dats]
/-- What window 5's buffer holds after point `t`. -/
theorem after0_5 (c : Dev nD) (t : Fin cfg0.N) : (dats m 0 c).after 5 t = codesAt m c := by dsimp only [dats]
/-- What window 6's buffer holds after point `t`. -/
theorem after0_6 (c : Dev nD) (t : Fin cfg0.N) : (dats m 0 c).after 6 t = scalesAt m c := by dsimp only [dats]

/-- Input window 0's buffer holds its block at every point. -/
theorem before0_0 (c : Dev nD) (t : Fin cfg0.N) (d) : (dats m 0 c).before 0 t d = iblk m c 0 t :=
  before0_0_of m (dats m 0 c) (A_eq m c 0) (after0_0 m c) t d
/-- Input window 1's buffer holds its block at every point. -/
theorem before0_1 (c : Dev nD) (t : Fin cfg0.N) (d) : (dats m 0 c).before 1 t d = iblk m c 1 t :=
  before0_1_of m (dats m 0 c) (A_eq m c 1) (after0_1 m c) t d
/-- Window 2's buffer was just fetched: the block, and past the array's end what was there. -/
theorem before0_2 (c : Dev nD) (t : Fin cfg0.N) (d) : (dats m 0 c).before 2 t d = wAt m c t d := by
  unfold Dat.before; rw [if_pos (fetch0_2 t)]; rfl
/-- Window 3's buffer likewise. -/
theorem before0_3 (c : Dev nD) (t : Fin cfg0.N) (d) : (dats m 0 c).before 3 t d = sAt m c t d := by
  unfold Dat.before; rw [if_pos (fetch0_3 t)]; rfl

/-- Filled out with anything, window 2's rows inside the array are its block's. -/
theorem wAt_eq (c : Dev nD) (t : Fin cfg0.N) (d) : win0_2.fill (grid0.coords t) d (win0_2.cut (grid0.coords t) (wAt m c t fill2)) = wAt m c t d :=
  congrArg (win0_2.fill (grid0.coords t) d) (win0_2.cut_fill _ _ _)
/-- Window 3's likewise. -/
theorem sAt_eq (c : Dev nD) (t : Fin cfg0.N) (d) : win0_3.fill (grid0.coords t) d (win0_3.cut (grid0.coords t) (sAt m c t fill3)) = sAt m c t d :=
  congrArg (win0_3.fill (grid0.coords t) d) (win0_3.cut_fill _ _ _)

/-- A buffer of weight rows at a point's contents is one stated on the rows inside the array. -/
theorem wAt_owns (c : Dev nD) (t : Fin cfg0.N) (d) : (owns (c : Thread nD τ) (ms0_2 t) fullShare (wAt m c t d) : sProp 𝕄)
    ⊢ owns (c : Thread nD τ) (ms0_2 t) fullShare (win0_2.fill (grid0.coords t) d (win0_2.cut (grid0.coords t) ((dats m 0 c).after 2 t))) :=
  Entails.of_eq (congrArg (owns (c : Thread nD τ) (ms0_2 t) fullShare) (wAt_eq m c t d).symm)
/-- A buffer of weight scales likewise. -/
theorem sAt_owns (c : Dev nD) (t : Fin cfg0.N) (d) : (owns (c : Thread nD τ) (ms0_3 t) fullShare (sAt m c t d) : sProp 𝕄)
    ⊢ owns (c : Thread nD τ) (ms0_3 t) fullShare (win0_3.fill (grid0.coords t) d (win0_3.cut (grid0.coords t) ((dats m 0 c).after 3 t))) :=
  Entails.of_eq (congrArg (owns (c : Thread nD τ) (ms0_3 t) fullShare) (sAt_eq m c t d).symm)

/-- How many of a point's weight rows lie inside the array. -/
theorem rows_in (t : Fin cfg0.N) : win0_2.xsize (grid0.coords t) 0 = win0_4.xsize (grid0.coords t) 0 ∧ win0_2.xsize (grid0.coords t) 1 = 2048
    ∧ win0_3.xsize (grid0.coords t) 0 = 1 ∧ win0_3.xsize (grid0.coords t) 1 = win0_4.xsize (grid0.coords t) 0
    ∧ win0_4.xsize (grid0.coords t) 0 = min 1024 (8416 - 1024 * t.val) ∧ win0_4.xsize (grid0.coords t) 1 = 640 := by
  rcases fin_N0 t with rfl | rfl | rfl | rfl | rfl | rfl | rfl | rfl | rfl <;> decide +kernel

/-- A weight row inside the array is the block's, whatever fills the rest. -/
theorem wAt_in (c : Dev nD) (t : Fin cfg0.N) (d : Vec Ideal S1024x2048 .fp8e4m3) (r : Fin 1024) (k : Fin 2048) (hr : r.val < min 1024 (8416 - 1024 * t.val)) :
    wAt m c t d (ix2 r k) = wAt m c t fill2 (ix2 r k) := by
  have hx := rows_in t
  have hm : win0_2.moved (grid0.coords t) (ix2 r k) = true := (win0_2.moved_iff _ _).mpr fun a => by
    match a with
    | ⟨0, _⟩ => show r.val < win0_2.xsize (grid0.coords t) 0; rw [hx.1, hx.2.2.2.2.1]; exact hr
    | ⟨1, _⟩ => show k.val < win0_2.xsize (grid0.coords t) 1; rw [hx.2.1]; exact k.isLt
  unfold wAt Window.fill
  rw [dif_pos hm, dif_pos hm]

/-- A weight scale inside the array likewise. -/
theorem sAt_in (c : Dev nD) (t : Fin cfg0.N) (d : Vec Ideal S1x1024 .f32) (r : Fin 1024) (hr : r.val < min 1024 (8416 - 1024 * t.val)) :
    sAt m c t d (ix2 0 r) = sAt m c t fill3 (ix2 0 r) := by
  have hx := rows_in t
  have hm : win0_3.moved (grid0.coords t) (ix2 0 r) = true := (win0_3.moved_iff _ _).mpr fun a => by
    match a with
    | ⟨0, _⟩ => show 0 < win0_3.xsize (grid0.coords t) 0; rw [hx.2.2.1]; exact Nat.one_pos
    | ⟨1, _⟩ => show r.val < win0_3.xsize (grid0.coords t) 1; rw [hx.2.2.2.1, hx.2.2.2.2.1]; exact hr
  unfold sAt Window.fill
  rw [dif_pos hm, dif_pos hm]

/-- A point's product at an entry: the row of weights times the row of codes, the column's scale, the row's scale. -/
theorem pOut_at (x2 : Vec Ideal S1024x2048 .fp8e4m3) (x3 : Vec Ideal S1x1024 .f32) (xc : Vec Ideal S640x2048 .fp8e4m3) (xs : Vec Ideal S1x640 .f32)
    (y : S1024x640.Idx) : pOut x2 x3 xc xs y = (∑ k : Fin 2048, x2 (ix2 (y 0) k) * xc (ix2 (y 1) k)) * xs (ix2 0 (y 1)) * x3 (ix2 0 (y 0)) := by
  rw [pOut_eq, pTiles_at]
  unfold scaled
  exact congrArg (fun z : EReal => z * xs (ix2 0 (y 1)) * x3 (ix2 0 (y 0))) ((congrArg (k0_pay25 x2 xc) (eq_ix2 y)).trans (pay25_at x2 xc (y 0) (y 1)))

/-- On the rows inside the array the products do not depend on what fills the weights and scales out. -/
theorem pOut_in (c : Dev nD) (t : Fin cfg0.N) (d2 : Vec Ideal S1024x2048 .fp8e4m3) (d3 : Vec Ideal S1x1024 .f32) :
    win0_4.cut (grid0.coords t) (pOut (wAt m c t d2) (sAt m c t d3) (codesAt m c) (scalesAt m c)) = win0_4.cut (grid0.coords t) (pAt m c t) := by
  funext j
  have hx := rows_in t
  have hr : (win0_4.xinj (grid0.coords t) j 0).val < min 1024 (8416 - 1024 * t.val) := by
    show (j 0).val < _
    rw [← hx.2.2.2.2.1]; exact (j 0).isLt
  unfold pAt
  refine (pOut_at _ _ _ _ (win0_4.xinj (grid0.coords t) j)).trans (.trans ?_ (pOut_at _ _ _ _ (win0_4.xinj (grid0.coords t) j)).symm)
  rw [sAt_in m c t d3 _ hr]
  exact congrArg (fun z : EReal => z * _ * _) (Finset.sum_congr rfl fun k _ => congrArg (· * _) (wAt_in m c t d2 _ k hr))

/-- A buffer of products at a point's contents is one stated on the rows inside the array. -/
theorem pAt_owns (c : Dev nD) (t : Fin cfg0.N) (d2 d3) :
    (owns (c : Thread nD τ) (ms0_4 t) fullShare (pOut (wAt m c t d2) (sAt m c t d3) (codesAt m c) (scalesAt m c)) : sProp 𝕄)
    ⊢ owns (c : Thread nD τ) (ms0_4 t) fullShare (win0_4.fill (grid0.coords t) (pOut (wAt m c t d2) (sAt m c t d3) (codesAt m c) (scalesAt m c))
      (win0_4.cut (grid0.coords t) ((dats m 0 c).after 4 t))) :=
  Entails.of_eq (congrArg (owns (c : Thread nD τ) (ms0_4 t) fullShare) (win0_4.fill_congr_cut (grid0.coords t) (pOut_in m c t d2 d3)).symm)

/-- Window 5 is idle after the first point. -/
theorem idle_5 (t : Fin cfg0.N) (h : ¬t.val % 9 = 0) : cfg0.idle 5 (cfg0.grid.coords t) = true := by
  show (!(k0_cond1 (grid0.coords t) == 1#1)) = true
  have hne : ¬k0_cond1 (grid0.coords t) = 1#1 := fun hc => h ((hcond0_0 t).mp hc)
  simp [hne]

/-- Window 5 is live at the first point. -/
theorem live_5 (t : Fin cfg0.N) (h : t.val % 9 = 0) : cfg0.idle 5 (cfg0.grid.coords t) = false := by
  show (!(k0_cond1 (grid0.coords t) == 1#1)) = false
  have he : k0_cond1 (grid0.coords t) = 1#1 := (hcond0_0 t).mpr h
  simp [he]

/-- After a point that is not the last, if window 5's buffer is left at the codes there, the next point finds them. -/
theorem next_5 (c : Dev nD) (t : Fin cfg0.N) (ht : t.val ≠ 0) (d)
    (hl : (dats m 0 c).left 5 ⟨t.val - 1, Nat.lt_of_le_of_lt (Nat.sub_le _ _) t.isLt⟩ d = codesAt m c) : (dats m 0 c).before 5 t d = codesAt m c := by
  have hf : ¬(cfg0.win 5).flush ⟨t.val - 1, Nat.lt_of_le_of_lt (Nat.sub_le _ _) t.isLt⟩ = true := fun h => by
    have h8 : (t.val - 1) % 9 = 8 := (flush0_5 _).mp h
    have := Nat.lt_of_lt_of_eq t.isLt N_0
    omega
  rw [(dats m 0 c).before_of_pos 5 t ht rfl d, if_neg hf]
  exact hl

/-- At the first point window 5's buffer is left at the codes. -/
theorem left_5 (c : Dev nD) (t : Fin cfg0.N) (ht : t.val % 9 = 0) (d) : (dats m 0 c).left 5 t d = codesAt m c := by
  unfold Dat.left
  rw [live_5 t ht]
  unfold Dat.kept
  rw [after0_5]
  generalize codesAt m c = X
  rfl

/-- After the first point window 5's buffer holds the codes that point made. -/
theorem before0_5 (c : Dev nD) : ∀ (n : ℕ) (hn : n + 1 < cfg0.N) (d), (dats m 0 c).before 5 ⟨n + 1, hn⟩ d = codesAt m c := by
  intro n
  induction n with
  | zero => exact fun hn d => next_5 m c _ (Nat.succ_ne_zero _) d (left_5 m c _ rfl d)
  | succ n ih =>
    intro hn d
    have hN : cfg0.N = 9 := N_0
    refine next_5 m c _ (Nat.succ_ne_zero _) d ?_
    unfold Dat.left
    rw [idle_5 _ (by show ¬(n + 1 + 1 - 1) % 9 = 0; omega)]
    exact ih (Nat.lt_of_succ_lt hn) d

/-- The same, at a point that is not the first. -/
theorem before0_5' (c : Dev nD) (t : Fin cfg0.N) (ht : ¬t.val % 9 = 0) (d) : (dats m 0 c).before 5 t d = codesAt m c := by
  obtain ⟨n, hn⟩ := t
  cases n with
  | zero => exact absurd rfl ht
  | succ n => exact before0_5 m c n hn d

/-- At the first point window 5's buffer is left at the codes made there. -/
theorem leaves_5_first (c : Dev nD) (t : Fin cfg0.N) (h : t.val % 9 = 0) :
    (dats m 0 c).leaves 5 t = owns (c : Thread nD τ) (ms0_5 t) fullShare (codesAt m c) := by
  unfold Dat.leaves
  rw [live_5 t h, after0_5]

/-- At a later point the codes are handed back. -/
theorem leaves_5 (c : Dev nD) (t : Fin cfg0.N) (h : ¬t.val % 9 = 0) :
    owns (c : Thread nD τ) (ms0_5 t) fullShare (codesAt m c) ⊢ (dats m 0 c).leaves 5 t := by
  cases hf : (cfg0.win 5).flush t with
  | false =>
    rw [(dats m 0 c).leaves_idle 5 t (idle_5 t h) hf]
    simp only [before0_5' m c t h]
    iintro H; iexists (codesAt m c); iexact H
  | true =>
    unfold Dat.leaves
    rw [idle_5 t h, hf, after0_5]
    try exact .rfl

/-- Window 6 is idle after the first point. -/
theorem idle_6 (t : Fin cfg0.N) (h : ¬t.val % 9 = 0) : cfg0.idle 6 (cfg0.grid.coords t) = true := by
  show (!(k0_cond1 (grid0.coords t) == 1#1)) = true
  have hne : ¬k0_cond1 (grid0.coords t) = 1#1 := fun hc => h ((hcond0_0 t).mp hc)
  simp [hne]

/-- Window 6 is live at the first point. -/
theorem live_6 (t : Fin cfg0.N) (h : t.val % 9 = 0) : cfg0.idle 6 (cfg0.grid.coords t) = false := by
  show (!(k0_cond1 (grid0.coords t) == 1#1)) = false
  have he : k0_cond1 (grid0.coords t) = 1#1 := (hcond0_0 t).mpr h
  simp [he]

/-- After a point that is not the last, if window 6's buffer is left at the scales there, the next point finds them. -/
theorem next_6 (c : Dev nD) (t : Fin cfg0.N) (ht : t.val ≠ 0) (d)
    (hl : (dats m 0 c).left 6 ⟨t.val - 1, Nat.lt_of_le_of_lt (Nat.sub_le _ _) t.isLt⟩ d = scalesAt m c) : (dats m 0 c).before 6 t d = scalesAt m c := by
  have hf : ¬(cfg0.win 6).flush ⟨t.val - 1, Nat.lt_of_le_of_lt (Nat.sub_le _ _) t.isLt⟩ = true := fun h => by
    have h8 : (t.val - 1) % 9 = 8 := (flush0_6 _).mp h
    have := Nat.lt_of_lt_of_eq t.isLt N_0
    omega
  rw [(dats m 0 c).before_of_pos 6 t ht rfl d, if_neg hf]
  exact hl

/-- At the first point window 6's buffer is left at the scales. -/
theorem left_6 (c : Dev nD) (t : Fin cfg0.N) (ht : t.val % 9 = 0) (d) : (dats m 0 c).left 6 t d = scalesAt m c := by
  unfold Dat.left
  rw [live_6 t ht]
  unfold Dat.kept
  rw [after0_6]
  generalize scalesAt m c = X
  rfl

/-- After the first point window 6's buffer holds the scales that point made. -/
theorem before0_6 (c : Dev nD) : ∀ (n : ℕ) (hn : n + 1 < cfg0.N) (d), (dats m 0 c).before 6 ⟨n + 1, hn⟩ d = scalesAt m c := by
  intro n
  induction n with
  | zero => exact fun hn d => next_6 m c _ (Nat.succ_ne_zero _) d (left_6 m c _ rfl d)
  | succ n ih =>
    intro hn d
    have hN : cfg0.N = 9 := N_0
    refine next_6 m c _ (Nat.succ_ne_zero _) d ?_
    unfold Dat.left
    rw [idle_6 _ (by show ¬(n + 1 + 1 - 1) % 9 = 0; omega)]
    exact ih (Nat.lt_of_succ_lt hn) d

/-- The same, at a point that is not the first. -/
theorem before0_6' (c : Dev nD) (t : Fin cfg0.N) (ht : ¬t.val % 9 = 0) (d) : (dats m 0 c).before 6 t d = scalesAt m c := by
  obtain ⟨n, hn⟩ := t
  cases n with
  | zero => exact absurd rfl ht
  | succ n => exact before0_6 m c n hn d

/-- At the first point window 6's buffer is left at the scales made there. -/
theorem leaves_6_first (c : Dev nD) (t : Fin cfg0.N) (h : t.val % 9 = 0) :
    (dats m 0 c).leaves 6 t = owns (c : Thread nD τ) (ms0_6 t) fullShare (scalesAt m c) := by
  unfold Dat.leaves
  rw [live_6 t h, after0_6]

/-- At a later point the scales are handed back. -/
theorem leaves_6 (c : Dev nD) (t : Fin cfg0.N) (h : ¬t.val % 9 = 0) :
    owns (c : Thread nD τ) (ms0_6 t) fullShare (scalesAt m c) ⊢ (dats m 0 c).leaves 6 t := by
  cases hf : (cfg0.win 6).flush t with
  | false =>
    rw [(dats m 0 c).leaves_idle 6 t (idle_6 t h) hf]
    simp only [before0_6' m c t h]
    iintro H; iexists (scalesAt m c); iexact H
  | true =>
    unfold Dat.leaves
    rw [idle_6 t h, hf, after0_6]
    try exact .rfl

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns: the blocks that reach past the array's end are stated on the part inside it. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ (∃ d, owns (c : Thread nD τ) (ms0_4 t) fullShare (win0_4.fill (grid0.coords t) d (win0_4.cut (grid0.coords t) ((dats m 0 c).after 4 t))))
    ∗ (dats m 0 c).leaves 5 t
    ∗ (dats m 0 c).leaves 6 t)

set_option maxHeartbeats 3200000 in
/-- The body at any point: the first, which makes the codes and scales, or a later one, which finds them. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl,
    after0_0, after0_1]
  by_cases h0 : t.val % 9 = 0
  · have ht : t = t0_0 := Fin.ext (by have := Nat.lt_of_lt_of_eq t.isLt N_0; show t.val = 0; omega)
    have hc : codesOf (iblk m c 0 t) (iblk m c 1 t) = codesAt m c := by unfold codesAt; rw [ht]
    have hs : scalesOf (iblk m c 0 t) (iblk m c 1 t) = scalesAt m c := by unfold scalesAt; rw [ht]
    rw [leaves_5_first m c t h0, leaves_6_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ ((hcond0_0 t).mpr h0) (iblk m c 0 t) (iblk m c 1 t) (wAt m c t d2) (sAt m c t d3) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    rw [hc, hs]
    iintro ⟨H0, H1, H2, H3, H4, H5, H6⟩
    isplitl [HΦ]; · iexact HΦ
    isplitl [Ho]; · iexact Ho
    isplitl [H0]; · iexact H0
    isplitl [H1]; · iexact H1
    isplitl [H2]; · iexists d2; iapply (wAt_owns m c t d2); iexact H2
    isplitl [H3]; · iexists d3; iapply (sAt_owns m c t d3); iexact H3
    isplitl [H4]
    · iexists (pOut (wAt m c t d2) (sAt m c t d3) (codesAt m c) (scalesAt m c))
      iapply (pAt_owns m c t d2 d3); iexact H4
    isplitl [H5]; · iexact H5
    iexact H6
  · simp only [before0_5' m c t h0, before0_6' m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_B c (grid0.coords t) _ _ _ _ _ _ _ _ _ _ _ _ _ _ (fun h => h0 ((hcond0_0 t).mp h)) (iblk m c 0 t) (iblk m c 1 t) (wAt m c t d2) (sAt m c t d3) (codesAt m c) (scalesAt m c) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexists d2; iapply (wAt_owns m c t d2); iexact H2
    isplitl [H3]; · iexists d3; iapply (sAt_owns m c t d3); iexact H3
    isplitl [H4]
    · iexists (pOut (wAt m c t d2) (sAt m c t d3) (codesAt m c) (scalesAt m c))
      iapply (pAt_owns m c t d2 d3); iexact H4
    isplitl [H5]; · iapply (leaves_5 m c t h0); iexact H5
    iapply (leaves_6 m c t h0); iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

-- `θ_run_frame_track`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := fun _ => .rfl) (hout := fun _ => .rfl)

/-- Every array of the pipeline ends at what the library computes from the proof data, every other buffer as found. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_InProjIdeal`'s statement (Defs.lean). -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.InProjIdeal.Hand

end
-- ==== Proof.InProjBands.lean ====
/-
  The input projection's first point, read entry by entry: the norm of the activation rows and their quantiser, in five bands of
  128 rows.
-/
module

public import proofs.«01_k».proof.Proof.InProjIdealBody
public import proofs.«01_k».proof.Proof.Spec

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Cert.Spec
open scoped BigOperators

/-! ## The quantiser of a band of 128 rows, at an index -/

/-- The largest absolute value of each row of a band. -/
theorem max_of (v : FVec Ideal S128x2048 .f32) (b : Fin 128) :
    (shapeCast S128x1 (multiReduction (F := Ideal) .maximumf [1] S128 (absf v) 0xFF800000#32 reduces_S128x2048_S128 (.inl rfl) rfl)
      shapeCasts_S128_S128x1) (ix2 b 0) = rowMax (fun k => v (ix2 b k)) := by
  pointwise []
  rfl

/-- The scale of a row whose largest absolute value is given. -/
theorem scale_of (r : FVec Ideal S128x1 .f32) (b : Fin 128) :
    select (cmpf .oeq r (broadcast S128x1 (Scalar.ofBits .f32 0x00000000#32))) (broadcast S128x1 (Scalar.ofBits .f32 0x3F800000#32))
      (divf r (broadcast S128x1 (Scalar.ofBits .f32 0x43E00000#32))) (ix2 b 0)
      = if r (ix2 b 0) = 0 then 1 else Ideal.div (r (ix2 b 0)) (Ideal.ofBits FTy.f32 0x43E00000#32) := by
  pointwise []

/-- The scale of each row of a band. -/
theorem quant_of (v : FVec Ideal S128x2048 .f32) (b : Fin 128) :
    select (cmpf .oeq (shapeCast S128x1 (multiReduction (F := Ideal) .maximumf [1] S128 (absf v) 0xFF800000#32 reduces_S128x2048_S128 (.inl rfl) rfl)
      shapeCasts_S128_S128x1) (broadcast S128x1 (Scalar.ofBits .f32 0x00000000#32))) (broadcast S128x1 (Scalar.ofBits .f32 0x3F800000#32))
      (divf (shapeCast S128x1 (multiReduction (F := Ideal) .maximumf [1] S128 (absf v) 0xFF800000#32 reduces_S128x2048_S128 (.inl rfl) rfl)
      shapeCasts_S128_S128x1) (broadcast S128x1 (Scalar.ofBits .f32 0x43E00000#32))) (ix2 b 0) = qScale fun k => v (ix2 b k) := by
  refine (scale_of _ b).trans ?_
  rw [max_of]
  unfold qScale
  rfl

/-- The codes of rows whose scales are given. -/
theorem codes_of (v : FVec Ideal S128x2048 .f32) (s : FVec Ideal S128x1 .f32) (b : Fin 128) (j : Fin 2048) :
    truncf .fp8e4m3 (minimumf (broadcast S128x2048 (Scalar.ofBits .f32 0x43E00000#32)) (maximumf (broadcast S128x2048 (Scalar.ofBits .f32 0xC3E00000#32))
      (divf v (broadcastTo S128x2048 s broadcasts_S128x1_S128x2048)))) bitsLt_fp8e4m3_f32 (ix2 b j)
      = min (Ideal.ofBits FTy.f32 0x43E00000#32) (max (Ideal.ofBits FTy.f32 0xC3E00000#32) (Ideal.div (v (ix2 b j)) (s (ix2 b 0)))) := by
  pointwise []

section
variable (w : Vec Ideal S1x2048 .f32)

/-- The first band's norm. -/
theorem pay2_at (v : FVec Ideal S128x2048 .bf16) (b : Fin 128) (j : Fin 2048) : k0_pay2 v w (ix2 b j) = rmsNorm (fun k => v (ix2 b k)) (fun k => w (ix2 0 k)) j := by
  pointwise [k0_pay2]
  rfl

/-- The first band's scales. -/
theorem pay3_at (v : FVec Ideal S128x2048 .bf16) (b : Fin 128) : k0_pay3 v w (ix2 b 0) = qScale (rmsNorm (fun k => v (ix2 b k)) (fun k => w (ix2 0 k))) :=
  (quant_of (k0_pay2 v w) b).trans (congrArg qScale (funext fun k => pay2_at w v b k))

/-- The first band's codes. -/
theorem pay4_at (v : FVec Ideal S128x2048 .bf16) (b : Fin 128) (j : Fin 2048) : k0_pay4 v w (ix2 b j) = qCode (rmsNorm (fun k => v (ix2 b k)) (fun k => w (ix2 0 k))) j := by
  refine (codes_of (k0_pay2 v w) (k0_pay3 v w) b j).trans ?_
  rw [pay3_at, pay2_at]
  unfold qCode
  rfl

/-- The first band's scales, as a row. -/
theorem pay5_at (v : FVec Ideal S128x2048 .bf16) (b : Fin 128) : k0_pay5 v w (ix2 0 b) = qScale (rmsNorm (fun k => v (ix2 b k)) (fun k => w (ix2 0 k))) := by
  pointwise [k0_pay5, pay3_at]

/-- The second band's norm. -/
theorem pay6_at (v : FVec Ideal S128x2048 .bf16) (b : Fin 128) (j : Fin 2048) : k0_pay6 v w (ix2 b j) = rmsNorm (fun k => v (ix2 b k)) (fun k => w (ix2 0 k)) j := by
  pointwise [k0_pay6]
  rfl

/-- The second band's scales. -/
theorem pay7_at (v : FVec Ideal S128x2048 .bf16) (b : Fin 128) : k0_pay7 v w (ix2 b 0) = qScale (rmsNorm (fun k => v (ix2 b k)) (fun k => w (ix2 0 k))) :=
  (quant_of (k0_pay6 v w) b).trans (congrArg qScale (funext fun k => pay6_at w v b k))

/-- The second band's codes. -/
theorem pay8_at (v : FVec Ideal S128x2048 .bf16) (b : Fin 128) (j : Fin 2048) : k0_pay8 v w (ix2 b j) = qCode (rmsNorm (fun k => v (ix2 b k)) (fun k => w (ix2 0 k))) j := by
  refine (codes_of (k0_pay6 v w) (k0_pay7 v w) b j).trans ?_
  rw [pay7_at, pay6_at]
  unfold qCode
  rfl

/-- The second band's scales, as a row. -/
theorem pay9_at (v : FVec Ideal S128x2048 .bf16) (b : Fin 128) : k0_pay9 v w (ix2 0 b) = qScale (rmsNorm (fun k => v (ix2 b k)) (fun k => w (ix2 0 k))) := by
  pointwise [k0_pay9, pay7_at]

/-- The third band's norm. -/
theorem pay11_at (v : FVec Ideal S128x2048 .bf16) (b : Fin 128) (j : Fin 2048) : k0_pay11 v w (ix2 b j) = rmsNorm (fun k => v (ix2 b k)) (fun k => w (ix2 0 k)) j := by
  pointwise [k0_pay11]
  rfl

/-- The third band's scales. -/
theorem pay12_at (v : FVec Ideal S128x2048 .bf16) (b : Fin 128) : k0_pay12 v w (ix2 b 0) = qScale (rmsNorm (fun k => v (ix2 b k)) (fun k => w (ix2 0 k))) :=
  (quant_of (k0_pay11 v w) b).trans (congrArg qScale (funext fun k => pay11_at w v b k))

/-- The third band's codes. -/
theorem pay13_at (v : FVec Ideal S128x2048 .bf16) (b : Fin 128) (j : Fin 2048) : k0_pay13 v w (ix2 b j) = qCode (rmsNorm (fun k => v (ix2 b k)) (fun k => w (ix2 0 k))) j := by
  refine (codes_of (k0_pay11 v w) (k0_pay12 v w) b j).trans ?_
  rw [pay12_at, pay11_at]
  unfold qCode
  rfl

/-- The third band's scales, as a row. -/
theorem pay14_at (v : FVec Ideal S128x2048 .bf16) (b : Fin 128) : k0_pay14 v w (ix2 0 b) = qScale (rmsNorm (fun k => v (ix2 b k)) (fun k => w (ix2 0 k))) := by
  pointwise [k0_pay14, pay12_at]

/-- The third band's rows, as they are read. -/
theorem pay10_at (v : Vec Ideal S128x2048 .bf16) (b : Fin 128) (k : Fin 2048) : k0_pay10 v (ix2 b k) = v (ix2 b k) := by
  pointwise [k0_pay10]

/-- The fourth band's norm. -/
theorem pay16_at (v : FVec Ideal S128x2048 .f32) (b : Fin 128) (j : Fin 2048) : k0_pay16 v w (ix2 b j) = rmsNorm (fun k => v (ix2 b k)) (fun k => w (ix2 0 k)) j := by
  pointwise [k0_pay16]
  rfl

/-- The fourth band's scales. -/
theorem pay17_at (v : FVec Ideal S128x2048 .f32) (b : Fin 128) : k0_pay17 v w (ix2 b 0) = qScale (rmsNorm (fun k => v (ix2 b k)) (fun k => w (ix2 0 k))) :=
  (quant_of (k0_pay16 v w) b).trans (congrArg qScale (funext fun k => pay16_at w v b k))

/-- The fourth band's codes. -/
theorem pay18_at (v : FVec Ideal S128x2048 .f32) (b : Fin 128) (j : Fin 2048) : k0_pay18 v w (ix2 b j) = qCode (rmsNorm (fun k => v (ix2 b k)) (fun k => w (ix2 0 k))) j := by
  refine (codes_of (k0_pay16 v w) (k0_pay17 v w) b j).trans ?_
  rw [pay17_at, pay16_at]
  unfold qCode
  rfl

/-- The fourth band's scales, as a row. -/
theorem pay19_at (v : FVec Ideal S128x2048 .f32) (b : Fin 128) : k0_pay19 v w (ix2 0 b) = qScale (rmsNorm (fun k => v (ix2 b k)) (fun k => w (ix2 0 k))) := by
  pointwise [k0_pay19, pay17_at]

/-- The fourth band's rows, as they are read. -/
theorem pay15_at (v : Vec Ideal S128x2048 .bf16) (b : Fin 128) (k : Fin 2048) : k0_pay15 v (ix2 b k) = v (ix2 b k) := by
  pointwise [k0_pay15]

/-- The fifth band's norm. -/
theorem pay21_at (v : FVec Ideal S128x2048 .f32) (b : Fin 128) (j : Fin 2048) : k0_pay21 v w (ix2 b j) = rmsNorm (fun k => v (ix2 b k)) (fun k => w (ix2 0 k)) j := by
  pointwise [k0_pay21]
  rfl

/-- The fifth band's scales. -/
theorem pay22_at (v : FVec Ideal S128x2048 .f32) (b : Fin 128) : k0_pay22 v w (ix2 b 0) = qScale (rmsNorm (fun k => v (ix2 b k)) (fun k => w (ix2 0 k))) :=
  (quant_of (k0_pay21 v w) b).trans (congrArg qScale (funext fun k => pay21_at w v b k))

/-- The fifth band's codes. -/
theorem pay23_at (v : FVec Ideal S128x2048 .f32) (b : Fin 128) (j : Fin 2048) : k0_pay23 v w (ix2 b j) = qCode (rmsNorm (fun k => v (ix2 b k)) (fun k => w (ix2 0 k))) j := by
  refine (codes_of (k0_pay21 v w) (k0_pay22 v w) b j).trans ?_
  rw [pay22_at, pay21_at]
  unfold qCode
  rfl

/-- The fifth band's scales, as a row. -/
theorem pay24_at (v : FVec Ideal S128x2048 .f32) (b : Fin 128) : k0_pay24 v w (ix2 0 b) = qScale (rmsNorm (fun k => v (ix2 b k)) (fun k => w (ix2 0 k))) := by
  pointwise [k0_pay24, pay22_at]

/-- The fifth band's rows, as they are read. -/
theorem pay20_at (v : Vec Ideal S128x2048 .bf16) (b : Fin 128) (k : Fin 2048) : k0_pay20 v (ix2 b k) = v (ix2 b k) := by
  pointwise [k0_pay20]

end

/-- The codes of the five bands: each normalised row's codes. -/
theorem codesOf_at (h : Vec Ideal S640x2048 .bf16) (w : Vec Ideal S1x2048 .f32) (y : S640x2048.Idx) :
    codesOf h w y = qCode (rmsNorm (fun k => h (ix2 (y 0) k)) (fun k => w (ix2 0 k))) (y 1) := by
  unfold codesOf
  refine View.canon_apply_of_pieces (show Vec Ideal S640x2048 .fp8e4m3 from fun y => qCode (rmsNorm (fun k => h (ix2 (y 0) k)) (fun k => w (ix2 0 k))) (y 1)) _ ?_ y
    (View.cover_of_tiledL (s := S640x2048) _ ![128, 2048] (by sl_kernel_rfl) y)
  intro pc hpc
  simp only [List.mem_cons, List.mem_nil_iff, or_false] at hpc
  rcases hpc with rfl | rfl | rfl | rfl | rfl <;> intro x
  · idx_vars x
    refine (pay23_at _ _ x0 x1).trans (congrArg₂ qCode (congrArg₂ rmsNorm (funext fun k => (pay20_at _ x0 k).trans (congrArg h (funext fun a => Fin.ext ?_))) (funext fun k => congrArg w (funext fun a => Fin.ext ?_))) (Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · show x1.val = 0 + 1 * x1.val; omega
  · idx_vars x
    refine (pay18_at _ _ x0 x1).trans (congrArg₂ qCode (congrArg₂ rmsNorm (funext fun k => (pay15_at _ x0 k).trans (congrArg h (funext fun a => Fin.ext ?_))) (funext fun k => congrArg w (funext fun a => Fin.ext ?_))) (Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · show x1.val = 0 + 1 * x1.val; omega
  · idx_vars x
    refine (pay13_at _ _ x0 x1).trans (congrArg₂ qCode (congrArg₂ rmsNorm (funext fun k => (pay10_at _ x0 k).trans (congrArg h (funext fun a => Fin.ext ?_))) (funext fun k => congrArg w (funext fun a => Fin.ext ?_))) (Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · show x1.val = 0 + 1 * x1.val; omega
  · idx_vars x
    refine (pay8_at _ _ x0 x1).trans (congrArg₂ qCode (congrArg₂ rmsNorm (funext fun k => congrArg h (funext fun a => Fin.ext ?_)) (funext fun k => congrArg w (funext fun a => Fin.ext ?_))) (Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · show x1.val = 0 + 1 * x1.val; omega
  · idx_vars x
    refine (pay4_at _ _ x0 x1).trans (congrArg₂ qCode (congrArg₂ rmsNorm (funext fun k => congrArg h (funext fun a => Fin.ext ?_)) (funext fun k => congrArg w (funext fun a => Fin.ext ?_))) (Fin.ext ?_))
    · match a with
      | ⟨0, _⟩ => rfl
      | ⟨1, _⟩ => show 0 + 1 * k.val = k.val; omega
    · match a with
      | ⟨0, _⟩ => rfl
      | ⟨1, _⟩ => show 0 + 1 * k.val = k.val; omega
    · show x1.val = 0 + 1 * x1.val; omega

/-- The scales of the five bands: each normalised row's scale. -/
theorem scalesOf_at (h : Vec Ideal S640x2048 .bf16) (w : Vec Ideal S1x2048 .f32) (y : S1x640.Idx) :
    scalesOf h w y = qScale (rmsNorm (fun k => h (ix2 (y 1) k)) (fun k => w (ix2 0 k))) := by
  unfold scalesOf
  refine View.canon_apply_of_pieces (show Vec Ideal S1x640 .f32 from fun y => qScale (rmsNorm (fun k => h (ix2 (y 1) k)) (fun k => w (ix2 0 k)))) _ ?_ y
    (View.cover_of_tiledL (s := S1x640) _ ![1, 128] (by sl_kernel_rfl) y)
  intro pc hpc
  simp only [List.mem_cons, List.mem_nil_iff, or_false] at hpc
  rcases hpc with rfl | rfl | rfl | rfl | rfl <;> intro x
  · idx_vars x
    obtain rfl : x0 = 0 := Subsingleton.elim _ _
    refine (pay24_at _ _ x1).trans (congrArg qScale (congrArg₂ rmsNorm (funext fun k => (pay20_at _ x1 k).trans (congrArg h (funext fun a => Fin.ext ?_))) (funext fun k => congrArg w (funext fun a => Fin.ext ?_))))
    · match a with
      | ⟨0, _⟩ => rfl
      | ⟨1, _⟩ => show 0 + 1 * k.val = k.val; omega
    · match a with
      | ⟨0, _⟩ => rfl
      | ⟨1, _⟩ => show 0 + 1 * k.val = k.val; omega
  · idx_vars x
    obtain rfl : x0 = 0 := Subsingleton.elim _ _
    refine (pay19_at _ _ x1).trans (congrArg qScale (congrArg₂ rmsNorm (funext fun k => (pay15_at _ x1 k).trans (congrArg h (funext fun a => Fin.ext ?_))) (funext fun k => congrArg w (funext fun a => Fin.ext ?_))))
    · match a with
      | ⟨0, _⟩ => rfl
      | ⟨1, _⟩ => show 0 + 1 * k.val = k.val; omega
    · match a with
      | ⟨0, _⟩ => rfl
      | ⟨1, _⟩ => show 0 + 1 * k.val = k.val; omega
  · idx_vars x
    obtain rfl : x0 = 0 := Subsingleton.elim _ _
    refine (pay14_at _ _ x1).trans (congrArg qScale (congrArg₂ rmsNorm (funext fun k => (pay10_at _ x1 k).trans (congrArg h (funext fun a => Fin.ext ?_))) (funext fun k => congrArg w (funext fun a => Fin.ext ?_))))
    · match a with
      | ⟨0, _⟩ => rfl
      | ⟨1, _⟩ => show 0 + 1 * k.val = k.val; omega
    · match a with
      | ⟨0, _⟩ => rfl
      | ⟨1, _⟩ => show 0 + 1 * k.val = k.val; omega
  · idx_vars x
    obtain rfl : x0 = 0 := Subsingleton.elim _ _
    refine (pay9_at _ _ x1).trans (congrArg qScale (congrArg₂ rmsNorm (funext fun k => congrArg h (funext fun a => Fin.ext ?_)) (funext fun k => congrArg w (funext fun a => Fin.ext ?_))))
    · match a with
      | ⟨0, _⟩ => rfl
      | ⟨1, _⟩ => show 0 + 1 * k.val = k.val; omega
    · match a with
      | ⟨0, _⟩ => rfl
      | ⟨1, _⟩ => show 0 + 1 * k.val = k.val; omega
  · idx_vars x
    obtain rfl : x0 = 0 := Subsingleton.elim _ _
    refine (pay5_at _ _ x1).trans (congrArg qScale (congrArg₂ rmsNorm (funext fun k => congrArg h (funext fun a => Fin.ext ?_)) (funext fun k => congrArg w (funext fun a => Fin.ext ?_))))
    · match a with
      | ⟨0, _⟩ => rfl
      | ⟨1, _⟩ => show 0 + 1 * k.val = k.val; omega
    · match a with
      | ⟨0, _⟩ => rfl
      | ⟨1, _⟩ => show 0 + 1 * k.val = k.val; omega

end Cert.InProjIdeal.Hand

end
-- ==== Proof.InProjKernel.lean ====
/-
  The input projection call, read entry by entry: the norm of the layer's input, the quantiser of its rows, and the product of the
  codes with the weights, 1024 columns of weights a point (the last point's block reaches past the array's end).
-/
module

public import proofs.«01_k».proof.Proof.InProjIdealFrame
public import proofs.«01_k».proof.Proof.InProjBands
public import Idealize.ShloMosaic.Lib.StableHlo.ReadAt
public import Idealize.ShloMosaic.Lib.Pipeline.Value

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.ShloMosaic.Pipeline (Dat Cfg Window)
open Cert.Spec (quantDot rmsNorm qScale qCode)
open scoped BigOperators

variable (m : (ℓ : Loc nD τ sig) → Buf (Elt Ideal) ℓ)

/-! ## The arguments, as arrays of numbers -/

/-- The layer's input. -/
def A0 (c : Dev nD) : S640x1x2048.Idx → EReal := m ((c : Thread nD τ).loc main_arg0)
/-- The norm's weights. -/
def A1 (c : Dev nD) : S2048.Idx → EReal := m ((c : Thread nD τ).loc main_arg1)
/-- The weights' codes. -/
def A2 (c : Dev nD) : S2048x8416.Idx → EReal := m ((c : Thread nD τ).loc main_arg2)
/-- The weights' scales. -/
def A3 (c : Dev nD) : S8416.Idx → EReal := m ((c : Thread nD τ).loc main_arg3)

/-- One row of the layer's input after the norm. -/
abbrev nrow (c : Dev nD) (b : Fin 640) : Fin 2048 → EReal := rmsNorm (fun k => A0 m c (ix3 b 0 k)) (fun k => A1 m c (ix1 k))
/-- One entry of the projection. -/
abbrev proj (c : Dev nD) (b : Fin 640) (j : Fin 8416) : EReal := quantDot (nrow m c b) (A2 m c) (fun j => A3 m c (ix1 j)) j

/-- The host's reshape of the layer's input to a matrix. -/
theorem V_v0 (c : Dev nD) (b : Fin 640) (k : Fin 2048) : V m c main_v0 (ix2 b k) = A0 m c (ix3 b 0 k) := by
  unfold V A0
  after_reads_at

/-- The host's reshape of the norm's weights to one row. -/
theorem V_v1 (c : Dev nD) (k : Fin 2048) : V m c main_v1 (ix2 0 k) = A1 m c (ix1 k) := by
  unfold V A1
  after_reads_at

/-- The host's transpose of the weights. -/
theorem V_v2 (c : Dev nD) (j : Fin 8416) (k : Fin 2048) : V m c main_v2 (ix2 j k) = A2 m c (ix2 k j) := by
  unfold V A2
  after_reads_at

/-- The host's reshape of the weights' scales to one row. -/
theorem V_v3 (c : Dev nD) (j : Fin 8416) : V m c main_v3 (ix2 0 j) = A3 m c (ix1 j) := by
  unfold V A3
  after_reads_at

/-! ## The blocks -/

/-- Which block of its array each input window is at, point by point. -/
theorem idx_facts : ∀ t : Fin cfg0.N, (∀ a : Fin 2, win0_0.index t a = 0) ∧ (∀ a : Fin 2, win0_1.index t a = 0)
    ∧ win0_2.index t = ![t.val, 0] ∧ win0_3.index t = ![0, t.val] :=
  (by decide +kernel : ∀ t : Fin grid0.N, _)

/-- Which block each output window is at. -/
theorem idx_out : ∀ t : Fin cfg0.N, win0_4.index t = ![t.val, 0]
    ∧ (∀ a : Fin 2, win0_5.index t a = 0) ∧ (∀ a : Fin 2, win0_6.index t a = 0) :=
  (by decide +kernel : ∀ t : Fin grid0.N, _)

/-- The layer's input, read whole. -/
theorem iblk0 (c : Dev nD) (t : Fin cfg0.N) (b : Fin 640) (k : Fin 2048) : iblk m c 0 t (ix2 b k) = A0 m c (ix3 b 0 k) := by
  obtain ⟨e, -⟩ := idx_facts t
  refine (congrArg (V m c main_v0) (funext fun a => Fin.ext ?_)).trans (V_v0 m c b k)
  show win0_0.index t a * _ + 1 * ((ix2 b k : S640x2048.Idx) a).val = ((ix2 b k : S640x2048.Idx) a).val
  rw [e a]; omega

/-- The norm's weights, read whole. -/
theorem iblk1 (c : Dev nD) (t : Fin cfg0.N) (k : Fin 2048) : iblk m c 1 t (ix2 0 k) = A1 m c (ix1 k) := by
  obtain ⟨-, e, -⟩ := idx_facts t
  refine (congrArg (V m c main_v1) (funext fun a => Fin.ext ?_)).trans (V_v1 m c k)
  show win0_1.index t a * _ + 1 * ((ix2 (0 : Fin 1) k : S1x2048.Idx) a).val = ((ix2 (0 : Fin 1) k : S1x2048.Idx) a).val
  rw [e a]; omega

/-- The column of weights that row `r` of point `t`'s block is, for a row inside the array. -/
abbrev colOf (t : Fin cfg0.N) (r : Fin 1024) (hr : r.val < min 1024 (8416 - 1024 * t.val)) : Fin 8416 :=
  ⟨1024 * t.val + r.val, by omega⟩

/-- The weights at a point, inside the array. -/
theorem wAt_at (c : Dev nD) (t : Fin cfg0.N) (r : Fin 1024) (k : Fin 2048) (hr : r.val < min 1024 (8416 - 1024 * t.val)) :
    wAt m c t fill2 (ix2 r k) = A2 m c (ix2 k (colOf t r hr)) := by
  have hx := rows_in t
  have hm : win0_2.moved (grid0.coords t) (ix2 r k) = true := (win0_2.moved_iff _ _).mpr fun a => by
    match a with
    | ⟨0, _⟩ => show r.val < win0_2.xsize (grid0.coords t) 0; rw [hx.1, hx.2.2.2.2.1]; exact hr
    | ⟨1, _⟩ => show k.val < win0_2.xsize (grid0.coords t) 1; rw [hx.2.1]; exact k.isLt
  obtain ⟨-, -, e, -⟩ := idx_facts t
  unfold wAt Window.fill
  rw [dif_pos hm]
  refine (congrArg (V m c main_v2) (funext fun a => Fin.ext ?_)).trans (V_v2 m c (colOf t r hr) k)
  match a with
  | ⟨0, _⟩ => show win0_2.index t (0 : Fin 2) * 1024 + 1 * r.val = 1024 * t.val + r.val; rw [e]; show t.val * 1024 + 1 * r.val = _; omega
  | ⟨1, _⟩ => show win0_2.index t (1 : Fin 2) * 2048 + 1 * k.val = k.val; rw [e]; show 0 * 2048 + 1 * k.val = k.val; omega

/-- The weights' scales at a point, inside the array. -/
theorem sAt_at (c : Dev nD) (t : Fin cfg0.N) (r : Fin 1024) (hr : r.val < min 1024 (8416 - 1024 * t.val)) :
    sAt m c t fill3 (ix2 0 r) = A3 m c (ix1 (colOf t r hr)) := by
  have hx := rows_in t
  have hm : win0_3.moved (grid0.coords t) (ix2 0 r) = true := (win0_3.moved_iff _ _).mpr fun a => by
    match a with
    | ⟨0, _⟩ => show 0 < win0_3.xsize (grid0.coords t) 0; rw [hx.2.2.1]; exact Nat.one_pos
    | ⟨1, _⟩ => show r.val < win0_3.xsize (grid0.coords t) 1; rw [hx.2.2.2.1, hx.2.2.2.2.1]; exact hr
  obtain ⟨-, -, -, e⟩ := idx_facts t
  unfold sAt Window.fill
  rw [dif_pos hm]
  refine (congrArg (V m c main_v3) (funext fun a => Fin.ext ?_)).trans (V_v3 m c (colOf t r hr))
  match a with
  | ⟨0, _⟩ => show win0_3.index t (0 : Fin 2) * 1 + 1 * 0 = 0; rw [e]; rfl
  | ⟨1, _⟩ => show win0_3.index t (1 : Fin 2) * 1024 + 1 * r.val = 1024 * t.val + r.val; rw [e]; show t.val * 1024 + 1 * r.val = _; omega

/-- A row of the layer's input after the norm, from the blocks. -/
theorem nrow_blk (c : Dev nD) (b : Fin 640) :
    rmsNorm (fun k => iblk m c 0 t0_0 (ix2 b k)) (fun k => iblk m c 1 t0_0 (ix2 0 k)) = nrow m c b :=
  congrArg₂ rmsNorm (funext fun k => iblk0 m c t0_0 b k) (funext fun k => iblk1 m c t0_0 k)

/-- The codes of the normalised rows. -/
theorem codesAt_at (c : Dev nD) (y : S640x2048.Idx) : codesAt m c y = qCode (nrow m c (y 0)) (y 1) :=
  (codesOf_at (iblk m c 0 t0_0) (iblk m c 1 t0_0) y).trans (congrArg (fun v => qCode v (y 1)) (nrow_blk m c (y 0)))

/-- The scales of the normalised rows. -/
theorem scalesAt_at (c : Dev nD) (y : S1x640.Idx) : scalesAt m c y = qScale (nrow m c (y 1)) :=
  (scalesOf_at (iblk m c 0 t0_0) (iblk m c 1 t0_0) y).trans (congrArg qScale (nrow_blk m c (y 1)))

/-- A point's products, inside the array. -/
theorem pAt_at (c : Dev nD) (t : Fin cfg0.N) (r : Fin 1024) (b : Fin 640) (hr : r.val < min 1024 (8416 - 1024 * t.val)) :
    pAt m c t (ix2 r b) = proj m c b (colOf t r hr) := by
  unfold pAt
  refine (pOut_at (wAt m c t fill2) (sAt m c t fill3) (codesAt m c) (scalesAt m c) (ix2 r b)).trans ?_
  unfold proj quantDot
  refine congrArg₂ (· * ·) (congrArg₂ (· * ·) (Finset.sum_congr rfl fun k _ => ?_) (scalesAt_at m c (ix2 0 b))) (sAt_at m c t r hr)
  exact (congrArg₂ (· * ·) (wAt_at m c t r k hr) (codesAt_at m c (ix2 b k))).trans (mul_comm _ _)

/-! ## The result arrays -/

/-- The point a column of weights is in. -/
abbrev colPt (j : Fin 8416) : Fin cfg0.N := ⟨j.val / 1024, by rw [show cfg0.N = 9 from N_0]; omega⟩

/-- A row of a point's block that is written back is inside the array. -/
theorem row_lt (t : Fin cfg0.N) (y : (win0_4.xblock (grid0.coords t)).Idx) : (y 0).val < min 1024 (8416 - 1024 * t.val) := by
  have h : (y 0).val < win0_4.xsize (grid0.coords t) 0 := (y 0).isLt
  rw [(rows_in t).2.2.2.2.1] at h
  exact h

/-- Its column is one of the 640. -/
theorem col_lt (t : Fin cfg0.N) (y : (win0_4.xblock (grid0.coords t)).Idx) : (y 1).val < 640 := by
  have h : (y 1).val < win0_4.xsize (grid0.coords t) 1 := (y 1).isLt
  rw [(rows_in t).2.2.2.2.2] at h
  exact h

/-- Window 4's block at a point: an index of it, in the array, -/
theorem emb4 (t : Fin cfg0.N) (y : (win0_4.xblock (grid0.coords t)).Idx) :
    ((cfg0.win 4).blk t).view.emb y
      = (ix2 (colOf t ⟨(y 0).val, lt_of_lt_of_le (row_lt t y) (Nat.min_le_left _ _)⟩ (row_lt t y)) ⟨(y 1).val, col_lt t y⟩ : S8416x640.Idx) := by
  obtain ⟨e, -⟩ := idx_out t
  refine funext fun a => Fin.ext ?_
  match a with
  | ⟨0, _⟩ => show win0_4.index t (0 : Fin 2) * 1024 + 1 * (y 0).val = 1024 * t.val + (y 0).val; rw [e]; show t.val * 1024 + 1 * _ = _; omega
  | ⟨1, _⟩ => show win0_4.index t (1 : Fin 2) * 640 + 1 * (y 1).val = (y 1).val; rw [e]; show 0 * 640 + 1 * _ = _; omega

/-- and every index of the array is in the block of its row's point. -/
theorem mem4 (i : S8416x640.Idx) : i ∈ ((cfg0.win 4).blk (colPt (i 0))).view.set := by
  show i ∈ ((View.whole main_v4_0).slice (win0_4.rect (colPt (i 0)))).set
  obtain ⟨e, -⟩ := idx_out (colPt (i 0))
  have hx := rows_in (colPt (i 0))
  rw [View.set_slice_whole, Rect.mem_set_unit]
  intro a
  match a with
  | ⟨0, _⟩ =>
    show win0_4.index (colPt (i 0)) (0 : Fin 2) * 1024 ≤ (i (0 : Fin 2)).val
      ∧ (i (0 : Fin 2)).val < win0_4.index (colPt (i 0)) (0 : Fin 2) * 1024 + win0_4.xsize (grid0.coords (colPt (i 0))) 0
    rw [e, hx.2.2.2.2.1]
    have h : (i (0 : Fin 2)).val < 8416 := (i (0 : Fin 2)).isLt
    show (i (0 : Fin 2)).val / 1024 * 1024 ≤ _ ∧ _ < (i (0 : Fin 2)).val / 1024 * 1024 + min 1024 (8416 - 1024 * ((i (0 : Fin 2)).val / 1024))
    omega
  | ⟨1, _⟩ =>
    show win0_4.index (colPt (i 0)) (1 : Fin 2) * 640 ≤ (i (1 : Fin 2)).val
      ∧ (i (1 : Fin 2)).val < win0_4.index (colPt (i 0)) (1 : Fin 2) * 640 + win0_4.xsize (grid0.coords (colPt (i 0))) 1
    rw [e, hx.2.2.2.2.2]
    have h : (i (1 : Fin 2)).val < 640 := (i (1 : Fin 2)).isLt
    show 0 * 640 ≤ _ ∧ _ < 0 * 640 + 640
    omega

/-- Result 0: the projection, one column per row of the input. -/
theorem final4 (c : Dev nD) : (dats m 0 c).arrAt 4 cfg0.N = fun i : S8416x640.Idx => proj m c (i 1) (i 0) := by
  refine (dats m 0 c).arrAt_eq_of_cover 4 _ (fun t hf => ?_) (fun i => ⟨colPt (i 0), flush0_4 _, mem4 i⟩)
  show (cfg0.win 4).cut (grid0.coords t) ((dats m 0 c).after 4 t) = _
  rw [after0_4]
  funext y
  refine Eq.trans ?_ (congrArg (fun i : S8416x640.Idx => proj m c (i 1) (i 0)) (emb4 t y).symm)
  refine Eq.trans (congrArg (pAt m c t) (funext fun a => Fin.ext ?_)) (pAt_at m c t ⟨(y 0).val, lt_of_lt_of_le (row_lt t y) (Nat.min_le_left _ _)⟩ ⟨(y 1).val, col_lt t y⟩ (row_lt t y))
  match a with
  | ⟨0, _⟩ => rfl
  | ⟨1, _⟩ => rfl

/-- Window 5's one block is its array: an index of the block is that index of the array, -/
theorem emb5 (t : Fin cfg0.N) (y : S640x2048.Idx) : ((cfg0.win 5).blk t).view.emb y = y := by
  obtain ⟨-, e, -⟩ := idx_out t
  refine funext fun a => Fin.ext ?_
  show win0_5.index t a * _ + 1 * (y a).val = (y a).val
  rw [e a]; omega

/-- and every index of the array is in it. -/
theorem mem5 (t : Fin cfg0.N) (i : S640x2048.Idx) : i ∈ ((cfg0.win 5).blk t).view.set := by
  show i ∈ ((View.whole main_v4_1).slice (win0_5.rect t)).set
  obtain ⟨-, e, -⟩ := idx_out t
  rw [View.set_slice_whole, Rect.mem_set_unit]
  intro a
  show win0_5.index t a * S640x2048.size a ≤ (i a).val ∧ (i a).val < win0_5.index t a * S640x2048.size a + S640x2048.size a
  rw [e a]
  exact ⟨by omega, by have := (i a).isLt; omega⟩

/-- Result 1: the codes of the normalised rows. -/
theorem final5 (c : Dev nD) : (dats m 0 c).arrAt 5 cfg0.N = fun i : S640x2048.Idx => qCode (nrow m c (i 0)) (i 1) := by
  refine (dats m 0 c).arrAt_eq_of_cover 5 _ (fun t hf => ?_)
    (fun i => ⟨⟨8, by rw [show cfg0.N = 9 from N_0]; omega⟩, (flush0_5 _).mpr rfl, mem5 _ i⟩)
  show (cfg0.win 5).cut (grid0.coords t) ((dats m 0 c).after 5 t) = _
  rw [after0_5]
  funext y
  refine Eq.trans ?_ (congrArg (fun i : S640x2048.Idx => qCode (nrow m c (i 0)) (i 1)) (emb5 t y).symm)
  exact codesAt_at m c y

/-- Window 6's one block is its array: an index of the block is that index of the array, -/
theorem emb6 (t : Fin cfg0.N) (y : S1x640.Idx) : ((cfg0.win 6).blk t).view.emb y = y := by
  obtain ⟨-, -, e⟩ := idx_out t
  refine funext fun a => Fin.ext ?_
  show win0_6.index t a * _ + 1 * (y a).val = (y a).val
  rw [e a]; omega

/-- and every index of the array is in it. -/
theorem mem6 (t : Fin cfg0.N) (i : S1x640.Idx) : i ∈ ((cfg0.win 6).blk t).view.set := by
  show i ∈ ((View.whole main_v4_2).slice (win0_6.rect t)).set
  obtain ⟨-, -, e⟩ := idx_out t
  rw [View.set_slice_whole, Rect.mem_set_unit]
  intro a
  show win0_6.index t a * S1x640.size a ≤ (i a).val ∧ (i a).val < win0_6.index t a * S1x640.size a + S1x640.size a
  rw [e a]
  exact ⟨by omega, by have := (i a).isLt; omega⟩

/-- Result 2: the scales of the normalised rows. -/
theorem final6 (c : Dev nD) : (dats m 0 c).arrAt 6 cfg0.N = fun i : S1x640.Idx => qScale (nrow m c (i 1)) := by
  refine (dats m 0 c).arrAt_eq_of_cover 6 _ (fun t hf => ?_)
    (fun i => ⟨⟨8, by rw [show cfg0.N = 9 from N_0]; omega⟩, (flush0_6 _).mpr rfl, mem6 _ i⟩)
  show (cfg0.win 6).cut (grid0.coords t) ((dats m 0 c).after 6 t) = _
  rw [after0_6]
  funext y
  refine Eq.trans ?_ (congrArg (fun i : S1x640.Idx => qScale (nrow m c (i 1))) (emb6 t y).symm)
  exact scalesAt_at m c y

/-! ## The run, its arrays named -/

variable (ρ : Dev nD → PrngReg)

/-- After the frame run each output window's array is what the write-backs leave in it, and the arguments are as launched. -/
theorem run_blocks : θ_run defs (onTc (τ := τ) (main (F := Ideal))) ⟨m, fun _ => 0, ρ⟩ fun r => ∀ c : Dev nD,
      r.2.mem ((c : Thread nD τ).loc main_v4_0) = (dats m 0 c).arrAt 4 cfg0.N
      ∧ r.2.mem ((c : Thread nD τ).loc main_v4_1) = (dats m 0 c).arrAt 5 cfg0.N
      ∧ r.2.mem ((c : Thread nD τ).loc main_v4_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩)
    (run_main m ρ)

end Cert.InProjIdeal.Hand

end
-- ==== Proof.InProjReference.lean ====
/-
  The reference of the first call, read entry by entry: the norm of the layer's input, the quantiser of its rows and the product, on
  all the rows in one step.
-/
module

public import proofs.«01_k».proof.Proof.Gen.InProjRefIdeal.Value
public import proofs.«01_k».proof.Proof.Spec
public import Idealize.ShloMosaic.Lib.StableHlo.ReadAt

@[expose] public section

set_option maxRecDepth 16384

noncomputable section

namespace Cert.InProjRefIdeal.Hand

open Cert.InProjRefIdeal Cert.InProjRefIdeal.Gen Cert.InProjRefIdeal.Value
open Idealize.ShloMosaic Idealize.ShloMosaic.TcCoe Idealize.ShloMosaic.Tactic
open Idealize.ShloMosaic.Pipeline (Dat Cfg Window)
open Cert.Spec
open scoped BigOperators

/-! ## The quantiser of the rows, at an index -/

/-- The largest absolute value of each row of the batch. -/
theorem max_of (v : FVec Ideal S640x2048 .f32) (b : Fin 640) :
    (shapeCast S640x1 (multiReduction (F := Ideal) .maximumf [1] S640 (absf v) 0xFF800000#32 reduces_S640x2048_S640 (.inl rfl) rfl)
      shapeCasts_S640_S640x1) (ix2 b 0) = rowMax (fun k => v (ix2 b k)) := by
  pointwise []
  rfl

/-- The scale of a row whose largest absolute value is given. -/
theorem scale_of (r : FVec Ideal S640x1 .f32) (b : Fin 640) :
    select (cmpf .oeq r (broadcast S640x1 (Scalar.ofBits .f32 0x00000000#32))) (broadcast S640x1 (Scalar.ofBits .f32 0x3F800000#32))
      (divf r (broadcast S640x1 (Scalar.ofBits .f32 0x43E00000#32))) (ix2 b 0)
      = if r (ix2 b 0) = 0 then 1 else Ideal.div (r (ix2 b 0)) (Ideal.ofBits FTy.f32 0x43E00000#32) := by
  pointwise []

/-- The scale of each row of the batch. -/
theorem quant_of (v : FVec Ideal S640x2048 .f32) (b : Fin 640) :
    select (cmpf .oeq (shapeCast S640x1 (multiReduction (F := Ideal) .maximumf [1] S640 (absf v) 0xFF800000#32 reduces_S640x2048_S640 (.inl rfl) rfl)
      shapeCasts_S640_S640x1) (broadcast S640x1 (Scalar.ofBits .f32 0x00000000#32))) (broadcast S640x1 (Scalar.ofBits .f32 0x3F800000#32))
      (divf (shapeCast S640x1 (multiReduction (F := Ideal) .maximumf [1] S640 (absf v) 0xFF800000#32 reduces_S640x2048_S640 (.inl rfl) rfl)
      shapeCasts_S640_S640x1) (broadcast S640x1 (Scalar.ofBits .f32 0x43E00000#32))) (ix2 b 0) = qScale fun k => v (ix2 b k) := by
  refine (scale_of _ b).trans ?_
  rw [max_of]
  unfold qScale
  rfl

/-- The codes of rows whose scales are given. -/
theorem codes_of (v : FVec Ideal S640x2048 .f32) (s : FVec Ideal S640x1 .f32) (b : Fin 640) (j : Fin 2048) :
    truncf .fp8e4m3 (minimumf (broadcast S640x2048 (Scalar.ofBits .f32 0x43E00000#32)) (maximumf (broadcast S640x2048 (Scalar.ofBits .f32 0xC3E00000#32))
      (divf v (broadcastTo S640x2048 s broadcasts_S640x1_S640x2048)))) bitsLt_fp8e4m3_f32 (ix2 b j)
      = min (Ideal.ofBits FTy.f32 0x43E00000#32) (max (Ideal.ofBits FTy.f32 0xC3E00000#32) (Ideal.div (v (ix2 b j)) (s (ix2 b 0)))) := by
  pointwise []

section
variable (x0 : Vec Ideal S640x2048 .bf16) (x1 : Vec Ideal S1x2048 .f32) (x2 : Vec Ideal S2048x8416 .fp8e4m3)
  (x3 : Vec Ideal S1x8416 .f32)

/-! ## The payloads at an index -/

/-- The norm of the rows. -/
theorem pay2_at (b : Fin 640) (j : Fin 2048) : k0_pay2 x0 x1 (ix2 b j) = rmsNorm (fun k => x0 (ix2 b k)) (fun k => x1 (ix2 0 k)) j := by
  pointwise [k0_pay2]
  rfl

/-- The normalised rows' scales. -/
theorem pay3_at (b : Fin 640) : k0_pay3 x0 x1 (ix2 b 0) = qScale (rmsNorm (fun k => x0 (ix2 b k)) (fun k => x1 (ix2 0 k))) := by
  exact (quant_of (k0_pay2 x0 x1) b).trans (congrArg qScale (funext fun k => pay2_at x0 x1 b k))

/-- The normalised rows' codes. -/
theorem pay4_at (b : Fin 640) (k : Fin 2048) : k0_pay4 x0 x1 (ix2 b k) = qCode (rmsNorm (fun k => x0 (ix2 b k)) (fun k => x1 (ix2 0 k))) k := by
  refine (codes_of (k0_pay2 x0 x1) (k0_pay3 x0 x1) b k).trans ?_
  rw [pay3_at, pay2_at]
  unfold qCode
  rfl

/-- The product of given codes, scaled by given scales, one column per row. -/
theorem prod_of (q : FVec Ideal S640x2048 .fp8e4m3) (s : FVec Ideal S640x1 .f32)
    (w : FVec Ideal S2048x8416 .fp8e4m3) (ws : FVec Ideal S1x8416 .f32) (j : Fin 8416) (b : Fin 640) :
    (transpose S8416x640 [1, 0] (mulf (mulf (matmul dot_S640x2048_S2048x8416_S640x8416_1_0_0_1_n_n none q w
      (constant (F := Ideal) S640x8416 .f32 0x00000000#32)) (broadcastTo S640x8416 s broadcasts_S640x1_S640x8416))
      (broadcastTo S640x8416 (shapeCast S1x8416 ws shapeCasts_S1x8416_S1x8416) broadcasts_S1x8416_S640x8416))
      transposes_S640x8416_p1_0_S8416x640 : FVec Ideal S8416x640 .f32) (ix2 j b)
      = (∑ k : Fin 2048, q (ix2 b k) * w (ix2 k j)) * s (ix2 b 0) * ws (ix2 0 j) := by
  pointwise []

/-- The product of the codes, scaled, one column per row. -/
theorem pay5_at (j : Fin 8416) (b : Fin 640) :
    k0_pay5 x0 x1 x2 x3 (ix2 j b) = quantDot (rmsNorm (fun k => x0 (ix2 b k)) (fun k => x1 (ix2 0 k))) x2 (fun j => x3 (ix2 0 j)) j := by
  refine (prod_of (k0_pay4 x0 x1) (k0_pay3 x0 x1) x2 x3 j b).trans ?_
  unfold quantDot
  exact congrArg (fun z : EReal => z * x3 (ix2 0 j)) (congrArg₂ (· * ·) (Finset.sum_congr rfl fun k _ =>
    congrArg (fun z : EReal => z * x2 (ix2 k j)) (pay4_at x0 x1 b k)) (pay3_at x0 x1 b))

/-! ## The blocks the body leaves, at an index -/

theorem ld0 : View.ld x0 r0_0 = x0 := View.ld_unit_zero hz2 _ _
theorem ld1 : View.ld x1 r0_1 = x1 := View.ld_unit_zero hz2 _ _
theorem ld2 : View.ld x2 r0_2 = x2 := View.ld_unit_zero hz2 _ _
theorem ld3 : View.ld x3 r0_3 = x3 := View.ld_unit_zero hz2 _ _

/-- Window 4's block: the projection. -/
theorem out4_at (j : Fin 8416) (b : Fin 640) :
    out0_4 x0 x1 x2 x3 (ix2 j b) = quantDot (rmsNorm (fun k => x0 (ix2 b k)) (fun k => x1 (ix2 0 k))) x2 (fun j => x3 (ix2 0 j)) j := by
  unfold out0_4
  rw [View.canon_unit_zero hz2, ld0, ld1, ld2, ld3]
  exact pay5_at x0 x1 x2 x3 j b

/-- Window 5's block: the codes. -/
theorem out5_at (b : Fin 640) (k : Fin 2048) : out0_5 x0 x1 x2 x3 (ix2 b k) = qCode (rmsNorm (fun k => x0 (ix2 b k)) (fun k => x1 (ix2 0 k))) k := by
  unfold out0_5
  rw [View.canon_unit_zero hz2, ld0, ld1]
  exact pay4_at x0 x1 b k

/-- Window 6's block: the scales. -/
theorem out6_at (z : Fin 1) (b : Fin 640) : out0_6 x0 x1 x2 x3 (ix2 z b) = qScale (rmsNorm (fun k => x0 (ix2 b k)) (fun k => x1 (ix2 0 k))) := by
  obtain rfl : z = 0 := Subsingleton.elim _ _
  unfold out0_6
  rw [View.canon_unit_zero hz2, ld0, ld1]
  pointwise [k0_pay1, pay3_at]

end

variable (m : (ℓ : Loc nD τ sig) → Buf (Elt Ideal) ℓ)

/-! ## The arguments, as arrays of numbers -/

/-- The layer's input. -/
def A0 (c : Dev nD) : S640x1x2048.Idx → EReal := m ((c : Thread nD τ).loc main_arg0)
/-- The norm's weights. -/
def A1 (c : Dev nD) : S2048.Idx → EReal := m ((c : Thread nD τ).loc main_arg1)
/-- The weights' codes. -/
def A2 (c : Dev nD) : S2048x8416.Idx → EReal := m ((c : Thread nD τ).loc main_arg2)
/-- The weights' scales. -/
def A3 (c : Dev nD) : S8416.Idx → EReal := m ((c : Thread nD τ).loc main_arg3)

/-- One row of the layer's input after the norm. -/
abbrev nrow (c : Dev nD) (b : Fin 640) : Fin 2048 → EReal := rmsNorm (fun k => A0 m c (ix3 b 0 k)) (fun k => A1 m c (ix1 k))
/-- One entry of the projection. -/
abbrev proj (c : Dev nD) (b : Fin 640) (j : Fin 8416) : EReal := quantDot (nrow m c b) (A2 m c) (fun j => A3 m c (ix1 j)) j

/-- The host's reshape of the layer's input to a matrix. -/
theorem V_v0 (c : Dev nD) (b : Fin 640) (k : Fin 2048) : V m c main_v0 (ix2 b k) = A0 m c (ix3 b 0 k) := by
  unfold V A0
  after_reads_at

/-- The host's reshape of the norm's weights to one row. -/
theorem V_v1 (c : Dev nD) (k : Fin 2048) : V m c main_v1 (ix2 0 k) = A1 m c (ix1 k) := by
  unfold V A1
  after_reads_at

/-- The host's reshape of the weights' scales to one row. -/
theorem V_v2 (c : Dev nD) (j : Fin 8416) : V m c main_v2 (ix2 0 j) = A3 m c (ix1 j) := by
  unfold V A3
  after_reads_at

/-! ## The one point's blocks are the whole arrays -/

/-- Every window is at its array's one block. -/
theorem idx_facts : ∀ t : Fin cfg0.N, (∀ a : Fin 2, win0_0.index t a = 0)
    ∧ (∀ a : Fin 2, win0_1.index t a = 0) ∧ (∀ a : Fin 2, win0_2.index t a = 0) ∧ (∀ a : Fin 2, win0_3.index t a = 0) :=
  (by decide +kernel : ∀ t : Fin grid0.N, _)

/-- So is every output window. -/
theorem idx_out : ∀ t : Fin cfg0.N, (∀ a : Fin 2, win0_4.index t a = 0) ∧ (∀ a : Fin 2, win0_5.index t a = 0)
    ∧ (∀ a : Fin 2, win0_6.index t a = 0) :=
  (by decide +kernel : ∀ t : Fin grid0.N, _)

/-- The layer's input, read whole. -/
theorem iblk0 (c : Dev nD) (t : Fin cfg0.N) (b : Fin 640) (k : Fin 2048) : iblk m c 0 t (ix2 b k) = A0 m c (ix3 b 0 k) := by
  obtain ⟨e, -⟩ := idx_facts t
  refine (congrArg (V m c main_v0) (funext fun a => Fin.ext ?_)).trans (V_v0 m c b k)
  show win0_0.index t a * _ + 1 * ((ix2 b k : S640x2048.Idx) a).val = ((ix2 b k : S640x2048.Idx) a).val
  rw [e a]; omega

/-- The norm's weights, read whole. -/
theorem iblk1 (c : Dev nD) (t : Fin cfg0.N) (k : Fin 2048) : iblk m c 1 t (ix2 0 k) = A1 m c (ix1 k) := by
  obtain ⟨-, e, -⟩ := idx_facts t
  refine (congrArg (V m c main_v1) (funext fun a => Fin.ext ?_)).trans (V_v1 m c k)
  show win0_1.index t a * _ + 1 * ((ix2 (0 : Fin 1) k : S1x2048.Idx) a).val = ((ix2 (0 : Fin 1) k : S1x2048.Idx) a).val
  rw [e a]; omega

/-- The weights' codes, read whole. -/
theorem iblk2 (c : Dev nD) (t : Fin cfg0.N) : iblk m c 2 t = A2 m c := by
  obtain ⟨-, -, e, -⟩ := idx_facts t
  funext y
  refine (congrArg (V m c main_arg2) (funext fun a => Fin.ext ?_)).trans (congrFun (V_main_arg2 m c) _)
  show win0_2.index t a * _ + 1 * (y a).val = (y a).val
  rw [e a]; omega

/-- The weights' scales, read whole. -/
theorem iblk3 (c : Dev nD) (t : Fin cfg0.N) (j : Fin 8416) : iblk m c 3 t (ix2 0 j) = A3 m c (ix1 j) := by
  obtain ⟨-, -, -, e⟩ := idx_facts t
  refine (congrArg (V m c main_v2) (funext fun a => Fin.ext ?_)).trans (V_v2 m c j)
  show win0_3.index t a * _ + 1 * ((ix2 (0 : Fin 1) j : S1x8416.Idx) a).val = ((ix2 (0 : Fin 1) j : S1x8416.Idx) a).val
  rw [e a]; omega

/-! ## The result arrays -/

/-- Window 4's one block is its array: an index of the block is that index of the array, -/
theorem emb4 (t : Fin cfg0.N) (y : S8416x640.Idx) : ((cfg0.win 4).blk t).view.emb y = y := by
  obtain ⟨e, -⟩ := idx_out t
  refine funext fun a => Fin.ext ?_
  show win0_4.index t a * _ + 1 * (y a).val = (y a).val
  rw [e a]; omega

/-- and every index of the array is in it. -/
theorem mem4 (t : Fin cfg0.N) (i : S8416x640.Idx) : i ∈ ((cfg0.win 4).blk t).view.set := by
  show i ∈ ((View.whole main_v3_0).slice (win0_4.rect t)).set
  obtain ⟨e, -⟩ := idx_out t
  rw [View.set_slice_whole, Rect.mem_set_unit]
  intro a
  show win0_4.index t a * S8416x640.size a ≤ (i a).val ∧ (i a).val < win0_4.index t a * S8416x640.size a + S8416x640.size a
  rw [e a]
  exact ⟨by omega, by have := (i a).isLt; omega⟩

/-- Result 0: the projection, one column per row of the input. -/
theorem final4 (c : Dev nD) : (dats m 0 c).arrAt 4 cfg0.N = fun i : S8416x640.Idx => proj m c (i 1) (i 0) := by
  refine (dats m 0 c).arrAt_eq_of_cover 4 _ (fun t hf => ?_) (fun i => ⟨⟨0, by decide⟩, flush0_4 _, mem4 _ i⟩)
  show (cfg0.win 4).cut (grid0.coords t) ((dats m 0 c).after 4 t) = _
  rw [after0_4]
  funext y
  refine Eq.trans ?_ (congrArg (fun i : S8416x640.Idx => proj m c (i 1) (i 0)) (emb4 t y).symm)
  idx_vars y
  refine (out4_at (iblk m c 0 t) (iblk m c 1 t) (iblk m c 2 t) (iblk m c 3 t) _ _).trans ?_
  simp only [iblk0, iblk1, iblk2, iblk3]

/-- Window 5's one block is its array: an index of the block is that index of the array, -/
theorem emb5 (t : Fin cfg0.N) (y : S640x2048.Idx) : ((cfg0.win 5).blk t).view.emb y = y := by
  obtain ⟨-, e, -⟩ := idx_out t
  refine funext fun a => Fin.ext ?_
  show win0_5.index t a * _ + 1 * (y a).val = (y a).val
  rw [e a]; omega

/-- and every index of the array is in it. -/
theorem mem5 (t : Fin cfg0.N) (i : S640x2048.Idx) : i ∈ ((cfg0.win 5).blk t).view.set := by
  show i ∈ ((View.whole main_v3_1).slice (win0_5.rect t)).set
  obtain ⟨-, e, -⟩ := idx_out t
  rw [View.set_slice_whole, Rect.mem_set_unit]
  intro a
  show win0_5.index t a * S640x2048.size a ≤ (i a).val ∧ (i a).val < win0_5.index t a * S640x2048.size a + S640x2048.size a
  rw [e a]
  exact ⟨by omega, by have := (i a).isLt; omega⟩

/-- Result 1: the codes of the normalised rows. -/
theorem final5 (c : Dev nD) : (dats m 0 c).arrAt 5 cfg0.N = fun i : S640x2048.Idx => qCode (nrow m c (i 0)) (i 1) := by
  refine (dats m 0 c).arrAt_eq_of_cover 5 _ (fun t hf => ?_) (fun i => ⟨⟨0, by decide⟩, flush0_5 _, mem5 _ i⟩)
  show (cfg0.win 5).cut (grid0.coords t) ((dats m 0 c).after 5 t) = _
  rw [after0_5]
  funext y
  refine Eq.trans ?_ (congrArg (fun i : S640x2048.Idx => qCode (nrow m c (i 0)) (i 1)) (emb5 t y).symm)
  idx_vars y
  refine (out5_at (iblk m c 0 t) (iblk m c 1 t) (iblk m c 2 t) (iblk m c 3 t) _ _).trans ?_
  simp only [iblk0, iblk1, iblk2, iblk3]

/-- Window 6's one block is its array: an index of the block is that index of the array, -/
theorem emb6 (t : Fin cfg0.N) (y : S1x640.Idx) : ((cfg0.win 6).blk t).view.emb y = y := by
  obtain ⟨-, -, e⟩ := idx_out t
  refine funext fun a => Fin.ext ?_
  show win0_6.index t a * _ + 1 * (y a).val = (y a).val
  rw [e a]; omega

/-- and every index of the array is in it. -/
theorem mem6 (t : Fin cfg0.N) (i : S1x640.Idx) : i ∈ ((cfg0.win 6).blk t).view.set := by
  show i ∈ ((View.whole main_v3_2).slice (win0_6.rect t)).set
  obtain ⟨-, -, e⟩ := idx_out t
  rw [View.set_slice_whole, Rect.mem_set_unit]
  intro a
  show win0_6.index t a * S1x640.size a ≤ (i a).val ∧ (i a).val < win0_6.index t a * S1x640.size a + S1x640.size a
  rw [e a]
  exact ⟨by omega, by have := (i a).isLt; omega⟩

/-- Result 2: the scales of the normalised rows. -/
theorem final6 (c : Dev nD) : (dats m 0 c).arrAt 6 cfg0.N = fun i : S1x640.Idx => qScale (nrow m c (i 1)) := by
  refine (dats m 0 c).arrAt_eq_of_cover 6 _ (fun t hf => ?_) (fun i => ⟨⟨0, by decide⟩, flush0_6 _, mem6 _ i⟩)
  show (cfg0.win 6).cut (grid0.coords t) ((dats m 0 c).after 6 t) = _
  rw [after0_6]
  funext y
  refine Eq.trans ?_ (congrArg (fun i : S1x640.Idx => qScale (nrow m c (i 1))) (emb6 t y).symm)
  idx_vars y
  refine (out6_at (iblk m c 0 t) (iblk m c 1 t) (iblk m c 2 t) (iblk m c 3 t) _ _).trans ?_
  simp only [iblk0, iblk1, iblk2, iblk3]

end Cert.InProjRefIdeal.Hand

end
-- ==== Proof.InProjClaim.lean ====
/-
  The input projection call against its reference: from memories that agree on the arguments both runs leave the same three arrays.
-/
module

public import proofs.«01_k».proof.Defs
public import proofs.«01_k».proof.Proof.InProjKernel
public import proofs.«01_k».proof.Proof.InProjReference

@[expose] public section

set_option maxRecDepth 16384

noncomputable section

namespace Cert.InProjClaim

open Idealize.ShloMosaic Idealize.ShloMosaic.TcCoe Idealize.SL.Sem Cert Cert.Spec

/-- Both programs leave, entry by entry, the same function of the arguments in each of the three result arrays. -/
theorem algebraic : algebraic_InProjIdeal_InProjRefIdeal (hInProjIdeal := Cert.InProjIdeal.Gen.facts)
    (hInProjRefIdeal := Cert.InProjRefIdeal.Gen.facts) := by
  intro m ρ m' ρ' _ hag
  have e0 : ∀ c, Cert.InProjRefIdeal.Hand.A0 m' c = Cert.InProjIdeal.Hand.A0 m c := fun c => (hag c).1
  have e1 : ∀ c, Cert.InProjRefIdeal.Hand.A1 m' c = Cert.InProjIdeal.Hand.A1 m c := fun c => (hag c).2.1
  have e2 : ∀ c, Cert.InProjRefIdeal.Hand.A2 m' c = Cert.InProjIdeal.Hand.A2 m c := fun c => (hag c).2.2.1
  have e3 : ∀ c, Cert.InProjRefIdeal.Hand.A3 m' c = Cert.InProjIdeal.Hand.A3 m c := fun c => (hag c).2.2.2
  have en : ∀ c b, Cert.InProjRefIdeal.Hand.nrow m' c b = Cert.InProjIdeal.Hand.nrow m c b := fun c b => by
    unfold Cert.InProjRefIdeal.Hand.nrow Cert.InProjIdeal.Hand.nrow
    rw [e0, e1]
  have ep : ∀ c b j, Cert.InProjRefIdeal.Hand.proj m' c b j = Cert.InProjIdeal.Hand.proj m c b j := fun c b j => by
    unfold Cert.InProjRefIdeal.Hand.proj Cert.InProjIdeal.Hand.proj
    rw [en, e2, e3]
  refine ⟨_, _, _, Cert.InProjIdeal.Hand.run_blocks m ρ,
    (θ_run _ _ _).mono (fun r h c => ⟨(h c).1.trans ?_, (h c).2.1.trans ?_, (h c).2.2.1.trans ?_,
      (h c).2.2.2⟩) (Cert.InProjRefIdeal.Value.run_blocks m' ρ')⟩
  · have h4 : (fun i : Cert.InProjIdeal.S8416x640.Idx => Cert.InProjRefIdeal.Hand.proj m' c (i 1) (i 0))
        = fun i : Cert.InProjIdeal.S8416x640.Idx => Cert.InProjIdeal.Hand.proj m c (i 1) (i 0) :=
      funext fun i => ep c (i 1) (i 0)
    exact ((Cert.InProjRefIdeal.Hand.final4 m' c).trans h4).trans (Cert.InProjIdeal.Hand.final4 m c).symm
  · have h5 : (fun i : Cert.InProjIdeal.S640x2048.Idx => qCode (Cert.InProjRefIdeal.Hand.nrow m' c (i 0)) (i 1))
        = fun i : Cert.InProjIdeal.S640x2048.Idx => qCode (Cert.InProjIdeal.Hand.nrow m c (i 0)) (i 1) :=
      funext fun i => congrArg (fun v => qCode v (i 1)) (en c (i 0))
    exact ((Cert.InProjRefIdeal.Hand.final5 m' c).trans h5).trans (Cert.InProjIdeal.Hand.final5 m c).symm
  · have h6 : (fun i : Cert.InProjIdeal.S1x640.Idx => qScale (Cert.InProjRefIdeal.Hand.nrow m' c (i 1)))
        = fun i : Cert.InProjIdeal.S1x640.Idx => qScale (Cert.InProjIdeal.Hand.nrow m c (i 1)) :=
      funext fun i => congrArg qScale (en c (i 1))
    exact ((Cert.InProjRefIdeal.Hand.final6 m' c).trans h6).trans (Cert.InProjIdeal.Hand.final6 m c).symm

end Cert.InProjClaim

end
-- ==== Proof.InProjBody.lean ====
/- What the kernel's body leaves at one grid point, as functions of the blocks it reads, and the body's branch condition. -/
module

public import proofs.«01_k».proof.Proof.Gen.InProj.Frame
public import proofs.«01_k».proof.Proof.Gen.InProj.Skeleton
public import Idealize.ShloMosaic.Lib.WritesUnit
public import Idealize.ShloMosaic.Lib.Pipeline.Value

@[expose] public section

set_option maxRecDepth 16384

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- Offsets all zero, of rank two. -/
theorem hz2 : (![0, 0] : Fin 2 → ℕ) = fun _ => 0 := by decide

/-- The codes of the normalised rows, in five bands of 128 rows. -/
def codesOf (x0 : Vec F S640x2048 .bf16) (x1 : Vec F S1x2048 .f32) : Vec F S640x2048 .fp8e4m3 := View.canon [
    ⟨Rect.unit (s := S640x2048) ![512, 0] S128x2048.size inb_S640x2048_S128x2048_512_0, (k0_pay23 (k0_pay20 (View.ld x0 (Rect.unit (s := S640x2048) ![512, 0] S128x2048.size inb_S640x2048_S128x2048_512_0))) ((View.ld x1 (Rect.unit (s := S1x2048) ![0, 0] S1x2048.size inb_S1x2048_S1x2048_0_0))))⟩,
    ⟨Rect.unit (s := S640x2048) ![384, 0] S128x2048.size inb_S640x2048_S128x2048_384_0, (k0_pay18 (k0_pay15 (View.ld x0 (Rect.unit (s := S640x2048) ![384, 0] S128x2048.size inb_S640x2048_S128x2048_384_0))) (View.ld x1 (Rect.unit (s := S1x2048) ![0, 0] S1x2048.size inb_S1x2048_S1x2048_0_0)))⟩,
    ⟨Rect.unit (s := S640x2048) ![256, 0] S128x2048.size inb_S640x2048_S128x2048_256_0, (k0_pay13 (k0_pay10 (View.ld x0 (Rect.unit (s := S640x2048) ![256, 0] S128x2048.size inb_S640x2048_S128x2048_256_0))) (View.ld x1 (Rect.unit (s := S1x2048) ![0, 0] S1x2048.size inb_S1x2048_S1x2048_0_0)))⟩,
    ⟨Rect.unit (s := S640x2048) ![128, 0] S128x2048.size inb_S640x2048_S128x2048_128_0, (k0_pay8 (View.ld x0 (Rect.unit (s := S640x2048) ![128, 0] S128x2048.size inb_S640x2048_S128x2048_128_0)) (View.ld x1 (Rect.unit (s := S1x2048) ![0, 0] S1x2048.size inb_S1x2048_S1x2048_0_0)))⟩,
    ⟨Rect.unit (s := S640x2048) ![0, 0] S128x2048.size inb_S640x2048_S128x2048_0_0, (k0_pay4 (View.ld x0 (Rect.unit (s := S640x2048) ![0, 0] S128x2048.size inb_S640x2048_S128x2048_0_0)) (View.ld x1 (Rect.unit (s := S1x2048) ![0, 0] S1x2048.size inb_S1x2048_S1x2048_0_0)))⟩]

/-- The scales of the normalised rows, in five bands of 128. -/
def scalesOf (x0 : Vec F S640x2048 .bf16) (x1 : Vec F S1x2048 .f32) : Vec F S1x640 .f32 := View.canon [
    ⟨Rect.unit (s := S1x640) ![0, 512] S1x128.size inb_S1x640_S1x128_0_512, (k0_pay24 (k0_pay20 (View.ld x0 (Rect.unit (s := S640x2048) ![512, 0] S128x2048.size inb_S640x2048_S128x2048_512_0))) ((View.ld x1 (Rect.unit (s := S1x2048) ![0, 0] S1x2048.size inb_S1x2048_S1x2048_0_0))))⟩,
    ⟨Rect.unit (s := S1x640) ![0, 384] S1x128.size inb_S1x640_S1x128_0_384, (k0_pay19 (k0_pay15 (View.ld x0 (Rect.unit (s := S640x2048) ![384, 0] S128x2048.size inb_S640x2048_S128x2048_384_0))) (View.ld x1 (Rect.unit (s := S1x2048) ![0, 0] S1x2048.size inb_S1x2048_S1x2048_0_0)))⟩,
    ⟨Rect.unit (s := S1x640) ![0, 256] S1x128.size inb_S1x640_S1x128_0_256, (k0_pay14 (k0_pay10 (View.ld x0 (Rect.unit (s := S640x2048) ![256, 0] S128x2048.size inb_S640x2048_S128x2048_256_0))) (View.ld x1 (Rect.unit (s := S1x2048) ![0, 0] S1x2048.size inb_S1x2048_S1x2048_0_0)))⟩,
    ⟨Rect.unit (s := S1x640) ![0, 128] S1x128.size inb_S1x640_S1x128_0_128, (k0_pay9 (View.ld x0 (Rect.unit (s := S640x2048) ![128, 0] S128x2048.size inb_S640x2048_S128x2048_128_0)) (View.ld x1 (Rect.unit (s := S1x2048) ![0, 0] S1x2048.size inb_S1x2048_S1x2048_0_0)))⟩,
    ⟨Rect.unit (s := S1x640) ![0, 0] S1x128.size inb_S1x640_S1x128_0_0, (k0_pay5 (View.ld x0 (Rect.unit (s := S640x2048) ![0, 0] S128x2048.size inb_S640x2048_S128x2048_0_0)) (View.ld x1 (Rect.unit (s := S1x2048) ![0, 0] S1x2048.size inb_S1x2048_S1x2048_0_0)))⟩]

/-- The products a point writes, in forty tiles of 128 by 128, each tile of the whole product scaled by its columns and its rows. -/
def pTiles (x2 : Vec F S1024x2048 .fp8e4m3) (x3 : Vec F S1x1024 .f32) (xc : Vec F S640x2048 .fp8e4m3) (xs : Vec F S1x640 .f32) : Vec F S1024x640 .f32 := View.canon [
    ⟨Rect.unit (s := S1024x640) ![896, 512] S128x128.size inb_S1024x640_S128x128_896_512, (k0_pay1 (k0_pay25 x2 xc) (k0_pay74 (View.ld x3 (Rect.unit (s := S1x1024) ![0, 896] S1x128.size inb_S1x1024_S1x128_0_896))) (View.ld xs (Rect.unit (s := S1x640) ![0, 512] S1x128.size inb_S1x640_S1x128_0_512)))⟩,
    ⟨Rect.unit (s := S1024x640) ![896, 384] S128x128.size inb_S1024x640_S128x128_896_384, (k0_pay78 (k0_pay25 x2 xc) (View.ld x3 (Rect.unit (s := S1x1024) ![0, 896] S1x128.size inb_S1x1024_S1x128_0_896)) (View.ld xs (Rect.unit (s := S1x640) ![0, 384] S1x128.size inb_S1x640_S1x128_0_384)))⟩,
    ⟨Rect.unit (s := S1024x640) ![896, 256] S128x128.size inb_S1024x640_S128x128_896_256, (k0_pay77 (k0_pay25 x2 xc) (View.ld x3 (Rect.unit (s := S1x1024) ![0, 896] S1x128.size inb_S1x1024_S1x128_0_896)) (View.ld xs (Rect.unit (s := S1x640) ![0, 256] S1x128.size inb_S1x640_S1x128_0_256)))⟩,
    ⟨Rect.unit (s := S1024x640) ![896, 128] S128x128.size inb_S1024x640_S128x128_896_128, (k0_pay76 (k0_pay25 x2 xc) (View.ld x3 (Rect.unit (s := S1x1024) ![0, 896] S1x128.size inb_S1x1024_S1x128_0_896)) (View.ld xs (Rect.unit (s := S1x640) ![0, 128] S1x128.size inb_S1x640_S1x128_0_128)))⟩,
    ⟨Rect.unit (s := S1024x640) ![896, 0] S128x128.size inb_S1024x640_S128x128_896_0, (k0_pay75 (k0_pay25 x2 xc) (View.ld x3 (Rect.unit (s := S1x1024) ![0, 896] S1x128.size inb_S1x1024_S1x128_0_896)) (View.ld xs (Rect.unit (s := S1x640) ![0, 0] S1x128.size inb_S1x640_S1x128_0_0)))⟩,
    ⟨Rect.unit (s := S1024x640) ![768, 512] S128x128.size inb_S1024x640_S128x128_768_512, (k0_pay73 (k0_pay66 (View.ld x3 (Rect.unit (s := S1x1024) ![0, 768] S1x128.size inb_S1x1024_S1x128_0_768))) (k0_pay71 (k0_pay25 x2 xc)) (k0_pay72 (View.ld xs (Rect.unit (s := S1x640) ![0, 512] S1x128.size inb_S1x640_S1x128_0_512))))⟩,
    ⟨Rect.unit (s := S1024x640) ![768, 384] S128x128.size inb_S1024x640_S128x128_768_384, (k0_pay70 (k0_pay25 x2 xc) (View.ld x3 (Rect.unit (s := S1x1024) ![0, 768] S1x128.size inb_S1x1024_S1x128_0_768)) (View.ld xs (Rect.unit (s := S1x640) ![0, 384] S1x128.size inb_S1x640_S1x128_0_384)))⟩,
    ⟨Rect.unit (s := S1024x640) ![768, 256] S128x128.size inb_S1024x640_S128x128_768_256, (k0_pay69 (k0_pay25 x2 xc) (View.ld x3 (Rect.unit (s := S1x1024) ![0, 768] S1x128.size inb_S1x1024_S1x128_0_768)) (View.ld xs (Rect.unit (s := S1x640) ![0, 256] S1x128.size inb_S1x640_S1x128_0_256)))⟩,
    ⟨Rect.unit (s := S1024x640) ![768, 128] S128x128.size inb_S1024x640_S128x128_768_128, (k0_pay68 (k0_pay25 x2 xc) (View.ld x3 (Rect.unit (s := S1x1024) ![0, 768] S1x128.size inb_S1x1024_S1x128_0_768)) (View.ld xs (Rect.unit (s := S1x640) ![0, 128] S1x128.size inb_S1x640_S1x128_0_128)))⟩,
    ⟨Rect.unit (s := S1024x640) ![768, 0] S128x128.size inb_S1024x640_S128x128_768_0, (k0_pay67 (k0_pay25 x2 xc) (View.ld x3 (Rect.unit (s := S1x1024) ![0, 768] S1x128.size inb_S1x1024_S1x128_0_768)) (View.ld xs (Rect.unit (s := S1x640) ![0, 0] S1x128.size inb_S1x640_S1x128_0_0)))⟩,
    ⟨Rect.unit (s := S1024x640) ![640, 512] S128x128.size inb_S1024x640_S128x128_640_512, (k0_pay65 (k0_pay25 x2 xc) (k0_pay59 (View.ld x3 (Rect.unit (s := S1x1024) ![0, 640] S1x128.size inb_S1x1024_S1x128_0_640))) (View.ld xs (Rect.unit (s := S1x640) ![0, 512] S1x128.size inb_S1x640_S1x128_0_512)))⟩,
    ⟨Rect.unit (s := S1024x640) ![640, 384] S128x128.size inb_S1024x640_S128x128_640_384, (k0_pay64 (k0_pay25 x2 xc) (k0_pay59 (View.ld x3 (Rect.unit (s := S1x1024) ![0, 640] S1x128.size inb_S1x1024_S1x128_0_640))) (View.ld xs (Rect.unit (s := S1x640) ![0, 384] S1x128.size inb_S1x640_S1x128_0_384)))⟩,
    ⟨Rect.unit (s := S1024x640) ![640, 256] S128x128.size inb_S1024x640_S128x128_640_256, (k0_pay63 (k0_pay25 x2 xc) (k0_pay59 (View.ld x3 (Rect.unit (s := S1x1024) ![0, 640] S1x128.size inb_S1x1024_S1x128_0_640))) (View.ld xs (Rect.unit (s := S1x640) ![0, 256] S1x128.size inb_S1x640_S1x128_0_256)))⟩,
    ⟨Rect.unit (s := S1024x640) ![640, 128] S128x128.size inb_S1024x640_S128x128_640_128, (k0_pay62 (k0_pay25 x2 xc) (k0_pay59 (View.ld x3 (Rect.unit (s := S1x1024) ![0, 640] S1x128.size inb_S1x1024_S1x128_0_640))) (View.ld xs (Rect.unit (s := S1x640) ![0, 128] S1x128.size inb_S1x640_S1x128_0_128)))⟩,
    ⟨Rect.unit (s := S1024x640) ![640, 0] S128x128.size inb_S1024x640_S128x128_640_0, (k0_pay61 (k0_pay59 (View.ld x3 (Rect.unit (s := S1x1024) ![0, 640] S1x128.size inb_S1x1024_S1x128_0_640))) (k0_pay60 (k0_pay25 x2 xc)) (View.ld xs (Rect.unit (s := S1x640) ![0, 0] S1x128.size inb_S1x640_S1x128_0_0)))⟩,
    ⟨Rect.unit (s := S1024x640) ![512, 512] S128x128.size inb_S1024x640_S128x128_512_512, (k0_pay58 (k0_pay25 x2 xc) (k0_pay53 (View.ld x3 (Rect.unit (s := S1x1024) ![0, 512] S1x128.size inb_S1x1024_S1x128_0_512))) (View.ld xs (Rect.unit (s := S1x640) ![0, 512] S1x128.size inb_S1x640_S1x128_0_512)))⟩,
    ⟨Rect.unit (s := S1024x640) ![512, 384] S128x128.size inb_S1024x640_S128x128_512_384, (k0_pay57 (k0_pay25 x2 xc) (k0_pay53 (View.ld x3 (Rect.unit (s := S1x1024) ![0, 512] S1x128.size inb_S1x1024_S1x128_0_512))) (View.ld xs (Rect.unit (s := S1x640) ![0, 384] S1x128.size inb_S1x640_S1x128_0_384)))⟩,
    ⟨Rect.unit (s := S1024x640) ![512, 256] S128x128.size inb_S1024x640_S128x128_512_256, (k0_pay56 (k0_pay25 x2 xc) (k0_pay53 (View.ld x3 (Rect.unit (s := S1x1024) ![0, 512] S1x128.size inb_S1x1024_S1x128_0_512))) (View.ld xs (Rect.unit (s := S1x640) ![0, 256] S1x128.size inb_S1x640_S1x128_0_256)))⟩,
    ⟨Rect.unit (s := S1024x640) ![512, 128] S128x128.size inb_S1024x640_S128x128_512_128, (k0_pay55 (k0_pay25 x2 xc) (k0_pay53 (View.ld x3 (Rect.unit (s := S1x1024) ![0, 512] S1x128.size inb_S1x1024_S1x128_0_512))) (View.ld xs (Rect.unit (s := S1x640) ![0, 128] S1x128.size inb_S1x640_S1x128_0_128)))⟩,
    ⟨Rect.unit (s := S1024x640) ![512, 0] S128x128.size inb_S1024x640_S128x128_512_0, (k0_pay54 (k0_pay25 x2 xc) (View.ld x3 (Rect.unit (s := S1x1024) ![0, 512] S1x128.size inb_S1x1024_S1x128_0_512)) (View.ld xs (Rect.unit (s := S1x640) ![0, 0] S1x128.size inb_S1x640_S1x128_0_0)))⟩,
    ⟨Rect.unit (s := S1024x640) ![384, 512] S128x128.size inb_S1024x640_S128x128_384_512, (k0_pay52 (k0_pay25 x2 xc) (k0_pay46 (View.ld x3 (Rect.unit (s := S1x1024) ![0, 384] S1x128.size inb_S1x1024_S1x128_0_384))) (View.ld xs (Rect.unit (s := S1x640) ![0, 512] S1x128.size inb_S1x640_S1x128_0_512)))⟩,
    ⟨Rect.unit (s := S1024x640) ![384, 384] S128x128.size inb_S1024x640_S128x128_384_384, (k0_pay51 (k0_pay25 x2 xc) (k0_pay46 (View.ld x3 (Rect.unit (s := S1x1024) ![0, 384] S1x128.size inb_S1x1024_S1x128_0_384))) (View.ld xs (Rect.unit (s := S1x640) ![0, 384] S1x128.size inb_S1x640_S1x128_0_384)))⟩,
    ⟨Rect.unit (s := S1024x640) ![384, 256] S128x128.size inb_S1024x640_S128x128_384_256, (k0_pay50 (k0_pay25 x2 xc) (k0_pay46 (View.ld x3 (Rect.unit (s := S1x1024) ![0, 384] S1x128.size inb_S1x1024_S1x128_0_384))) (View.ld xs (Rect.unit (s := S1x640) ![0, 256] S1x128.size inb_S1x640_S1x128_0_256)))⟩,
    ⟨Rect.unit (s := S1024x640) ![384, 128] S128x128.size inb_S1024x640_S128x128_384_128, (k0_pay49 (k0_pay46 (View.ld x3 (Rect.unit (s := S1x1024) ![0, 384] S1x128.size inb_S1x1024_S1x128_0_384))) (k0_pay48 (k0_pay25 x2 xc)) (View.ld xs (Rect.unit (s := S1x640) ![0, 128] S1x128.size inb_S1x640_S1x128_0_128)))⟩,
    ⟨Rect.unit (s := S1024x640) ![384, 0] S128x128.size inb_S1024x640_S128x128_384_0, (k0_pay47 (k0_pay25 x2 xc) (View.ld x3 (Rect.unit (s := S1x1024) ![0, 384] S1x128.size inb_S1x1024_S1x128_0_384)) (View.ld xs (Rect.unit (s := S1x640) ![0, 0] S1x128.size inb_S1x640_S1x128_0_0)))⟩,
    ⟨Rect.unit (s := S1024x640) ![256, 512] S128x128.size inb_S1024x640_S128x128_256_512, (k0_pay45 (k0_pay25 x2 xc) (k0_pay40 (View.ld x3 (Rect.unit (s := S1x1024) ![0, 256] S1x128.size inb_S1x1024_S1x128_0_256))) (View.ld xs (Rect.unit (s := S1x640) ![0, 512] S1x128.size inb_S1x640_S1x128_0_512)))⟩,
    ⟨Rect.unit (s := S1024x640) ![256, 384] S128x128.size inb_S1024x640_S128x128_256_384, (k0_pay44 (k0_pay25 x2 xc) (k0_pay40 (View.ld x3 (Rect.unit (s := S1x1024) ![0, 256] S1x128.size inb_S1x1024_S1x128_0_256))) (View.ld xs (Rect.unit (s := S1x640) ![0, 384] S1x128.size inb_S1x640_S1x128_0_384)))⟩,
    ⟨Rect.unit (s := S1024x640) ![256, 256] S128x128.size inb_S1024x640_S128x128_256_256, (k0_pay43 (k0_pay25 x2 xc) (k0_pay40 (View.ld x3 (Rect.unit (s := S1x1024) ![0, 256] S1x128.size inb_S1x1024_S1x128_0_256))) (View.ld xs (Rect.unit (s := S1x640) ![0, 256] S1x128.size inb_S1x640_S1x128_0_256)))⟩,
    ⟨Rect.unit (s := S1024x640) ![256, 128] S128x128.size inb_S1024x640_S128x128_256_128, (k0_pay42 (k0_pay25 x2 xc) (View.ld x3 (Rect.unit (s := S1x1024) ![0, 256] S1x128.size inb_S1x1024_S1x128_0_256)) (View.ld xs (Rect.unit (s := S1x640) ![0, 128] S1x128.size inb_S1x640_S1x128_0_128)))⟩,
    ⟨Rect.unit (s := S1024x640) ![256, 0] S128x128.size inb_S1024x640_S128x128_256_0, (k0_pay41 (k0_pay25 x2 xc) (View.ld x3 (Rect.unit (s := S1x1024) ![0, 256] S1x128.size inb_S1x1024_S1x128_0_256)) (View.ld xs (Rect.unit (s := S1x640) ![0, 0] S1x128.size inb_S1x640_S1x128_0_0)))⟩,
    ⟨Rect.unit (s := S1024x640) ![128, 512] S128x128.size inb_S1024x640_S128x128_128_512, (k0_pay39 (k0_pay25 x2 xc) (k0_pay32 (View.ld x3 (Rect.unit (s := S1x1024) ![0, 128] S1x128.size inb_S1x1024_S1x128_0_128))) (View.ld xs (Rect.unit (s := S1x640) ![0, 512] S1x128.size inb_S1x640_S1x128_0_512)))⟩,
    ⟨Rect.unit (s := S1024x640) ![128, 384] S128x128.size inb_S1024x640_S128x128_128_384, (k0_pay38 (k0_pay25 x2 xc) (k0_pay32 (View.ld x3 (Rect.unit (s := S1x1024) ![0, 128] S1x128.size inb_S1x1024_S1x128_0_128))) (View.ld xs (Rect.unit (s := S1x640) ![0, 384] S1x128.size inb_S1x640_S1x128_0_384)))⟩,
    ⟨Rect.unit (s := S1024x640) ![128, 256] S128x128.size inb_S1024x640_S128x128_128_256, (k0_pay37 (k0_pay32 (View.ld x3 (Rect.unit (s := S1x1024) ![0, 128] S1x128.size inb_S1x1024_S1x128_0_128))) (k0_pay35 (k0_pay25 x2 xc)) (k0_pay36 (View.ld xs (Rect.unit (s := S1x640) ![0, 256] S1x128.size inb_S1x640_S1x128_0_256))))⟩,
    ⟨Rect.unit (s := S1024x640) ![128, 128] S128x128.size inb_S1024x640_S128x128_128_128, (k0_pay34 (k0_pay25 x2 xc) (View.ld x3 (Rect.unit (s := S1x1024) ![0, 128] S1x128.size inb_S1x1024_S1x128_0_128)) (View.ld xs (Rect.unit (s := S1x640) ![0, 128] S1x128.size inb_S1x640_S1x128_0_128)))⟩,
    ⟨Rect.unit (s := S1024x640) ![128, 0] S128x128.size inb_S1024x640_S128x128_128_0, (k0_pay33 (k0_pay25 x2 xc) (View.ld x3 (Rect.unit (s := S1x1024) ![0, 128] S1x128.size inb_S1x1024_S1x128_0_128)) (View.ld xs (Rect.unit (s := S1x640) ![0, 0] S1x128.size inb_S1x640_S1x128_0_0)))⟩,
    ⟨Rect.unit (s := S1024x640) ![0, 512] S128x128.size inb_S1024x640_S128x128_0_512, (k0_pay31 (k0_pay25 x2 xc) (k0_pay26 (View.ld x3 (Rect.unit (s := S1x1024) ![0, 0] S1x128.size inb_S1x1024_S1x128_0_0))) (View.ld xs (Rect.unit (s := S1x640) ![0, 512] S1x128.size inb_S1x640_S1x128_0_512)))⟩,
    ⟨Rect.unit (s := S1024x640) ![0, 384] S128x128.size inb_S1024x640_S128x128_0_384, (k0_pay30 (k0_pay25 x2 xc) (k0_pay26 (View.ld x3 (Rect.unit (s := S1x1024) ![0, 0] S1x128.size inb_S1x1024_S1x128_0_0))) (View.ld xs (Rect.unit (s := S1x640) ![0, 384] S1x128.size inb_S1x640_S1x128_0_384)))⟩,
    ⟨Rect.unit (s := S1024x640) ![0, 256] S128x128.size inb_S1024x640_S128x128_0_256, (k0_pay29 x2 xc (View.ld x3 (Rect.unit (s := S1x1024) ![0, 0] S1x128.size inb_S1x1024_S1x128_0_0)) (View.ld xs (Rect.unit (s := S1x640) ![0, 256] S1x128.size inb_S1x640_S1x128_0_256)))⟩,
    ⟨Rect.unit (s := S1024x640) ![0, 128] S128x128.size inb_S1024x640_S128x128_0_128, (k0_pay28 x2 xc (View.ld x3 (Rect.unit (s := S1x1024) ![0, 0] S1x128.size inb_S1x1024_S1x128_0_0)) (View.ld xs (Rect.unit (s := S1x640) ![0, 128] S1x128.size inb_S1x640_S1x128_0_128)))⟩,
    ⟨Rect.unit (s := S1024x640) ![0, 0] S128x128.size inb_S1024x640_S128x128_0_0, (k0_pay27 x2 xc (View.ld x3 (Rect.unit (s := S1x1024) ![0, 0] S1x128.size inb_S1x1024_S1x128_0_0)) (View.ld xs (Rect.unit (s := S1x640) ![0, 0] S1x128.size inb_S1x640_S1x128_0_0)))⟩]

/-- The products a point writes: of its weight rows `x2` and their scales `x3` with the codes `xc` and their scales `xs`. -/
def pOut (x2 : Vec F S1024x2048 .fp8e4m3) (x3 : Vec F S1x1024 .f32) (xc : Vec F S640x2048 .fp8e4m3) (xs : Vec F S1x640 .f32) : Vec F S1024x640 .f32 :=
  pTiles (View.ld x2 (Rect.unit (s := S1024x2048) ![0, 0] S1024x2048.size inb_S1024x2048_S1024x2048_0_0)) x3 (View.ld xc (Rect.unit (s := S640x2048) ![0, 0] S640x2048.size inb_S640x2048_S640x2048_0_0)) xs

/-- The products a point writes, the loads of whole blocks read. -/
theorem pOut_eq (x2 : Vec F S1024x2048 .fp8e4m3) (x3 : Vec F S1x1024 .f32) (xc : Vec F S640x2048 .fp8e4m3) (xs : Vec F S1x640 .f32) : pOut x2 x3 xc xs = pTiles x2 x3 xc xs := by
  unfold pOut; rw [View.ld_unit_zero hz2 _ x2, View.ld_unit_zero hz2 _ xc]

/-! ## The body's branch condition -/

/-- The condition of the body's `scf.if`, from the grid coordinates. -/
abbrev cond0_0 (i : grid0.Coords) : Prop := k0_cond1 i = 1#1
/-- It holds at the first point only. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)
/-- Window 0's current staging buffer. -/
abbrev ms0_0 (t : Fin cfg0.N) : Memref sig .tc .vmem S640x2048 .bf16 := win0_0.stage (cfg0.slots t 0)
/-- It is a whole buffer. -/
abbrev hs0_0 (t : Fin cfg0.N) : (ms0_0 t).IsWhole := hstage0_0 ((cfg0.slots t 0).cast nbuf0_0)
/-- Window 1's current staging buffer. -/
abbrev ms0_1 (t : Fin cfg0.N) : Memref sig .tc .vmem S1x2048 .f32 := win0_1.stage (cfg0.slots t 1)
/-- It is a whole buffer. -/
abbrev hs0_1 (t : Fin cfg0.N) : (ms0_1 t).IsWhole := hstage0_1 ((cfg0.slots t 1).cast nbuf0_1)
/-- Window 2's current staging buffer. -/
abbrev ms0_2 (t : Fin cfg0.N) : Memref sig .tc .vmem S1024x2048 .fp8e4m3 := win0_2.stage (cfg0.slots t 2)
/-- It is a whole buffer. -/
abbrev hs0_2 (t : Fin cfg0.N) : (ms0_2 t).IsWhole := hstage0_2 ((cfg0.slots t 2).cast nbuf0_2)
/-- Window 3's current staging buffer. -/
abbrev ms0_3 (t : Fin cfg0.N) : Memref sig .tc .vmem S1x1024 .f32 := win0_3.stage (cfg0.slots t 3)
/-- It is a whole buffer. -/
abbrev hs0_3 (t : Fin cfg0.N) : (ms0_3 t).IsWhole := hstage0_3 ((cfg0.slots t 3).cast nbuf0_3)
/-- Window 4's current staging buffer. -/
abbrev ms0_4 (t : Fin cfg0.N) : Memref sig .tc .vmem S1024x640 .f32 := win0_4.stage (cfg0.slots t 4)
/-- It is a whole buffer. -/
abbrev hs0_4 (t : Fin cfg0.N) : (ms0_4 t).IsWhole := hstage0_4 ((cfg0.slots t 4).cast nbuf0_4)
/-- Window 5's current staging buffer. -/
abbrev ms0_5 (t : Fin cfg0.N) : Memref sig .tc .vmem S640x2048 .fp8e4m3 := win0_5.stage (cfg0.slots t 5)
/-- It is a whole buffer. -/
abbrev hs0_5 (t : Fin cfg0.N) : (ms0_5 t).IsWhole := hstage0_5 ((cfg0.slots t 5).cast nbuf0_5)
/-- Window 6's current staging buffer. -/
abbrev ms0_6 (t : Fin cfg0.N) : Memref sig .tc .vmem S1x640 .f32 := win0_6.stage (cfg0.slots t 6)
/-- It is a whole buffer. -/
abbrev hs0_6 (t : Fin cfg0.N) : (ms0_6 t).IsWhole := hstage0_6 ((cfg0.slots t 6).cast nbuf0_6)

end Cert.InProj.Hand

end
-- ==== Proof.InProjRunA.lean ====
/- The body's run at the first grid point. -/
module

public import proofs.«01_k».proof.Proof.InProjBody

@[expose] public section

set_option maxRecDepth 16384

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

set_option maxHeartbeats 4000000 in
/-- The first point: the normalised rows are quantised, then the products of its weight rows are made. -/
theorem run_A (c : Dev nD) (i : grid0.Coords) (arg1 : Memref sig .tc .vmem S640x2048 .bf16) (harg1 : arg1.IsWhole) (arg2 : Memref sig .tc .vmem S1x2048 .f32) (harg2 : arg2.IsWhole) (arg3 : Memref sig .tc .vmem S1024x2048 .fp8e4m3) (harg3 : arg3.IsWhole) (arg4 : Memref sig .tc .vmem S1x1024 .f32) (harg4 : arg4.IsWhole) (arg5 : Memref sig .tc .vmem S1024x640 .f32) (harg5 : arg5.IsWhole) (arg6 : Memref sig .tc .vmem S640x2048 .fp8e4m3) (harg6 : arg6.IsWhole) (arg7 : Memref sig .tc .vmem S1x640 .f32) (harg7 : arg7.IsWhole) (hc0 : cond0_0 i)
    (x0 : Vec F S640x2048 .bf16) (x1 : Vec F S1x2048 .f32) (x2 : Vec F S1024x2048 .fp8e4m3) (x3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (pOut x2 x3 (codesOf x0 x1) (scalesOf x0 x1)) ∗ owns (c : Thread nD τ) arg6 fullShare (codesOf x0 x1) ∗ owns (c : Thread nD τ) arg7 fullShare (scalesOf x0 x1)) -∗ K ⟨⟩))
      ⊢ wp frame (wpE (defs₀ (F := F)) Variants.none c none) E (cc0_in_proj i arg1 harg1 arg2 harg2 arg3 harg3 arg4 harg4 arg5 harg5 arg6 harg6 arg7 harg7) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; rw [View.read_writes_eq_canon _ _ _ (View.cover_of_tiledL (s := S1024x640) _ ![128,128] (by sl_kernel_rfl))]
    sl_unfold_words
    simp only [View.readAt_eq_ld, View.readCov_eq_canon', harg1.read_unread, harg2.read_unread, harg3.read_unread, harg4.read_unread]
    rfl
  isplitl [H5]
  · iexists _; isplitr; swap; · iexact H5
    ipureintro; rw [View.read_writes_eq_canon _ _ _ (View.cover_of_tiledL (s := S640x2048) _ ![128,2048] (by sl_kernel_rfl))]
    sl_unfold_words
    simp only [View.readAt_eq_ld, View.readCov_eq_canon', harg1.read_unread, harg2.read_unread, harg3.read_unread, harg4.read_unread]
    rfl
  iexists _; isplitr; swap; · iexact H6
  ipureintro; rw [View.read_writes_eq_canon _ _ _ (View.cover_of_tiledL (s := S1x640) _ ![1,128] (by sl_kernel_rfl))]
  sl_unfold_words
  simp only [View.readAt_eq_ld, View.readCov_eq_canon', harg1.read_unread, harg2.read_unread, harg3.read_unread, harg4.read_unread]
  rfl

end Cert.InProj.Hand

end
-- ==== Proof.InProjRunB.lean ====
/- The body's run at a later grid point. -/
module

public import proofs.«01_k».proof.Proof.InProjBody

@[expose] public section

set_option maxRecDepth 16384

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

set_option maxHeartbeats 4000000 in
/-- A later point: the products of its weight rows, from the codes and scales the first point left. -/
theorem run_B (c : Dev nD) (i : grid0.Coords) (arg1 : Memref sig .tc .vmem S640x2048 .bf16) (harg1 : arg1.IsWhole) (arg2 : Memref sig .tc .vmem S1x2048 .f32) (harg2 : arg2.IsWhole) (arg3 : Memref sig .tc .vmem S1024x2048 .fp8e4m3) (harg3 : arg3.IsWhole) (arg4 : Memref sig .tc .vmem S1x1024 .f32) (harg4 : arg4.IsWhole) (arg5 : Memref sig .tc .vmem S1024x640 .f32) (harg5 : arg5.IsWhole) (arg6 : Memref sig .tc .vmem S640x2048 .fp8e4m3) (harg6 : arg6.IsWhole) (arg7 : Memref sig .tc .vmem S1x640 .f32) (harg7 : arg7.IsWhole) (hc0 : ¬cond0_0 i)
    (x0 : Vec F S640x2048 .bf16) (x1 : Vec F S1x2048 .f32) (x2 : Vec F S1024x2048 .fp8e4m3) (x3 : Vec F S1x1024 .f32) (xc : Vec F S640x2048 .fp8e4m3) (xs : Vec F S1x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xc ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (pOut x2 x3 xc xs) ∗ owns (c : Thread nD τ) arg6 fullShare xc ∗ owns (c : Thread nD τ) arg7 fullShare xs) -∗ K ⟨⟩))
      ⊢ wp frame (wpE (defs₀ (F := F)) Variants.none c none) E (cc0_in_proj i arg1 harg1 arg2 harg2 arg3 harg3 arg4 harg4 arg5 harg5 arg6 harg6 arg7 harg7) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; rw [View.read_writes_eq_canon _ _ _ (View.cover_of_tiledL (s := S1024x640) _ ![128,128] (by sl_kernel_rfl))]
    sl_unfold_words
    simp only [View.readAt_eq_ld, View.readCov_eq_canon', harg1.read_unread, harg2.read_unread, harg3.read_unread, harg4.read_unread, harg6.read_unread, harg7.read_unread]
    rfl
  isplitl [H5]
  · iexists _; isplitr; · ipureintro; exact harg6.read_unread _
    iexact H5
  iexists _; isplitr; · ipureintro; exact harg7.read_unread _
  iexact H6

end Cert.InProj.Hand

end
-- ==== Proof.InProjFrame.lean ====
/-
  The frame of the input projection call: the three outputs' contents are not named (an output buffer is handed over at anything
  and taken back at anything); the blocks of weights and of scales that reach past the array's end are stated on the part inside it.
-/
module

public import proofs.«01_k».proof.Proof.InProjRunA
public import proofs.«01_k».proof.Proof.InProjRunB
public import Idealize.ShloMosaic.Lib.Pointwise
public import Idealize.ShloMosaic.Lib.Claim

@[expose] public section

set_option maxRecDepth 16384

noncomputable section

namespace Cert.InProj.Hand

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The named contents -/

/-- The weight rows of point `t` as the point finds them: its block, filled out past the array's end with `d`. -/
def wAt (c : Dev nD) (t : Fin cfg0.N) (d : Vec F S1024x2048 .fp8e4m3) : Vec F S1024x2048 .fp8e4m3 :=
  win0_2.fill (grid0.coords t) d (iblk m c 2 t)

/-- The weight scales of point `t` likewise. -/
def sAt (c : Dev nD) (t : Fin cfg0.N) (d : Vec F S1x1024 .f32) : Vec F S1x1024 .f32 :=
  win0_3.fill (grid0.coords t) d (iblk m c 3 t)

/-- The word that fills the weight rows out past the array's end where one has to be named. -/
def fill2 : Vec F S1024x2048 .fp8e4m3 := fun _ => Scalar.ofBits .fp8e4m3 0#8

/-- The word that fills the weight scales out likewise. -/
def fill3 : Vec F S1x1024 .f32 := fun _ => Scalar.ofBits .f32 0#32

/-- The activation codes, as the first point makes them. -/
def codesAt (c : Dev nD) : Vec F S640x2048 .fp8e4m3 := codesOf (iblk m c 0 t0_0) (iblk m c 1 t0_0)

/-- The activation scales, as the first point makes them. -/
def scalesAt (c : Dev nD) : Vec F S1x640 .f32 := scalesOf (iblk m c 0 t0_0) (iblk m c 1 t0_0)

/-- The products of point `t`. -/
def pAt (c : Dev nD) (t : Fin cfg0.N) : Vec F S1024x640 .f32 := pOut (wAt m c t fill2) (sAt m c t fill3) (codesAt m c) (scalesAt m c)

/-- The proof data: each input's buffer at its block, the products at the point's, the codes and scales at what the first point
    makes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wAt m c t fill2
    | ⟨3, _⟩ => sAt m c t fill3
    | ⟨4, _⟩ => pAt m c t
    | ⟨5, _⟩ => codesAt m c
    | ⟨6, _⟩ => scalesAt m c
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- What window 0's buffer holds after point `t`. -/
theorem after0_0 (c : Dev nD) (t : Fin cfg0.N) : (dats m 0 c).after 0 t = iblk m c 0 t := by dsimp only [dats]
/-- What window 1's buffer holds after point `t`. -/
theorem after0_1 (c : Dev nD) (t : Fin cfg0.N) : (dats m 0 c).after 1 t = iblk m c 1 t := by dsimp only [dats]
/-- What window 2's buffer holds after point `t`. -/
theorem after0_2 (c : Dev nD) (t : Fin cfg0.N) : (dats m 0 c).after 2 t = wAt m c t fill2 := by dsimp only [dats]
/-- What window 3's buffer holds after point `t`. -/
theorem after0_3 (c : Dev nD) (t : Fin cfg0.N) : (dats m 0 c).after 3 t = sAt m c t fill3 := by dsimp only [dats]
/-- What window 4's buffer holds after point `t`. -/
theorem after0_4 (c : Dev nD) (t : Fin cfg0.N) : (dats m 0 c).after 4 t = pAt m c t := by dsimp only [dats]
/-- What window 5's buffer holds after point `t`. -/
theorem after0_5 (c : Dev nD) (t : Fin cfg0.N) : (dats m 0 c).after 5 t = codesAt m c := by dsimp only [dats]
/-- What window 6's buffer holds after point `t`. -/
theorem after0_6 (c : Dev nD) (t : Fin cfg0.N) : (dats m 0 c).after 6 t = scalesAt m c := by dsimp only [dats]

/-- Input window 0's buffer holds its block at every point. -/
theorem before0_0 (c : Dev nD) (t : Fin cfg0.N) (d) : (dats m 0 c).before 0 t d = iblk m c 0 t :=
  before0_0_of m (dats m 0 c) (A_eq m c 0) (after0_0 m c) t d
/-- Input window 1's buffer holds its block at every point. -/
theorem before0_1 (c : Dev nD) (t : Fin cfg0.N) (d) : (dats m 0 c).before 1 t d = iblk m c 1 t :=
  before0_1_of m (dats m 0 c) (A_eq m c 1) (after0_1 m c) t d
/-- Window 2's buffer was just fetched: the block, and past the array's end what was there. -/
theorem before0_2 (c : Dev nD) (t : Fin cfg0.N) (d) : (dats m 0 c).before 2 t d = wAt m c t d := by
  unfold Dat.before; rw [if_pos (fetch0_2 t)]; rfl
/-- Window 3's buffer likewise. -/
theorem before0_3 (c : Dev nD) (t : Fin cfg0.N) (d) : (dats m 0 c).before 3 t d = sAt m c t d := by
  unfold Dat.before; rw [if_pos (fetch0_3 t)]; rfl

/-- Filled out with anything, window 2's rows inside the array are its block's. -/
theorem wAt_eq (c : Dev nD) (t : Fin cfg0.N) (d) : win0_2.fill (grid0.coords t) d (win0_2.cut (grid0.coords t) (wAt m c t fill2)) = wAt m c t d :=
  congrArg (win0_2.fill (grid0.coords t) d) (win0_2.cut_fill _ _ _)
/-- Window 3's likewise. -/
theorem sAt_eq (c : Dev nD) (t : Fin cfg0.N) (d) : win0_3.fill (grid0.coords t) d (win0_3.cut (grid0.coords t) (sAt m c t fill3)) = sAt m c t d :=
  congrArg (win0_3.fill (grid0.coords t) d) (win0_3.cut_fill _ _ _)

/-- A buffer of weight rows at a point's contents is one stated on the rows inside the array. -/
theorem wAt_owns (c : Dev nD) (t : Fin cfg0.N) (d) : (owns (c : Thread nD τ) (ms0_2 t) fullShare (wAt m c t d) : sProp 𝕄)
    ⊢ owns (c : Thread nD τ) (ms0_2 t) fullShare (win0_2.fill (grid0.coords t) d (win0_2.cut (grid0.coords t) ((dats m 0 c).after 2 t))) :=
  Entails.of_eq (congrArg (owns (c : Thread nD τ) (ms0_2 t) fullShare) (wAt_eq m c t d).symm)
/-- A buffer of weight scales likewise. -/
theorem sAt_owns (c : Dev nD) (t : Fin cfg0.N) (d) : (owns (c : Thread nD τ) (ms0_3 t) fullShare (sAt m c t d) : sProp 𝕄)
    ⊢ owns (c : Thread nD τ) (ms0_3 t) fullShare (win0_3.fill (grid0.coords t) d (win0_3.cut (grid0.coords t) ((dats m 0 c).after 3 t))) :=
  Entails.of_eq (congrArg (owns (c : Thread nD τ) (ms0_3 t) fullShare) (sAt_eq m c t d).symm)

/-- The windows nothing is said of: the three outputs. -/
def fgt : Fin cfg0.W → Bool := fun w => Nat.ble 4 w.val

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ X, owns (c : Thread nD τ) (ms0_4 t) fullShare X)
    ∗ (∃ X, owns (c : Thread nD τ) (ms0_5 t) fullShare X)
    ∗ (∃ X, owns (c : Thread nD τ) (ms0_6 t) fullShare X))

/-- What it returns: the blocks that reach past the array's end are stated on the part inside it. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ (∃ X, owns (c : Thread nD τ) (ms0_4 t) fullShare X)
    ∗ (∃ X, owns (c : Thread nD τ) (ms0_5 t) fullShare X)
    ∗ (∃ X, owns (c : Thread nD τ) (ms0_6 t) fullShare X))

set_option maxHeartbeats 3200000 in
/-- The body at any point: the first, which makes the codes and scales, or a later one, which finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = (dats m 0 c).Φ t.castSucc from rfl,
    after0_0, after0_1]
  iintro ⟨HΦ, Ho, ⟨%d0, H0⟩, ⟨%d1, H1⟩, ⟨%d2, H2⟩, ⟨%d3, H3⟩, ⟨%x4, H4⟩, ⟨%x5, H5⟩, ⟨%x6, H6⟩⟩
  by_cases h0 : t.val % 9 = 0
  · iapply (run_A c (grid0.coords t) _ _ _ _ _ _ _ _ _ _ _ _ _ _ ((hcond0_0 t).mpr h0) (iblk m c 0 t) (iblk m c 1 t) (wAt m c t d2) (sAt m c t d3) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexists d2; iapply (wAt_owns m c t d2); iexact H2
    isplitl [H3]; · iexists d3; iapply (sAt_owns m c t d3); iexact H3
    isplitl [H4]; · iexists _; iexact H4
    isplitl [H5]; · iexists _; iexact H5
    iexists _; iexact H6
  · iapply (run_B c (grid0.coords t) _ _ _ _ _ _ _ _ _ _ _ _ _ _ (fun h => h0 ((hcond0_0 t).mp h)) (iblk m c 0 t) (iblk m c 1 t) (wAt m c t d2) (sAt m c t d3) x5 x6 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexists d2; iapply (wAt_owns m c t d2); iexact H2
    isplitl [H3]; · iexists d3; iapply (sAt_owns m c t d3); iexact H3
    isplitl [H4]; · iexists _; iexact H4
    isplitl [H5]; · iexists _; iexact H5
    iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with the outputs forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

-- the launch theorem's implicit arguments are found by unifying its conclusion with this one, which takes unfolding plain
-- definitions in a metavariable's type
set_option backward.isDefEq.respectTransparency.types false in
/-- The launch: every execution terminates, the inputs end as found, every semaphore counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hin := fun _ => .rfl) (hout := fun _ => .rfl)

/-- THE FRAME: `Cert.quiescent_InProj`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main_quiescent m ρ)

end Cert.InProj.Hand

end
-- ==== Proof.OutProjKernel.lean ====
/-
  The third call, read entry by entry: each point quantises 128 batch rows, takes their product with the weights, adds
  the layer's input, norms the sum and quantises it. Every batch row is one point's, so the arrays are the rows'.
-/
module

public import proofs.«01_k».proof.Proof.Gen.OutProjIdeal.Value
public import proofs.«01_k».proof.Proof.Spec
public import Idealize.ShloMosaic.Lib.StableHlo.ReadAt

@[expose] public section

set_option maxRecDepth 16384

noncomputable section

namespace Cert.OutProjIdeal.Hand

open Cert.OutProjIdeal Cert.OutProjIdeal.Gen Cert.OutProjIdeal.Value
open Idealize.ShloMosaic Idealize.ShloMosaic.TcCoe Idealize.ShloMosaic.Tactic
open Idealize.ShloMosaic.Pipeline (Dat Cfg Window)
open Cert.Spec
open scoped BigOperators

/-! ## The payloads at an index -/

/-- The scales of a block's columns. -/
theorem pay4_at (v0 : Vec Ideal S3072x128 .f32) (b : Fin 128) : k0_pay4 v0 (ix2 b 0) = qScale fun k => v0 (ix2 k b) := by
  pointwise [k0_pay4, k0_pay2]
  rfl

/-- The codes of a block's columns. -/
theorem pay5_at (v0 : Vec Ideal S3072x128 .f32) (b : Fin 128) (k : Fin 3072) :
    k0_pay5 v0 (ix2 b k) = qCode (fun k => v0 (ix2 k b)) k := by
  pointwise [k0_pay5, k0_pay2, pay4_at]
  rfl

/-- The scales again, laid as one row. -/
theorem pay6_at (v0 : Vec Ideal S3072x128 .f32) (b : Fin 128) : k0_pay6 v0 (ix2 0 b) = qScale fun k => v0 (ix2 k b) := by
  pointwise [k0_pay6, pay4_at]

/-- The product of the codes, scaled. -/
theorem pay7_at (v0 : Vec Ideal S3072x128 .f32) (v1 : Vec Ideal S3072x2048 .fp8e4m3) (v2 : Vec Ideal S1x2048 .f32) (b : Fin 128)
    (j : Fin 2048) : k0_pay7 v0 v1 v2 (ix2 b j) = quantDot (fun k => v0 (ix2 k b)) v1 (fun j => v2 (ix2 0 j)) j := by
  pointwise [k0_pay7, pay4_at, pay5_at]
  rfl

/-- The norm of the residual sum. -/
theorem pay10_at (v34 : FVec Ideal S128x2048 .f32) (v38 : Vec Ideal S128x2048 .bf16) (v43 : Vec Ideal S1x2048 .f32) (b : Fin 128)
    (j : Fin 2048) : k0_pay10 v34 v38 v43 (ix2 b j) = rmsNorm (fun j => v38 (ix2 b j) + v34 (ix2 b j)) (fun j => v43 (ix2 0 j)) j := by
  pointwise [k0_pay10, k0_pay9]
  rfl

/-- The normed rows' scales. -/
theorem pay11_at (v34 : FVec Ideal S128x2048 .f32) (v38 : Vec Ideal S128x2048 .bf16) (v43 : Vec Ideal S1x2048 .f32) (b : Fin 128) :
    k0_pay11 v34 v38 v43 (ix2 b 0) = qScale (rmsNorm (fun j => v38 (ix2 b j) + v34 (ix2 b j)) (fun j => v43 (ix2 0 j))) := by
  pointwise [k0_pay11, pay10_at]
  rfl

/-- The normed rows' codes. -/
theorem pay12_at (v34 : FVec Ideal S128x2048 .f32) (v38 : Vec Ideal S128x2048 .bf16) (v43 : Vec Ideal S1x2048 .f32) (b : Fin 128)
    (j : Fin 2048) : k0_pay12 v34 v38 v43 (ix2 b j) = qCode (rmsNorm (fun j => v38 (ix2 b j) + v34 (ix2 b j)) (fun j => v43 (ix2 0 j))) j := by
  pointwise [k0_pay12, pay11_at, pay10_at]
  rfl

/-! ## The blocks the body leaves, at an index -/

section
variable (x0 : Vec Ideal S3072x128 .f32) (x1 : Vec Ideal S3072x2048 .fp8e4m3) (x2 : Vec Ideal S1x2048 .f32)
  (x3 : Vec Ideal S128x2048 .bf16) (x4 : Vec Ideal S1x2048 .f32)

theorem ld0 : View.ld x0 r0_0 = x0 := View.ld_unit_zero hz2 _ _
theorem ld1 : View.ld x1 r0_4 = x1 := View.ld_unit_zero hz2 _ _
theorem ld2 : View.ld x2 r0_5 = x2 := View.ld_unit_zero hz2 _ _
theorem ld3 : View.ld x3 r0_7 = x3 := View.ld_unit_zero hz2 _ _
theorem ld4 : View.ld x4 r0_5 = x4 := View.ld_unit_zero hz2 _ _

/-- Window 5's block: the outputs, one row per batch row. -/
theorem out5_at (b : Fin 128) (z : Fin 1) (k : Fin 3072) :
    out0_5 x0 x1 x2 x3 x4 (ix3 b z k) = x0 (ix2 k b) := by
  obtain rfl : z = 0 := Subsingleton.elim _ _
  unfold out0_5
  rw [View.canon_unit_zero hz3]
  simp only [k0_pay13, ld0, ld1, ld2, ld3, ld4]
  pointwise [k0_pay3, k0_pay2]

/-- Window 6's block: their codes. -/
theorem out6_at (b : Fin 128) (k : Fin 3072) :
    out0_6 x0 x1 x2 x3 x4 (ix2 b k) = qCode (fun k => x0 (ix2 k b)) k := by
  unfold out0_6
  rw [View.canon_unit_zero hz2]
  simp only [k0_pay13, ld0, ld1, ld2, ld3, ld4]
  pointwise [pay5_at]

/-- Window 7's block: their scales. -/
theorem out7_at (z : Fin 1) (b : Fin 128) :
    out0_7 x0 x1 x2 x3 x4 (ix2 z b) = qScale (fun k => x0 (ix2 k b)) := by
  obtain rfl : z = 0 := Subsingleton.elim _ _
  unfold out0_7
  rw [View.canon_unit_zero hz2]
  simp only [k0_pay13, ld0, ld1, ld2, ld3, ld4]
  pointwise [pay6_at]

/-- Window 8's block: the projection. -/
theorem out8_at (b : Fin 128) (z : Fin 1) (j : Fin 2048) :
    out0_8 x0 x1 x2 x3 x4 (ix3 b z j) = quantDot (fun k => x0 (ix2 k b)) x1 (fun j => x2 (ix2 0 j)) j := by
  obtain rfl : z = 0 := Subsingleton.elim _ _
  unfold out0_8
  rw [View.canon_unit_zero hz3]
  simp only [k0_pay13, ld0, ld1, ld2, ld3, ld4]
  pointwise [k0_pay8, pay7_at]

/-- Window 9's block: the residual sum. -/
theorem out9_at (b : Fin 128) (j : Fin 2048) :
    out0_9 x0 x1 x2 x3 x4 (ix2 b j) = x3 (ix2 b j) + quantDot (fun k => x0 (ix2 k b)) x1 (fun j => x2 (ix2 0 j)) j := by
  unfold out0_9
  rw [View.canon_unit_zero hz2]
  simp only [k0_pay13, ld0, ld1, ld2, ld3, ld4]
  pointwise [k0_pay9, pay7_at]

/-- Window 10's block: the codes of its norm. -/
theorem out10_at (b : Fin 128) (j : Fin 2048) :
    out0_10 x0 x1 x2 x3 x4 (ix2 b j) = qCode (rmsNorm (fun j => x3 (ix2 b j) + quantDot (fun k => x0 (ix2 k b)) x1 (fun j => x2 (ix2 0 j)) j) (fun j => x4 (ix2 0 j))) j := by
  unfold out0_10
  rw [View.canon_unit_zero hz2]
  simp only [k0_pay13, ld0, ld1, ld2, ld3, ld4]
  pointwise [pay12_at, pay7_at]

/-- Window 11's block: the scales of its norm. -/
theorem out11_at (z : Fin 1) (b : Fin 128) :
    out0_11 x0 x1 x2 x3 x4 (ix2 z b) = qScale (rmsNorm (fun j => x3 (ix2 b j) + quantDot (fun k => x0 (ix2 k b)) x1 (fun j => x2 (ix2 0 j)) j) (fun j => x4 (ix2 0 j))) := by
  obtain rfl : z = 0 := Subsingleton.elim _ _
  unfold out0_11
  rw [View.canon_unit_zero hz2]
  simp only [k0_pay13, ld0, ld1, ld2, ld3, ld4]
  pointwise [k0_pay1, pay11_at, pay7_at]

end

variable (m : (ℓ : Loc nD τ sig) → Buf (Elt Ideal) ℓ)

/-! ## The arguments, as arrays of numbers -/

/-- The state update's outputs, one column per batch row. -/
def A0 (c : Dev nD) : S3072x640.Idx → EReal := m ((c : Thread nD τ).loc main_arg0)
/-- The weights' codes. -/
def A1 (c : Dev nD) : S3072x2048.Idx → EReal := m ((c : Thread nD τ).loc main_arg1)
/-- The weights' scales. -/
def A2 (c : Dev nD) : S2048.Idx → EReal := m ((c : Thread nD τ).loc main_arg2)
/-- The layer's input, which the product is added to. -/
def A3 (c : Dev nD) : S640x1x2048.Idx → EReal := m ((c : Thread nD τ).loc main_arg3)
/-- The norm's weights. -/
def A4 (c : Dev nD) : S2048.Idx → EReal := m ((c : Thread nD τ).loc main_arg4)

/-- Batch row `b` of the outputs. -/
abbrev xrow (c : Dev nD) (b : Fin 640) : Fin 3072 → EReal := fun k => A0 m c (ix2 k b)
/-- One entry of the projection. -/
abbrev proj (c : Dev nD) (b : Fin 640) (j : Fin 2048) : EReal :=
  quantDot (xrow m c b) (A1 m c) (fun j => A2 m c (ix1 j)) j
/-- One row of the residual sum. -/
abbrev res (c : Dev nD) (b : Fin 640) : Fin 2048 → EReal := fun j => A3 m c (ix3 b 0 j) + proj m c b j
/-- One row after the norm. -/
abbrev nrm (c : Dev nD) (b : Fin 640) : Fin 2048 → EReal := rmsNorm (res m c b) (fun j => A4 m c (ix1 j))

/-- The host's reshape of the weights' scales to one row. -/
theorem V_v0 (c : Dev nD) (j : Fin 2048) : V m c main_v0 (ix2 0 j) = A2 m c (ix1 j) := by
  unfold V A2
  after_reads_at

/-- The host's reshape of the layer's input to a matrix. -/
theorem V_v1 (c : Dev nD) (b : Fin 640) (j : Fin 2048) : V m c main_v1 (ix2 b j) = A3 m c (ix3 b 0 j) := by
  unfold V A3
  after_reads_at

/-- The host's reshape of the norm's weights to one row. -/
theorem V_v2 (c : Dev nD) (j : Fin 2048) : V m c main_v2 (ix2 0 j) = A4 m c (ix1 j) := by
  unfold V A4
  after_reads_at

/-! ## The blocks -/

/-- Which block of its array each window is at, point by point. -/
theorem idx_facts : ∀ t : Fin cfg0.N, win0_0.index t (0 : Fin 2) = 0 ∧ win0_0.index t (1 : Fin 2) = t.val
    ∧ win0_3.index t (0 : Fin 2) = t.val ∧ win0_3.index t (1 : Fin 2) = 0
    ∧ (∀ a : Fin 2, win0_1.index t a = 0) ∧ (∀ a : Fin 2, win0_2.index t a = 0) ∧ (∀ a : Fin 2, win0_4.index t a = 0) :=
  (by decide +kernel : ∀ t : Fin grid0.N, _)

/-- Which block each output window is at: the point's, along the batch axis. -/
theorem idx_out : ∀ t : Fin cfg0.N, win0_5.index t = ![t.val, 0, 0] ∧ win0_6.index t = ![t.val, 0] ∧ win0_7.index t = ![0, t.val]
    ∧ win0_8.index t = ![t.val, 0, 0] ∧ win0_9.index t = ![t.val, 0] ∧ win0_10.index t = ![t.val, 0] ∧ win0_11.index t = ![0, t.val] :=
  (by decide +kernel : ∀ t : Fin grid0.N, _)

/-- The batch row that row `b` of point `t`'s block is. -/
abbrev row (t : Fin cfg0.N) (b : Fin 128) : Fin 640 :=
  ⟨128 * t.val + b.val, by have := t.isLt; have : cfg0.N = 5 := N_0; omega⟩

/-- The block of outputs at a point: 128 columns. -/
theorem iblk0 (c : Dev nD) (t : Fin cfg0.N) (k : Fin 3072) (b : Fin 128) :
    iblk m c 0 t (ix2 k b) = A0 m c (ix2 k (row t b)) := by
  obtain ⟨e0, e1, -⟩ := idx_facts t
  refine (congrArg (V m c main_arg0) (funext fun a => Fin.ext ?_)).trans (congrFun (V_main_arg0 m c) _)
  match a with
  | ⟨0, _⟩ => show win0_0.index t (0 : Fin 2) * 3072 + 1 * k.val = k.val; omega
  | ⟨1, _⟩ => show win0_0.index t (1 : Fin 2) * 128 + 1 * b.val = 128 * t.val + b.val; omega

/-- The weights' codes are read whole. -/
theorem iblk1 (c : Dev nD) (t : Fin cfg0.N) : iblk m c 1 t = A1 m c := by
  obtain ⟨-, -, -, -, e, -⟩ := idx_facts t
  funext y
  refine (congrArg (V m c main_arg1) (funext fun a => Fin.ext ?_)).trans (congrFun (V_main_arg1 m c) _)
  show win0_1.index t a * _ + 1 * (y a).val = (y a).val
  rw [e a]; omega

/-- The weights' scales are read whole. -/
theorem iblk2 (c : Dev nD) (t : Fin cfg0.N) (j : Fin 2048) : iblk m c 2 t (ix2 0 j) = A2 m c (ix1 j) := by
  obtain ⟨-, -, -, -, -, e, -⟩ := idx_facts t
  refine (congrArg (V m c main_v0) (funext fun a => Fin.ext ?_)).trans (V_v0 m c j)
  show win0_2.index t a * _ + 1 * ((ix2 (0 : Fin 1) j : S1x2048.Idx) a).val = ((ix2 (0 : Fin 1) j : S1x2048.Idx) a).val
  rw [e a]; omega

/-- The block of the layer's input at a point: 128 rows. -/
theorem iblk3 (c : Dev nD) (t : Fin cfg0.N) (b : Fin 128) (j : Fin 2048) :
    iblk m c 3 t (ix2 b j) = A3 m c (ix3 (row t b) 0 j) := by
  obtain ⟨-, -, e0, e1, -⟩ := idx_facts t
  refine (congrArg (V m c main_v1) (funext fun a => Fin.ext ?_)).trans (V_v1 m c (row t b) j)
  match a with
  | ⟨0, _⟩ => show win0_3.index t (0 : Fin 2) * 128 + 1 * b.val = 128 * t.val + b.val; omega
  | ⟨1, _⟩ => show win0_3.index t (1 : Fin 2) * 2048 + 1 * j.val = j.val; omega

/-- The norm's weights are read whole. -/
theorem iblk4 (c : Dev nD) (t : Fin cfg0.N) (j : Fin 2048) : iblk m c 4 t (ix2 0 j) = A4 m c (ix1 j) := by
  obtain ⟨-, -, -, -, -, -, e⟩ := idx_facts t
  refine (congrArg (V m c main_v2) (funext fun a => Fin.ext ?_)).trans (V_v2 m c j)
  show win0_4.index t a * _ + 1 * ((ix2 (0 : Fin 1) j : S1x2048.Idx) a).val = ((ix2 (0 : Fin 1) j : S1x2048.Idx) a).val
  rw [e a]; omega

/-! ## The result arrays: each batch row from the point that has it -/

/-- The point that has batch row `b`. -/
abbrev pt (b : Fin 640) : Fin cfg0.N := ⟨b.val / 128, by have : cfg0.N = 5 := N_0; omega⟩

/-- Window 5's block at a point: an index of it, in the array, -/
theorem emb5 (t : Fin cfg0.N) (y : S128x1x3072.Idx) :
    ((cfg0.win 5).blk t).view.emb y = (ix3 (row t (y 0)) (y 1) (y 2) : S640x1x3072.Idx) := by
  obtain ⟨e, -⟩ := idx_out t
  refine funext fun a => Fin.ext ?_
  match a with
  | ⟨0, _⟩ => show win0_5.index t (0 : Fin 3) * 128 + 1 * (y (0 : Fin 3)).val = 128 * t.val + (y (0 : Fin 3)).val; rw [e]; show t.val * 128 + 1 * _ = _; omega
  | ⟨1, _⟩ => show win0_5.index t (1 : Fin 3) * 1 + 1 * (y (1 : Fin 3)).val = (y (1 : Fin 3)).val; rw [e]; show 0 * _ + 1 * _ = _; omega
  | ⟨2, _⟩ => show win0_5.index t (2 : Fin 3) * 3072 + 1 * (y (2 : Fin 3)).val = (y (2 : Fin 3)).val; rw [e]; show 0 * _ + 1 * _ = _; omega

/-- and every index of the array is in the block of its batch row's point. -/
theorem mem5 (i : S640x1x3072.Idx) : i ∈ ((cfg0.win 5).blk (pt (i 0))).view.set := by
  show i ∈ ((View.whole main_v3_0).slice (win0_5.rect (pt (i 0)))).set
  obtain ⟨e, -⟩ := idx_out (pt (i 0))
  rw [View.set_slice_whole, Rect.mem_set_unit]
  intro a
  match a with
  | ⟨0, _⟩ =>
    show win0_5.index (pt (i 0)) (0 : Fin 3) * 128 ≤ (i (0 : Fin 3)).val ∧ (i (0 : Fin 3)).val < win0_5.index (pt (i 0)) (0 : Fin 3) * 128 + 128
    rw [e]
    have := (i (0 : Fin 3)).isLt
    have h : (i (0 : Fin 3)).val < 640 := this
    show (i (0 : Fin 3)).val / 128 * 128 ≤ _ ∧ _ < (i (0 : Fin 3)).val / 128 * 128 + 128; omega
  | ⟨1, _⟩ =>
    show win0_5.index (pt (i 0)) (1 : Fin 3) * 1 ≤ (i (1 : Fin 3)).val ∧ (i (1 : Fin 3)).val < win0_5.index (pt (i 0)) (1 : Fin 3) * 1 + 1
    rw [e]
    have := (i (1 : Fin 3)).isLt
    have h : (i (1 : Fin 3)).val < 1 := this
    show 0 * 1 ≤ _ ∧ _ < 0 * 1 + 1; omega
  | ⟨2, _⟩ =>
    show win0_5.index (pt (i 0)) (2 : Fin 3) * 3072 ≤ (i (2 : Fin 3)).val ∧ (i (2 : Fin 3)).val < win0_5.index (pt (i 0)) (2 : Fin 3) * 3072 + 3072
    rw [e]
    have := (i (2 : Fin 3)).isLt
    have h : (i (2 : Fin 3)).val < 3072 := this
    show 0 * 3072 ≤ _ ∧ _ < 0 * 3072 + 3072; omega

/-- Result 0: the outputs, one row per batch row. -/
theorem final5 (c : Dev nD) : (dats m 0 c).arrAt 5 cfg0.N = fun i : S640x1x3072.Idx => xrow m c (i 0) (i 2) := by
  refine (dats m 0 c).arrAt_eq_of_cover 5 _ (fun t hf => ?_) (fun i => ⟨pt (i 0), flush0_5 _, mem5 i⟩)
  show (cfg0.win 5).cut (grid0.coords t) ((dats m 0 c).after 5 t) = _
  rw [after0_5]
  funext y
  refine Eq.trans ?_ (congrArg (fun i : S640x1x3072.Idx => xrow m c (i 0) (i 2)) (emb5 t y).symm)
  idx_vars y
  refine (out5_at (iblk m c 0 t) (iblk m c 1 t) (iblk m c 2 t) (iblk m c 3 t) (iblk m c 4 t) _ _ _).trans ?_
  simp only [iblk0, iblk1, iblk2, iblk3, iblk4]

/-- Window 6's block at a point: an index of it, in the array, -/
theorem emb6 (t : Fin cfg0.N) (y : S128x3072.Idx) :
    ((cfg0.win 6).blk t).view.emb y = (ix2 (row t (y 0)) (y 1) : S640x3072.Idx) := by
  obtain ⟨-, e, -⟩ := idx_out t
  refine funext fun a => Fin.ext ?_
  match a with
  | ⟨0, _⟩ => show win0_6.index t (0 : Fin 2) * 128 + 1 * (y (0 : Fin 2)).val = 128 * t.val + (y (0 : Fin 2)).val; rw [e]; show t.val * 128 + 1 * _ = _; omega
  | ⟨1, _⟩ => show win0_6.index t (1 : Fin 2) * 3072 + 1 * (y (1 : Fin 2)).val = (y (1 : Fin 2)).val; rw [e]; show 0 * _ + 1 * _ = _; omega

/-- and every index of the array is in the block of its batch row's point. -/
theorem mem6 (i : S640x3072.Idx) : i ∈ ((cfg0.win 6).blk (pt (i 0))).view.set := by
  show i ∈ ((View.whole main_v3_1).slice (win0_6.rect (pt (i 0)))).set
  obtain ⟨-, e, -⟩ := idx_out (pt (i 0))
  rw [View.set_slice_whole, Rect.mem_set_unit]
  intro a
  match a with
  | ⟨0, _⟩ =>
    show win0_6.index (pt (i 0)) (0 : Fin 2) * 128 ≤ (i (0 : Fin 2)).val ∧ (i (0 : Fin 2)).val < win0_6.index (pt (i 0)) (0 : Fin 2) * 128 + 128
    rw [e]
    have := (i (0 : Fin 2)).isLt
    have h : (i (0 : Fin 2)).val < 640 := this
    show (i (0 : Fin 2)).val / 128 * 128 ≤ _ ∧ _ < (i (0 : Fin 2)).val / 128 * 128 + 128; omega
  | ⟨1, _⟩ =>
    show win0_6.index (pt (i 0)) (1 : Fin 2) * 3072 ≤ (i (1 : Fin 2)).val ∧ (i (1 : Fin 2)).val < win0_6.index (pt (i 0)) (1 : Fin 2) * 3072 + 3072
    rw [e]
    have := (i (1 : Fin 2)).isLt
    have h : (i (1 : Fin 2)).val < 3072 := this
    show 0 * 3072 ≤ _ ∧ _ < 0 * 3072 + 3072; omega

/-- Result 1: their codes. -/
theorem final6 (c : Dev nD) : (dats m 0 c).arrAt 6 cfg0.N = fun i : S640x3072.Idx => qCode (xrow m c (i 0)) (i 1) := by
  refine (dats m 0 c).arrAt_eq_of_cover 6 _ (fun t hf => ?_) (fun i => ⟨pt (i 0), flush0_6 _, mem6 i⟩)
  show (cfg0.win 6).cut (grid0.coords t) ((dats m 0 c).after 6 t) = _
  rw [after0_6]
  funext y
  refine Eq.trans ?_ (congrArg (fun i : S640x3072.Idx => qCode (xrow m c (i 0)) (i 1)) (emb6 t y).symm)
  idx_vars y
  refine (out6_at (iblk m c 0 t) (iblk m c 1 t) (iblk m c 2 t) (iblk m c 3 t) (iblk m c 4 t) _ _).trans ?_
  simp only [iblk0, iblk1, iblk2, iblk3, iblk4]

/-- Window 7's block at a point: an index of it, in the array, -/
theorem emb7 (t : Fin cfg0.N) (y : S1x128.Idx) :
    ((cfg0.win 7).blk t).view.emb y = (ix2 (y 0) (row t (y 1)) : S1x640.Idx) := by
  obtain ⟨-, -, e, -⟩ := idx_out t
  refine funext fun a => Fin.ext ?_
  match a with
  | ⟨0, _⟩ => show win0_7.index t (0 : Fin 2) * 1 + 1 * (y (0 : Fin 2)).val = (y (0 : Fin 2)).val; rw [e]; show 0 * _ + 1 * _ = _; omega
  | ⟨1, _⟩ => show win0_7.index t (1 : Fin 2) * 128 + 1 * (y (1 : Fin 2)).val = 128 * t.val + (y (1 : Fin 2)).val; rw [e]; show t.val * 128 + 1 * _ = _; omega

/-- and every index of the array is in the block of its batch row's point. -/
theorem mem7 (i : S1x640.Idx) : i ∈ ((cfg0.win 7).blk (pt (i 1))).view.set := by
  show i ∈ ((View.whole main_v3_2).slice (win0_7.rect (pt (i 1)))).set
  obtain ⟨-, -, e, -⟩ := idx_out (pt (i 1))
  rw [View.set_slice_whole, Rect.mem_set_unit]
  intro a
  match a with
  | ⟨0, _⟩ =>
    show win0_7.index (pt (i 1)) (0 : Fin 2) * 1 ≤ (i (0 : Fin 2)).val ∧ (i (0 : Fin 2)).val < win0_7.index (pt (i 1)) (0 : Fin 2) * 1 + 1
    rw [e]
    have := (i (0 : Fin 2)).isLt
    have h : (i (0 : Fin 2)).val < 1 := this
    show 0 * 1 ≤ _ ∧ _ < 0 * 1 + 1; omega
  | ⟨1, _⟩ =>
    show win0_7.index (pt (i 1)) (1 : Fin 2) * 128 ≤ (i (1 : Fin 2)).val ∧ (i (1 : Fin 2)).val < win0_7.index (pt (i 1)) (1 : Fin 2) * 128 + 128
    rw [e]
    have := (i (1 : Fin 2)).isLt
    have h : (i (1 : Fin 2)).val < 640 := this
    show (i (1 : Fin 2)).val / 128 * 128 ≤ _ ∧ _ < (i (1 : Fin 2)).val / 128 * 128 + 128; omega

/-- Result 2: their scales. -/
theorem final7 (c : Dev nD) : (dats m 0 c).arrAt 7 cfg0.N = fun i : S1x640.Idx => qScale (xrow m c (i 1)) := by
  refine (dats m 0 c).arrAt_eq_of_cover 7 _ (fun t hf => ?_) (fun i => ⟨pt (i 1), flush0_7 _, mem7 i⟩)
  show (cfg0.win 7).cut (grid0.coords t) ((dats m 0 c).after 7 t) = _
  rw [after0_7]
  funext y
  refine Eq.trans ?_ (congrArg (fun i : S1x640.Idx => qScale (xrow m c (i 1))) (emb7 t y).symm)
  idx_vars y
  refine (out7_at (iblk m c 0 t) (iblk m c 1 t) (iblk m c 2 t) (iblk m c 3 t) (iblk m c 4 t) _ _).trans ?_
  simp only [iblk0, iblk1, iblk2, iblk3, iblk4]

/-- Window 8's block at a point: an index of it, in the array, -/
theorem emb8 (t : Fin cfg0.N) (y : S128x1x2048.Idx) :
    ((cfg0.win 8).blk t).view.emb y = (ix3 (row t (y 0)) (y 1) (y 2) : S640x1x2048.Idx) := by
  obtain ⟨-, -, -, e, -⟩ := idx_out t
  refine funext fun a => Fin.ext ?_
  match a with
  | ⟨0, _⟩ => show win0_8.index t (0 : Fin 3) * 128 + 1 * (y (0 : Fin 3)).val = 128 * t.val + (y (0 : Fin 3)).val; rw [e]; show t.val * 128 + 1 * _ = _; omega
  | ⟨1, _⟩ => show win0_8.index t (1 : Fin 3) * 1 + 1 * (y (1 : Fin 3)).val = (y (1 : Fin 3)).val; rw [e]; show 0 * _ + 1 * _ = _; omega
  | ⟨2, _⟩ => show win0_8.index t (2 : Fin 3) * 2048 + 1 * (y (2 : Fin 3)).val = (y (2 : Fin 3)).val; rw [e]; show 0 * _ + 1 * _ = _; omega

/-- and every index of the array is in the block of its batch row's point. -/
theorem mem8 (i : S640x1x2048.Idx) : i ∈ ((cfg0.win 8).blk (pt (i 0))).view.set := by
  show i ∈ ((View.whole main_v3_3).slice (win0_8.rect (pt (i 0)))).set
  obtain ⟨-, -, -, e, -⟩ := idx_out (pt (i 0))
  rw [View.set_slice_whole, Rect.mem_set_unit]
  intro a
  match a with
  | ⟨0, _⟩ =>
    show win0_8.index (pt (i 0)) (0 : Fin 3) * 128 ≤ (i (0 : Fin 3)).val ∧ (i (0 : Fin 3)).val < win0_8.index (pt (i 0)) (0 : Fin 3) * 128 + 128
    rw [e]
    have := (i (0 : Fin 3)).isLt
    have h : (i (0 : Fin 3)).val < 640 := this
    show (i (0 : Fin 3)).val / 128 * 128 ≤ _ ∧ _ < (i (0 : Fin 3)).val / 128 * 128 + 128; omega
  | ⟨1, _⟩ =>
    show win0_8.index (pt (i 0)) (1 : Fin 3) * 1 ≤ (i (1 : Fin 3)).val ∧ (i (1 : Fin 3)).val < win0_8.index (pt (i 0)) (1 : Fin 3) * 1 + 1
    rw [e]
    have := (i (1 : Fin 3)).isLt
    have h : (i (1 : Fin 3)).val < 1 := this
    show 0 * 1 ≤ _ ∧ _ < 0 * 1 + 1; omega
  | ⟨2, _⟩ =>
    show win0_8.index (pt (i 0)) (2 : Fin 3) * 2048 ≤ (i (2 : Fin 3)).val ∧ (i (2 : Fin 3)).val < win0_8.index (pt (i 0)) (2 : Fin 3) * 2048 + 2048
    rw [e]
    have := (i (2 : Fin 3)).isLt
    have h : (i (2 : Fin 3)).val < 2048 := this
    show 0 * 2048 ≤ _ ∧ _ < 0 * 2048 + 2048; omega

/-- Result 3: the projection. -/
theorem final8 (c : Dev nD) : (dats m 0 c).arrAt 8 cfg0.N = fun i : S640x1x2048.Idx => proj m c (i 0) (i 2) := by
  refine (dats m 0 c).arrAt_eq_of_cover 8 _ (fun t hf => ?_) (fun i => ⟨pt (i 0), flush0_8 _, mem8 i⟩)
  show (cfg0.win 8).cut (grid0.coords t) ((dats m 0 c).after 8 t) = _
  rw [after0_8]
  funext y
  refine Eq.trans ?_ (congrArg (fun i : S640x1x2048.Idx => proj m c (i 0) (i 2)) (emb8 t y).symm)
  idx_vars y
  refine (out8_at (iblk m c 0 t) (iblk m c 1 t) (iblk m c 2 t) (iblk m c 3 t) (iblk m c 4 t) _ _ _).trans ?_
  simp only [iblk0, iblk1, iblk2, iblk3, iblk4]

/-- Window 9's block at a point: an index of it, in the array, -/
theorem emb9 (t : Fin cfg0.N) (y : S128x2048.Idx) :
    ((cfg0.win 9).blk t).view.emb y = (ix2 (row t (y 0)) (y 1) : S640x2048.Idx) := by
  obtain ⟨-, -, -, -, e, -⟩ := idx_out t
  refine funext fun a => Fin.ext ?_
  match a with
  | ⟨0, _⟩ => show win0_9.index t (0 : Fin 2) * 128 + 1 * (y (0 : Fin 2)).val = 128 * t.val + (y (0 : Fin 2)).val; rw [e]; show t.val * 128 + 1 * _ = _; omega
  | ⟨1, _⟩ => show win0_9.index t (1 : Fin 2) * 2048 + 1 * (y (1 : Fin 2)).val = (y (1 : Fin 2)).val; rw [e]; show 0 * _ + 1 * _ = _; omega

/-- and every index of the array is in the block of its batch row's point. -/
theorem mem9 (i : S640x2048.Idx) : i ∈ ((cfg0.win 9).blk (pt (i 0))).view.set := by
  show i ∈ ((View.whole main_v3_4).slice (win0_9.rect (pt (i 0)))).set
  obtain ⟨-, -, -, -, e, -⟩ := idx_out (pt (i 0))
  rw [View.set_slice_whole, Rect.mem_set_unit]
  intro a
  match a with
  | ⟨0, _⟩ =>
    show win0_9.index (pt (i 0)) (0 : Fin 2) * 128 ≤ (i (0 : Fin 2)).val ∧ (i (0 : Fin 2)).val < win0_9.index (pt (i 0)) (0 : Fin 2) * 128 + 128
    rw [e]
    have := (i (0 : Fin 2)).isLt
    have h : (i (0 : Fin 2)).val < 640 := this
    show (i (0 : Fin 2)).val / 128 * 128 ≤ _ ∧ _ < (i (0 : Fin 2)).val / 128 * 128 + 128; omega
  | ⟨1, _⟩ =>
    show win0_9.index (pt (i 0)) (1 : Fin 2) * 2048 ≤ (i (1 : Fin 2)).val ∧ (i (1 : Fin 2)).val < win0_9.index (pt (i 0)) (1 : Fin 2) * 2048 + 2048
    rw [e]
    have := (i (1 : Fin 2)).isLt
    have h : (i (1 : Fin 2)).val < 2048 := this
    show 0 * 2048 ≤ _ ∧ _ < 0 * 2048 + 2048; omega

/-- Result 4: the residual sum. -/
theorem final9 (c : Dev nD) : (dats m 0 c).arrAt 9 cfg0.N = fun i : S640x2048.Idx => res m c (i 0) (i 1) := by
  refine (dats m 0 c).arrAt_eq_of_cover 9 _ (fun t hf => ?_) (fun i => ⟨pt (i 0), flush0_9 _, mem9 i⟩)
  show (cfg0.win 9).cut (grid0.coords t) ((dats m 0 c).after 9 t) = _
  rw [after0_9]
  funext y
  refine Eq.trans ?_ (congrArg (fun i : S640x2048.Idx => res m c (i 0) (i 1)) (emb9 t y).symm)
  idx_vars y
  refine (out9_at (iblk m c 0 t) (iblk m c 1 t) (iblk m c 2 t) (iblk m c 3 t) (iblk m c 4 t) _ _).trans ?_
  simp only [iblk0, iblk1, iblk2, iblk3, iblk4]

/-- Window 10's block at a point: an index of it, in the array, -/
theorem emb10 (t : Fin cfg0.N) (y : S128x2048.Idx) :
    ((cfg0.win 10).blk t).view.emb y = (ix2 (row t (y 0)) (y 1) : S640x2048.Idx) := by
  obtain ⟨-, -, -, -, -, e, -⟩ := idx_out t
  refine funext fun a => Fin.ext ?_
  match a with
  | ⟨0, _⟩ => show win0_10.index t (0 : Fin 2) * 128 + 1 * (y (0 : Fin 2)).val = 128 * t.val + (y (0 : Fin 2)).val; rw [e]; show t.val * 128 + 1 * _ = _; omega
  | ⟨1, _⟩ => show win0_10.index t (1 : Fin 2) * 2048 + 1 * (y (1 : Fin 2)).val = (y (1 : Fin 2)).val; rw [e]; show 0 * _ + 1 * _ = _; omega

/-- and every index of the array is in the block of its batch row's point. -/
theorem mem10 (i : S640x2048.Idx) : i ∈ ((cfg0.win 10).blk (pt (i 0))).view.set := by
  show i ∈ ((View.whole main_v3_5).slice (win0_10.rect (pt (i 0)))).set
  obtain ⟨-, -, -, -, -, e, -⟩ := idx_out (pt (i 0))
  rw [View.set_slice_whole, Rect.mem_set_unit]
  intro a
  match a with
  | ⟨0, _⟩ =>
    show win0_10.index (pt (i 0)) (0 : Fin 2) * 128 ≤ (i (0 : Fin 2)).val ∧ (i (0 : Fin 2)).val < win0_10.index (pt (i 0)) (0 : Fin 2) * 128 + 128
    rw [e]
    have := (i (0 : Fin 2)).isLt
    have h : (i (0 : Fin 2)).val < 640 := this
    show (i (0 : Fin 2)).val / 128 * 128 ≤ _ ∧ _ < (i (0 : Fin 2)).val / 128 * 128 + 128; omega
  | ⟨1, _⟩ =>
    show win0_10.index (pt (i 0)) (1 : Fin 2) * 2048 ≤ (i (1 : Fin 2)).val ∧ (i (1 : Fin 2)).val < win0_10.index (pt (i 0)) (1 : Fin 2) * 2048 + 2048
    rw [e]
    have := (i (1 : Fin 2)).isLt
    have h : (i (1 : Fin 2)).val < 2048 := this
    show 0 * 2048 ≤ _ ∧ _ < 0 * 2048 + 2048; omega

/-- Result 5: the codes of its norm. -/
theorem final10 (c : Dev nD) : (dats m 0 c).arrAt 10 cfg0.N = fun i : S640x2048.Idx => qCode (nrm m c (i 0)) (i 1) := by
  refine (dats m 0 c).arrAt_eq_of_cover 10 _ (fun t hf => ?_) (fun i => ⟨pt (i 0), flush0_10 _, mem10 i⟩)
  show (cfg0.win 10).cut (grid0.coords t) ((dats m 0 c).after 10 t) = _
  rw [after0_10]
  funext y
  refine Eq.trans ?_ (congrArg (fun i : S640x2048.Idx => qCode (nrm m c (i 0)) (i 1)) (emb10 t y).symm)
  idx_vars y
  refine (out10_at (iblk m c 0 t) (iblk m c 1 t) (iblk m c 2 t) (iblk m c 3 t) (iblk m c 4 t) _ _).trans ?_
  simp only [iblk0, iblk1, iblk2, iblk3, iblk4]

/-- Window 11's block at a point: an index of it, in the array, -/
theorem emb11 (t : Fin cfg0.N) (y : S1x128.Idx) :
    ((cfg0.win 11).blk t).view.emb y = (ix2 (y 0) (row t (y 1)) : S1x640.Idx) := by
  obtain ⟨-, -, -, -, -, -, e⟩ := idx_out t
  refine funext fun a => Fin.ext ?_
  match a with
  | ⟨0, _⟩ => show win0_11.index t (0 : Fin 2) * 1 + 1 * (y (0 : Fin 2)).val = (y (0 : Fin 2)).val; rw [e]; show 0 * _ + 1 * _ = _; omega
  | ⟨1, _⟩ => show win0_11.index t (1 : Fin 2) * 128 + 1 * (y (1 : Fin 2)).val = 128 * t.val + (y (1 : Fin 2)).val; rw [e]; show t.val * 128 + 1 * _ = _; omega

/-- and every index of the array is in the block of its batch row's point. -/
theorem mem11 (i : S1x640.Idx) : i ∈ ((cfg0.win 11).blk (pt (i 1))).view.set := by
  show i ∈ ((View.whole main_v3_6).slice (win0_11.rect (pt (i 1)))).set
  obtain ⟨-, -, -, -, -, -, e⟩ := idx_out (pt (i 1))
  rw [View.set_slice_whole, Rect.mem_set_unit]
  intro a
  match a with
  | ⟨0, _⟩ =>
    show win0_11.index (pt (i 1)) (0 : Fin 2) * 1 ≤ (i (0 : Fin 2)).val ∧ (i (0 : Fin 2)).val < win0_11.index (pt (i 1)) (0 : Fin 2) * 1 + 1
    rw [e]
    have := (i (0 : Fin 2)).isLt
    have h : (i (0 : Fin 2)).val < 1 := this
    show 0 * 1 ≤ _ ∧ _ < 0 * 1 + 1; omega
  | ⟨1, _⟩ =>
    show win0_11.index (pt (i 1)) (1 : Fin 2) * 128 ≤ (i (1 : Fin 2)).val ∧ (i (1 : Fin 2)).val < win0_11.index (pt (i 1)) (1 : Fin 2) * 128 + 128
    rw [e]
    have := (i (1 : Fin 2)).isLt
    have h : (i (1 : Fin 2)).val < 640 := this
    show (i (1 : Fin 2)).val / 128 * 128 ≤ _ ∧ _ < (i (1 : Fin 2)).val / 128 * 128 + 128; omega

/-- Result 6: the scales of its norm. -/
theorem final11 (c : Dev nD) : (dats m 0 c).arrAt 11 cfg0.N = fun i : S1x640.Idx => qScale (nrm m c (i 1)) := by
  refine (dats m 0 c).arrAt_eq_of_cover 11 _ (fun t hf => ?_) (fun i => ⟨pt (i 1), flush0_11 _, mem11 i⟩)
  show (cfg0.win 11).cut (grid0.coords t) ((dats m 0 c).after 11 t) = _
  rw [after0_11]
  funext y
  refine Eq.trans ?_ (congrArg (fun i : S1x640.Idx => qScale (nrm m c (i 1))) (emb11 t y).symm)
  idx_vars y
  refine (out11_at (iblk m c 0 t) (iblk m c 1 t) (iblk m c 2 t) (iblk m c 3 t) (iblk m c 4 t) _ _).trans ?_
  simp only [iblk0, iblk1, iblk2, iblk3, iblk4]

end Cert.OutProjIdeal.Hand

end
-- ==== Proof.OutProjReference.lean ====
/-
  The reference of the third call, read entry by entry: the same, on all the batch rows in one step.
-/
module

public import proofs.«01_k».proof.Proof.Gen.OutProjRefIdeal.Value
public import proofs.«01_k».proof.Proof.Spec
public import Idealize.ShloMosaic.Lib.StableHlo.ReadAt

@[expose] public section

set_option maxRecDepth 16384

noncomputable section

namespace Cert.OutProjRefIdeal.Hand

open Cert.OutProjRefIdeal Cert.OutProjRefIdeal.Gen Cert.OutProjRefIdeal.Value
open Idealize.ShloMosaic Idealize.ShloMosaic.TcCoe Idealize.ShloMosaic.Tactic
open Idealize.ShloMosaic.Pipeline (Dat Cfg Window)
open Cert.Spec
open scoped BigOperators

/-! ## The payloads at an index -/

/-- The scales of the batch rows. -/
theorem pay2_at (v0 : Vec Ideal S3072x640 .f32) (b : Fin 640) : k0_pay2 v0 (ix2 b 0) = qScale fun k => v0 (ix2 k b) := by
  pointwise [k0_pay2, k0_pay1]
  rfl

/-- The codes of the batch rows. -/
theorem pay3_at (v0 : Vec Ideal S3072x640 .f32) (b : Fin 640) (k : Fin 3072) :
    k0_pay3 v0 (ix2 b k) = qCode (fun k => v0 (ix2 k b)) k := by
  pointwise [k0_pay3, k0_pay1, pay2_at]
  rfl

/-- The product of the codes, scaled. -/
theorem pay4_at (v0 : Vec Ideal S3072x640 .f32) (v1 : Vec Ideal S3072x2048 .fp8e4m3) (v2 : Vec Ideal S1x2048 .f32) (b : Fin 640)
    (j : Fin 2048) : k0_pay4 v0 v1 v2 (ix2 b j) = quantDot (fun k => v0 (ix2 k b)) v1 (fun j => v2 (ix2 0 j)) j := by
  pointwise [k0_pay4, pay2_at, pay3_at]
  rfl

/-- The residual sum. -/
theorem pay5_at (v0 : Vec Ideal S3072x640 .f32) (v1 : Vec Ideal S3072x2048 .fp8e4m3) (v2 : Vec Ideal S1x2048 .f32)
    (v3 : Vec Ideal S640x2048 .bf16) (b : Fin 640) (j : Fin 2048) :
    k0_pay5 v0 v1 v2 v3 (ix2 b j) = v3 (ix2 b j) + quantDot (fun k => v0 (ix2 k b)) v1 (fun j => v2 (ix2 0 j)) j := by
  pointwise [k0_pay5, pay4_at]

section
variable (x0 : Vec Ideal S3072x640 .f32) (x1 : Vec Ideal S3072x2048 .fp8e4m3) (x2 : Vec Ideal S1x2048 .f32)
  (x3 : Vec Ideal S640x2048 .bf16) (x4 : Vec Ideal S1x2048 .f32)

/-- The norm of the residual sum. -/
theorem pay8_at (b : Fin 640) (j : Fin 2048) :
    k0_pay8 (k0_pay5 x0 x1 x2 x3) (k0_pay6 x4) (k0_pay7 x0 x1 x2 x3) (ix2 b j) = (rmsNorm (fun j => x3 (ix2 b j) + quantDot (fun k => x0 (ix2 k b)) x1 (fun j => x2 (ix2 0 j)) j) (fun j => x4 (ix2 0 j))) j := by
  pointwise [k0_pay8, k0_pay6, k0_pay7, pay5_at]
  rfl

/-- The normed rows' scales. -/
theorem pay9_at (b : Fin 640) :
    k0_pay9 (k0_pay5 x0 x1 x2 x3) (k0_pay6 x4) (k0_pay7 x0 x1 x2 x3) (ix2 b 0) = qScale (rmsNorm (fun j => x3 (ix2 b j) + quantDot (fun k => x0 (ix2 k b)) x1 (fun j => x2 (ix2 0 j)) j) (fun j => x4 (ix2 0 j))) := by
  pointwise [k0_pay9, pay8_at]
  rfl

/-- The normed rows' codes. -/
theorem pay10_at (b : Fin 640) (j : Fin 2048) :
    k0_pay10 (k0_pay5 x0 x1 x2 x3) (k0_pay6 x4) (k0_pay7 x0 x1 x2 x3) (ix2 b j) = qCode (rmsNorm (fun j => x3 (ix2 b j) + quantDot (fun k => x0 (ix2 k b)) x1 (fun j => x2 (ix2 0 j)) j) (fun j => x4 (ix2 0 j))) j := by
  pointwise [k0_pay10, pay9_at, pay8_at]
  rfl

end

/-! ## The blocks the body leaves, at an index -/

section
variable (x0 : Vec Ideal S3072x640 .f32) (x1 : Vec Ideal S3072x2048 .fp8e4m3) (x2 : Vec Ideal S1x2048 .f32)
  (x3 : Vec Ideal S640x2048 .bf16) (x4 : Vec Ideal S1x2048 .f32)

theorem ld0 : View.ld x0 r0_0 = x0 := View.ld_unit_zero hz2 _ _
theorem ld1 : View.ld x1 r0_1 = x1 := View.ld_unit_zero hz2 _ _
theorem ld2 : View.ld x2 r0_2 = x2 := View.ld_unit_zero hz2 _ _
theorem ld3 : View.ld x3 r0_3 = x3 := View.ld_unit_zero hz2 _ _
theorem ld4 : View.ld x4 r0_2 = x4 := View.ld_unit_zero hz2 _ _

/-- Window 5's block: the outputs, one row per batch row. -/
theorem out5_at (b : Fin 640) (z : Fin 1) (k : Fin 3072) :
    out0_5 x0 x1 x2 x3 x4 (ix3 b z k) = x0 (ix2 k b) := by
  obtain rfl : z = 0 := Subsingleton.elim _ _
  unfold out0_5
  rw [View.canon_unit_zero hz3]
  simp only [k0_pay15, k0_pay16, k0_pay17, ld0, ld1, ld2, ld3, ld4]
  pointwise [k0_pay11, k0_pay1]

/-- Window 6's block: their codes. -/
theorem out6_at (b : Fin 640) (k : Fin 3072) :
    out0_6 x0 x1 x2 x3 x4 (ix2 b k) = qCode (fun k => x0 (ix2 k b)) k := by
  unfold out0_6
  rw [View.canon_unit_zero hz2]
  simp only [k0_pay15, k0_pay16, k0_pay17, ld0, ld1, ld2, ld3, ld4]
  pointwise [pay3_at]

/-- Window 7's block: their scales. -/
theorem out7_at (z : Fin 1) (b : Fin 640) :
    out0_7 x0 x1 x2 x3 x4 (ix2 z b) = qScale (fun k => x0 (ix2 k b)) := by
  obtain rfl : z = 0 := Subsingleton.elim _ _
  unfold out0_7
  rw [View.canon_unit_zero hz2]
  simp only [k0_pay15, k0_pay16, k0_pay17, ld0, ld1, ld2, ld3, ld4]
  pointwise [k0_pay12, pay2_at]

/-- Window 8's block: the projection. -/
theorem out8_at (b : Fin 640) (z : Fin 1) (j : Fin 2048) :
    out0_8 x0 x1 x2 x3 x4 (ix3 b z j) = quantDot (fun k => x0 (ix2 k b)) x1 (fun j => x2 (ix2 0 j)) j := by
  obtain rfl : z = 0 := Subsingleton.elim _ _
  unfold out0_8
  rw [View.canon_unit_zero hz3]
  simp only [k0_pay15, k0_pay16, k0_pay17, ld0, ld1, ld2, ld3, ld4]
  pointwise [k0_pay13, pay4_at]

/-- Window 9's block: the residual sum. -/
theorem out9_at (b : Fin 640) (j : Fin 2048) :
    out0_9 x0 x1 x2 x3 x4 (ix2 b j) = x3 (ix2 b j) + quantDot (fun k => x0 (ix2 k b)) x1 (fun j => x2 (ix2 0 j)) j := by
  unfold out0_9
  rw [View.canon_unit_zero hz2]
  simp only [k0_pay15, k0_pay16, k0_pay17, ld0, ld1, ld2, ld3, ld4]
  pointwise [pay5_at]

/-- Window 10's block: the codes of its norm. -/
theorem out10_at (b : Fin 640) (j : Fin 2048) :
    out0_10 x0 x1 x2 x3 x4 (ix2 b j) = qCode (rmsNorm (fun j => x3 (ix2 b j) + quantDot (fun k => x0 (ix2 k b)) x1 (fun j => x2 (ix2 0 j)) j) (fun j => x4 (ix2 0 j))) j := by
  unfold out0_10
  rw [View.canon_unit_zero hz2]
  simp only [k0_pay15, k0_pay16, k0_pay17, ld0, ld1, ld2, ld3, ld4]
  pointwise [pay10_at]

/-- Window 11's block: the scales of its norm. -/
theorem out11_at (z : Fin 1) (b : Fin 640) :
    out0_11 x0 x1 x2 x3 x4 (ix2 z b) = qScale (rmsNorm (fun j => x3 (ix2 b j) + quantDot (fun k => x0 (ix2 k b)) x1 (fun j => x2 (ix2 0 j)) j) (fun j => x4 (ix2 0 j))) := by
  obtain rfl : z = 0 := Subsingleton.elim _ _
  unfold out0_11
  rw [View.canon_unit_zero hz2]
  simp only [k0_pay15, k0_pay16, k0_pay17, ld0, ld1, ld2, ld3, ld4]
  pointwise [k0_pay14, pay9_at]

end

variable (m : (ℓ : Loc nD τ sig) → Buf (Elt Ideal) ℓ)

/-! ## The arguments, as arrays of numbers -/

/-- The state update's outputs, one column per batch row. -/
def A0 (c : Dev nD) : S3072x640.Idx → EReal := m ((c : Thread nD τ).loc main_arg0)
/-- The weights' codes. -/
def A1 (c : Dev nD) : S3072x2048.Idx → EReal := m ((c : Thread nD τ).loc main_arg1)
/-- The weights' scales. -/
def A2 (c : Dev nD) : S2048.Idx → EReal := m ((c : Thread nD τ).loc main_arg2)
/-- The layer's input, which the product is added to. -/
def A3 (c : Dev nD) : S640x1x2048.Idx → EReal := m ((c : Thread nD τ).loc main_arg3)
/-- The norm's weights. -/
def A4 (c : Dev nD) : S2048.Idx → EReal := m ((c : Thread nD τ).loc main_arg4)

/-- Batch row `b` of the outputs. -/
abbrev xrow (c : Dev nD) (b : Fin 640) : Fin 3072 → EReal := fun k => A0 m c (ix2 k b)
/-- One entry of the projection. -/
abbrev proj (c : Dev nD) (b : Fin 640) (j : Fin 2048) : EReal :=
  quantDot (xrow m c b) (A1 m c) (fun j => A2 m c (ix1 j)) j
/-- One row of the residual sum. -/
abbrev res (c : Dev nD) (b : Fin 640) : Fin 2048 → EReal := fun j => A3 m c (ix3 b 0 j) + proj m c b j
/-- One row after the norm. -/
abbrev nrm (c : Dev nD) (b : Fin 640) : Fin 2048 → EReal := rmsNorm (res m c b) (fun j => A4 m c (ix1 j))

/-- The host's reshape of the weights' scales to one row. -/
theorem V_v0 (c : Dev nD) (j : Fin 2048) : V m c main_v0 (ix2 0 j) = A2 m c (ix1 j) := by
  unfold V A2
  after_reads_at

/-- The host's reshape of the layer's input to a matrix. -/
theorem V_v1 (c : Dev nD) (b : Fin 640) (j : Fin 2048) : V m c main_v1 (ix2 b j) = A3 m c (ix3 b 0 j) := by
  unfold V A3
  after_reads_at

/-- The host's reshape of the norm's weights to one row. -/
theorem V_v2 (c : Dev nD) (j : Fin 2048) : V m c main_v2 (ix2 0 j) = A4 m c (ix1 j) := by
  unfold V A4
  after_reads_at

/-! ## The one point's blocks are the whole arrays -/

/-- Every window is at its array's one block. -/
theorem idx_facts : ∀ t : Fin cfg0.N, (∀ a : Fin 2, win0_0.index t a = 0)
    ∧ (∀ a : Fin 2, win0_1.index t a = 0) ∧ (∀ a : Fin 2, win0_2.index t a = 0) ∧ (∀ a : Fin 2, win0_3.index t a = 0) ∧ (∀ a : Fin 2, win0_4.index t a = 0) :=
  (by decide +kernel : ∀ t : Fin grid0.N, _)

/-- So is every output window. -/
theorem idx_out : ∀ t : Fin cfg0.N, (∀ a : Fin 3, win0_5.index t a = 0) ∧ (∀ a : Fin 2, win0_6.index t a = 0) ∧ (∀ a : Fin 2, win0_7.index t a = 0) ∧ (∀ a : Fin 3, win0_8.index t a = 0) ∧ (∀ a : Fin 2, win0_9.index t a = 0) ∧ (∀ a : Fin 2, win0_10.index t a = 0) ∧ (∀ a : Fin 2, win0_11.index t a = 0) :=
  (by decide +kernel : ∀ t : Fin grid0.N, _)

/-- The outputs, read whole. -/
theorem iblk0 (c : Dev nD) (t : Fin cfg0.N) : iblk m c 0 t = A0 m c := by
  obtain ⟨e, -⟩ := idx_facts t
  funext y
  refine (congrArg (V m c main_arg0) (funext fun a => Fin.ext ?_)).trans (congrFun (V_main_arg0 m c) _)
  show win0_0.index t a * _ + 1 * (y a).val = (y a).val
  rw [e a]; omega

/-- The weights' codes, read whole. -/
theorem iblk1 (c : Dev nD) (t : Fin cfg0.N) : iblk m c 1 t = A1 m c := by
  obtain ⟨-, e, -⟩ := idx_facts t
  funext y
  refine (congrArg (V m c main_arg1) (funext fun a => Fin.ext ?_)).trans (congrFun (V_main_arg1 m c) _)
  show win0_1.index t a * _ + 1 * (y a).val = (y a).val
  rw [e a]; omega

/-- The weights' scales, read whole. -/
theorem iblk2 (c : Dev nD) (t : Fin cfg0.N) (j : Fin 2048) : iblk m c 2 t (ix2 0 j) = A2 m c (ix1 j) := by
  obtain ⟨-, -, e, -⟩ := idx_facts t
  refine (congrArg (V m c main_v0) (funext fun a => Fin.ext ?_)).trans (V_v0 m c j)
  show win0_2.index t a * _ + 1 * ((ix2 (0 : Fin 1) j : S1x2048.Idx) a).val = ((ix2 (0 : Fin 1) j : S1x2048.Idx) a).val
  rw [e a]; omega

/-- The layer's input, read whole. -/
theorem iblk3 (c : Dev nD) (t : Fin cfg0.N) (b : Fin 640) (j : Fin 2048) : iblk m c 3 t (ix2 b j) = A3 m c (ix3 b 0 j) := by
  obtain ⟨-, -, -, e, -⟩ := idx_facts t
  refine (congrArg (V m c main_v1) (funext fun a => Fin.ext ?_)).trans (V_v1 m c b j)
  show win0_3.index t a * _ + 1 * ((ix2 b j : S640x2048.Idx) a).val = ((ix2 b j : S640x2048.Idx) a).val
  rw [e a]; omega

/-- The norm's weights, read whole. -/
theorem iblk4 (c : Dev nD) (t : Fin cfg0.N) (j : Fin 2048) : iblk m c 4 t (ix2 0 j) = A4 m c (ix1 j) := by
  obtain ⟨-, -, -, -, e⟩ := idx_facts t
  refine (congrArg (V m c main_v2) (funext fun a => Fin.ext ?_)).trans (V_v2 m c j)
  show win0_4.index t a * _ + 1 * ((ix2 (0 : Fin 1) j : S1x2048.Idx) a).val = ((ix2 (0 : Fin 1) j : S1x2048.Idx) a).val
  rw [e a]; omega

/-! ## The result arrays -/

/-- Window 5's one block is its array: an index of the block is that index of the array, -/
theorem emb5 (t : Fin cfg0.N) (y : S640x1x3072.Idx) : ((cfg0.win 5).blk t).view.emb y = y := by
  obtain ⟨e, -⟩ := idx_out t
  refine funext fun a => Fin.ext ?_
  show win0_5.index t a * _ + 1 * (y a).val = (y a).val
  rw [e a]; omega

/-- and every index of the array is in it. -/
theorem mem5 (t : Fin cfg0.N) (i : S640x1x3072.Idx) : i ∈ ((cfg0.win 5).blk t).view.set := by
  show i ∈ ((View.whole main_v3_0).slice (win0_5.rect t)).set
  obtain ⟨e, -⟩ := idx_out t
  rw [View.set_slice_whole, Rect.mem_set_unit]
  intro a
  show win0_5.index t a * S640x1x3072.size a ≤ (i a).val ∧ (i a).val < win0_5.index t a * S640x1x3072.size a + S640x1x3072.size a
  rw [e a]
  exact ⟨by omega, by have := (i a).isLt; omega⟩

/-- Result 0: the outputs, one row per batch row. -/
theorem final5 (c : Dev nD) : (dats m 0 c).arrAt 5 cfg0.N = fun i : S640x1x3072.Idx => xrow m c (i 0) (i 2) := by
  refine (dats m 0 c).arrAt_eq_of_cover 5 _ (fun t hf => ?_) (fun i => ⟨⟨0, by decide⟩, flush0_5 _, mem5 _ i⟩)
  show (cfg0.win 5).cut (grid0.coords t) ((dats m 0 c).after 5 t) = _
  rw [after0_5]
  funext y
  refine Eq.trans ?_ (congrArg (fun i : S640x1x3072.Idx => xrow m c (i 0) (i 2)) (emb5 t y).symm)
  idx_vars y
  refine (out5_at (iblk m c 0 t) (iblk m c 1 t) (iblk m c 2 t) (iblk m c 3 t) (iblk m c 4 t) _ _ _).trans ?_
  simp only [iblk0, iblk1, iblk2, iblk3, iblk4]

/-- Window 6's one block is its array: an index of the block is that index of the array, -/
theorem emb6 (t : Fin cfg0.N) (y : S640x3072.Idx) : ((cfg0.win 6).blk t).view.emb y = y := by
  obtain ⟨-, e, -⟩ := idx_out t
  refine funext fun a => Fin.ext ?_
  show win0_6.index t a * _ + 1 * (y a).val = (y a).val
  rw [e a]; omega

/-- and every index of the array is in it. -/
theorem mem6 (t : Fin cfg0.N) (i : S640x3072.Idx) : i ∈ ((cfg0.win 6).blk t).view.set := by
  show i ∈ ((View.whole main_v3_1).slice (win0_6.rect t)).set
  obtain ⟨-, e, -⟩ := idx_out t
  rw [View.set_slice_whole, Rect.mem_set_unit]
  intro a
  show win0_6.index t a * S640x3072.size a ≤ (i a).val ∧ (i a).val < win0_6.index t a * S640x3072.size a + S640x3072.size a
  rw [e a]
  exact ⟨by omega, by have := (i a).isLt; omega⟩

/-- Result 1: their codes. -/
theorem final6 (c : Dev nD) : (dats m 0 c).arrAt 6 cfg0.N = fun i : S640x3072.Idx => qCode (xrow m c (i 0)) (i 1) := by
  refine (dats m 0 c).arrAt_eq_of_cover 6 _ (fun t hf => ?_) (fun i => ⟨⟨0, by decide⟩, flush0_6 _, mem6 _ i⟩)
  show (cfg0.win 6).cut (grid0.coords t) ((dats m 0 c).after 6 t) = _
  rw [after0_6]
  funext y
  refine Eq.trans ?_ (congrArg (fun i : S640x3072.Idx => qCode (xrow m c (i 0)) (i 1)) (emb6 t y).symm)
  idx_vars y
  refine (out6_at (iblk m c 0 t) (iblk m c 1 t) (iblk m c 2 t) (iblk m c 3 t) (iblk m c 4 t) _ _).trans ?_
  simp only [iblk0, iblk1, iblk2, iblk3, iblk4]

/-- Window 7's one block is its array: an index of the block is that index of the array, -/
theorem emb7 (t : Fin cfg0.N) (y : S1x640.Idx) : ((cfg0.win 7).blk t).view.emb y = y := by
  obtain ⟨-, -, e, -⟩ := idx_out t
  refine funext fun a => Fin.ext ?_
  show win0_7.index t a * _ + 1 * (y a).val = (y a).val
  rw [e a]; omega

/-- and every index of the array is in it. -/
theorem mem7 (t : Fin cfg0.N) (i : S1x640.Idx) : i ∈ ((cfg0.win 7).blk t).view.set := by
  show i ∈ ((View.whole main_v3_2).slice (win0_7.rect t)).set
  obtain ⟨-, -, e, -⟩ := idx_out t
  rw [View.set_slice_whole, Rect.mem_set_unit]
  intro a
  show win0_7.index t a * S1x640.size a ≤ (i a).val ∧ (i a).val < win0_7.index t a * S1x640.size a + S1x640.size a
  rw [e a]
  exact ⟨by omega, by have := (i a).isLt; omega⟩

/-- Result 2: their scales. -/
theorem final7 (c : Dev nD) : (dats m 0 c).arrAt 7 cfg0.N = fun i : S1x640.Idx => qScale (xrow m c (i 1)) := by
  refine (dats m 0 c).arrAt_eq_of_cover 7 _ (fun t hf => ?_) (fun i => ⟨⟨0, by decide⟩, flush0_7 _, mem7 _ i⟩)
  show (cfg0.win 7).cut (grid0.coords t) ((dats m 0 c).after 7 t) = _
  rw [after0_7]
  funext y
  refine Eq.trans ?_ (congrArg (fun i : S1x640.Idx => qScale (xrow m c (i 1))) (emb7 t y).symm)
  idx_vars y
  refine (out7_at (iblk m c 0 t) (iblk m c 1 t) (iblk m c 2 t) (iblk m c 3 t) (iblk m c 4 t) _ _).trans ?_
  simp only [iblk0, iblk1, iblk2, iblk3, iblk4]

/-- Window 8's one block is its array: an index of the block is that index of the array, -/
theorem emb8 (t : Fin cfg0.N) (y : S640x1x2048.Idx) : ((cfg0.win 8).blk t).view.emb y = y := by
  obtain ⟨-, -, -, e, -⟩ := idx_out t
  refine funext fun a => Fin.ext ?_
  show win0_8.index t a * _ + 1 * (y a).val = (y a).val
  rw [e a]; omega

/-- and every index of the array is in it. -/
theorem mem8 (t : Fin cfg0.N) (i : S640x1x2048.Idx) : i ∈ ((cfg0.win 8).blk t).view.set := by
  show i ∈ ((View.whole main_v3_3).slice (win0_8.rect t)).set
  obtain ⟨-, -, -, e, -⟩ := idx_out t
  rw [View.set_slice_whole, Rect.mem_set_unit]
  intro a
  show win0_8.index t a * S640x1x2048.size a ≤ (i a).val ∧ (i a).val < win0_8.index t a * S640x1x2048.size a + S640x1x2048.size a
  rw [e a]
  exact ⟨by omega, by have := (i a).isLt; omega⟩

/-- Result 3: the projection. -/
theorem final8 (c : Dev nD) : (dats m 0 c).arrAt 8 cfg0.N = fun i : S640x1x2048.Idx => proj m c (i 0) (i 2) := by
  refine (dats m 0 c).arrAt_eq_of_cover 8 _ (fun t hf => ?_) (fun i => ⟨⟨0, by decide⟩, flush0_8 _, mem8 _ i⟩)
  show (cfg0.win 8).cut (grid0.coords t) ((dats m 0 c).after 8 t) = _
  rw [after0_8]
  funext y
  refine Eq.trans ?_ (congrArg (fun i : S640x1x2048.Idx => proj m c (i 0) (i 2)) (emb8 t y).symm)
  idx_vars y
  refine (out8_at (iblk m c 0 t) (iblk m c 1 t) (iblk m c 2 t) (iblk m c 3 t) (iblk m c 4 t) _ _ _).trans ?_
  simp only [iblk0, iblk1, iblk2, iblk3, iblk4]

/-- Window 9's one block is its array: an index of the block is that index of the array, -/
theorem emb9 (t : Fin cfg0.N) (y : S640x2048.Idx) : ((cfg0.win 9).blk t).view.emb y = y := by
  obtain ⟨-, -, -, -, e, -⟩ := idx_out t
  refine funext fun a => Fin.ext ?_
  show win0_9.index t a * _ + 1 * (y a).val = (y a).val
  rw [e a]; omega

/-- and every index of the array is in it. -/
theorem mem9 (t : Fin cfg0.N) (i : S640x2048.Idx) : i ∈ ((cfg0.win 9).blk t).view.set := by
  show i ∈ ((View.whole main_v3_4).slice (win0_9.rect t)).set
  obtain ⟨-, -, -, -, e, -⟩ := idx_out t
  rw [View.set_slice_whole, Rect.mem_set_unit]
  intro a
  show win0_9.index t a * S640x2048.size a ≤ (i a).val ∧ (i a).val < win0_9.index t a * S640x2048.size a + S640x2048.size a
  rw [e a]
  exact ⟨by omega, by have := (i a).isLt; omega⟩

/-- Result 4: the residual sum. -/
theorem final9 (c : Dev nD) : (dats m 0 c).arrAt 9 cfg0.N = fun i : S640x2048.Idx => res m c (i 0) (i 1) := by
  refine (dats m 0 c).arrAt_eq_of_cover 9 _ (fun t hf => ?_) (fun i => ⟨⟨0, by decide⟩, flush0_9 _, mem9 _ i⟩)
  show (cfg0.win 9).cut (grid0.coords t) ((dats m 0 c).after 9 t) = _
  rw [after0_9]
  funext y
  refine Eq.trans ?_ (congrArg (fun i : S640x2048.Idx => res m c (i 0) (i 1)) (emb9 t y).symm)
  idx_vars y
  refine (out9_at (iblk m c 0 t) (iblk m c 1 t) (iblk m c 2 t) (iblk m c 3 t) (iblk m c 4 t) _ _).trans ?_
  simp only [iblk0, iblk1, iblk2, iblk3, iblk4]

/-- Window 10's one block is its array: an index of the block is that index of the array, -/
theorem emb10 (t : Fin cfg0.N) (y : S640x2048.Idx) : ((cfg0.win 10).blk t).view.emb y = y := by
  obtain ⟨-, -, -, -, -, e, -⟩ := idx_out t
  refine funext fun a => Fin.ext ?_
  show win0_10.index t a * _ + 1 * (y a).val = (y a).val
  rw [e a]; omega

/-- and every index of the array is in it. -/
theorem mem10 (t : Fin cfg0.N) (i : S640x2048.Idx) : i ∈ ((cfg0.win 10).blk t).view.set := by
  show i ∈ ((View.whole main_v3_5).slice (win0_10.rect t)).set
  obtain ⟨-, -, -, -, -, e, -⟩ := idx_out t
  rw [View.set_slice_whole, Rect.mem_set_unit]
  intro a
  show win0_10.index t a * S640x2048.size a ≤ (i a).val ∧ (i a).val < win0_10.index t a * S640x2048.size a + S640x2048.size a
  rw [e a]
  exact ⟨by omega, by have := (i a).isLt; omega⟩

/-- Result 5: the codes of its norm. -/
theorem final10 (c : Dev nD) : (dats m 0 c).arrAt 10 cfg0.N = fun i : S640x2048.Idx => qCode (nrm m c (i 0)) (i 1) := by
  refine (dats m 0 c).arrAt_eq_of_cover 10 _ (fun t hf => ?_) (fun i => ⟨⟨0, by decide⟩, flush0_10 _, mem10 _ i⟩)
  show (cfg0.win 10).cut (grid0.coords t) ((dats m 0 c).after 10 t) = _
  rw [after0_10]
  funext y
  refine Eq.trans ?_ (congrArg (fun i : S640x2048.Idx => qCode (nrm m c (i 0)) (i 1)) (emb10 t y).symm)
  idx_vars y
  refine (out10_at (iblk m c 0 t) (iblk m c 1 t) (iblk m c 2 t) (iblk m c 3 t) (iblk m c 4 t) _ _).trans ?_
  simp only [iblk0, iblk1, iblk2, iblk3, iblk4]

/-- Window 11's one block is its array: an index of the block is that index of the array, -/
theorem emb11 (t : Fin cfg0.N) (y : S1x640.Idx) : ((cfg0.win 11).blk t).view.emb y = y := by
  obtain ⟨-, -, -, -, -, -, e⟩ := idx_out t
  refine funext fun a => Fin.ext ?_
  show win0_11.index t a * _ + 1 * (y a).val = (y a).val
  rw [e a]; omega

/-- and every index of the array is in it. -/
theorem mem11 (t : Fin cfg0.N) (i : S1x640.Idx) : i ∈ ((cfg0.win 11).blk t).view.set := by
  show i ∈ ((View.whole main_v3_6).slice (win0_11.rect t)).set
  obtain ⟨-, -, -, -, -, -, e⟩ := idx_out t
  rw [View.set_slice_whole, Rect.mem_set_unit]
  intro a
  show win0_11.index t a * S1x640.size a ≤ (i a).val ∧ (i a).val < win0_11.index t a * S1x640.size a + S1x640.size a
  rw [e a]
  exact ⟨by omega, by have := (i a).isLt; omega⟩

/-- Result 6: the scales of its norm. -/
theorem final11 (c : Dev nD) : (dats m 0 c).arrAt 11 cfg0.N = fun i : S1x640.Idx => qScale (nrm m c (i 1)) := by
  refine (dats m 0 c).arrAt_eq_of_cover 11 _ (fun t hf => ?_) (fun i => ⟨⟨0, by decide⟩, flush0_11 _, mem11 _ i⟩)
  show (cfg0.win 11).cut (grid0.coords t) ((dats m 0 c).after 11 t) = _
  rw [after0_11]
  funext y
  refine Eq.trans ?_ (congrArg (fun i : S1x640.Idx => qScale (nrm m c (i 1))) (emb11 t y).symm)
  idx_vars y
  refine (out11_at (iblk m c 0 t) (iblk m c 1 t) (iblk m c 2 t) (iblk m c 3 t) (iblk m c 4 t) _ _).trans ?_
  simp only [iblk0, iblk1, iblk2, iblk3, iblk4]

end Cert.OutProjRefIdeal.Hand

end
-- ==== Proof.OutProjClaim.lean ====
/-
  The third call against its reference: from memories that agree on the arguments both runs leave the same seven arrays.
-/
module

public import proofs.«01_k».proof.Defs
public import proofs.«01_k».proof.Proof.OutProjKernel
public import proofs.«01_k».proof.Proof.OutProjReference

@[expose] public section

set_option maxRecDepth 16384

noncomputable section

namespace Cert.OutProjClaim

open Idealize.ShloMosaic Idealize.ShloMosaic.TcCoe Idealize.SL.Sem Cert Cert.Spec

/-- Both programs leave, entry by entry, the same function of the arguments in each of the seven result arrays. -/
theorem algebraic : algebraic_OutProjIdeal_OutProjRefIdeal (hOutProjIdeal := Cert.OutProjIdeal.Gen.facts)
    (hOutProjRefIdeal := Cert.OutProjRefIdeal.Gen.facts) := by
  intro m ρ m' ρ' _ hag
  have e0 : ∀ c, Cert.OutProjRefIdeal.Hand.A0 m' c = Cert.OutProjIdeal.Hand.A0 m c := fun c => (hag c).1
  have e1 : ∀ c, Cert.OutProjRefIdeal.Hand.A1 m' c = Cert.OutProjIdeal.Hand.A1 m c := fun c => (hag c).2.1
  have e2 : ∀ c, Cert.OutProjRefIdeal.Hand.A2 m' c = Cert.OutProjIdeal.Hand.A2 m c := fun c => (hag c).2.2.1
  have e3 : ∀ c, Cert.OutProjRefIdeal.Hand.A3 m' c = Cert.OutProjIdeal.Hand.A3 m c := fun c => (hag c).2.2.2.1
  have e4 : ∀ c, Cert.OutProjRefIdeal.Hand.A4 m' c = Cert.OutProjIdeal.Hand.A4 m c := fun c => (hag c).2.2.2.2
  have ex : ∀ c b, Cert.OutProjRefIdeal.Hand.xrow m' c b = Cert.OutProjIdeal.Hand.xrow m c b := fun c b => by
    unfold Cert.OutProjRefIdeal.Hand.xrow Cert.OutProjIdeal.Hand.xrow
    rw [e0]
  have ep : ∀ c b j, Cert.OutProjRefIdeal.Hand.proj m' c b j = Cert.OutProjIdeal.Hand.proj m c b j := fun c b j => by
    unfold Cert.OutProjRefIdeal.Hand.proj Cert.OutProjIdeal.Hand.proj
    rw [ex, e1, e2]
  have er : ∀ c b, Cert.OutProjRefIdeal.Hand.res m' c b = Cert.OutProjIdeal.Hand.res m c b := fun c b => funext fun j => by
    unfold Cert.OutProjRefIdeal.Hand.res Cert.OutProjIdeal.Hand.res
    rw [ep, e3]
  have en : ∀ c b, Cert.OutProjRefIdeal.Hand.nrm m' c b = Cert.OutProjIdeal.Hand.nrm m c b := fun c b => by
    unfold Cert.OutProjRefIdeal.Hand.nrm Cert.OutProjIdeal.Hand.nrm
    rw [er, e4]
  refine ⟨_, _, _, _, _, _, _, Cert.OutProjIdeal.Value.run_blocks m ρ,
    (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2⟩)
      (Cert.OutProjRefIdeal.Value.run_blocks m' ρ')⟩
  · have h5 : (fun i : Cert.OutProjIdeal.S640x1x3072.Idx => Cert.OutProjRefIdeal.Hand.xrow m' c (i 0) (i 2))
        = fun i : Cert.OutProjIdeal.S640x1x3072.Idx => Cert.OutProjIdeal.Hand.xrow m c (i 0) (i 2) :=
      funext fun i => congrFun (ex c (i 0)) (i 2)
    exact ((Cert.OutProjRefIdeal.Hand.final5 m' c).trans h5).trans (Cert.OutProjIdeal.Hand.final5 m c).symm
  · have h6 : (fun i : Cert.OutProjIdeal.S640x3072.Idx => qCode (Cert.OutProjRefIdeal.Hand.xrow m' c (i 0)) (i 1))
        = fun i : Cert.OutProjIdeal.S640x3072.Idx => qCode (Cert.OutProjIdeal.Hand.xrow m c (i 0)) (i 1) :=
      funext fun i => congrArg (fun v => qCode v (i 1)) (ex c (i 0))
    exact ((Cert.OutProjRefIdeal.Hand.final6 m' c).trans h6).trans (Cert.OutProjIdeal.Hand.final6 m c).symm
  · have h7 : (fun i : Cert.OutProjIdeal.S1x640.Idx => qScale (Cert.OutProjRefIdeal.Hand.xrow m' c (i 1)))
        = fun i : Cert.OutProjIdeal.S1x640.Idx => qScale (Cert.OutProjIdeal.Hand.xrow m c (i 1)) :=
      funext fun i => congrArg qScale (ex c (i 1))
    exact ((Cert.OutProjRefIdeal.Hand.final7 m' c).trans h7).trans (Cert.OutProjIdeal.Hand.final7 m c).symm
  · have h8 : (fun i : Cert.OutProjIdeal.S640x1x2048.Idx => Cert.OutProjRefIdeal.Hand.proj m' c (i 0) (i 2))
        = fun i : Cert.OutProjIdeal.S640x1x2048.Idx => Cert.OutProjIdeal.Hand.proj m c (i 0) (i 2) :=
      funext fun i => ep c (i 0) (i 2)
    exact ((Cert.OutProjRefIdeal.Hand.final8 m' c).trans h8).trans (Cert.OutProjIdeal.Hand.final8 m c).symm
  · have h9 : (fun i : Cert.OutProjIdeal.S640x2048.Idx => Cert.OutProjRefIdeal.Hand.res m' c (i 0) (i 1))
        = fun i : Cert.OutProjIdeal.S640x2048.Idx => Cert.OutProjIdeal.Hand.res m c (i 0) (i 1) :=
      funext fun i => congrFun (er c (i 0)) (i 1)
    exact ((Cert.OutProjRefIdeal.Hand.final9 m' c).trans h9).trans (Cert.OutProjIdeal.Hand.final9 m c).symm
  · have h10 : (fun i : Cert.OutProjIdeal.S640x2048.Idx => qCode (Cert.OutProjRefIdeal.Hand.nrm m' c (i 0)) (i 1))
        = fun i : Cert.OutProjIdeal.S640x2048.Idx => qCode (Cert.OutProjIdeal.Hand.nrm m c (i 0)) (i 1) :=
      funext fun i => congrArg (fun v => qCode v (i 1)) (en c (i 0))
    exact ((Cert.OutProjRefIdeal.Hand.final10 m' c).trans h10).trans (Cert.OutProjIdeal.Hand.final10 m c).symm
  · have h11 : (fun i : Cert.OutProjIdeal.S1x640.Idx => qScale (Cert.OutProjRefIdeal.Hand.nrm m' c (i 1)))
        = fun i : Cert.OutProjIdeal.S1x640.Idx => qScale (Cert.OutProjIdeal.Hand.nrm m c (i 1)) :=
      funext fun i => congrArg qScale (en c (i 1))
    exact ((Cert.OutProjRefIdeal.Hand.final11 m' c).trans h11).trans (Cert.OutProjIdeal.Hand.final11 m c).symm

end Cert.OutProjClaim

end
-- ==== Proof.GateUpIdealBody.lean ====
/- What the kernel's body leaves at one grid point, as functions of the blocks it reads, and the body's branch conditions. -/
module

public import proofs.«01_k».proof.Proof.Gen.GateUpIdeal.Frame
public import proofs.«01_k».proof.Proof.Gen.GateUpIdeal.Skeleton
public import Idealize.ShloMosaic.Lib.WritesUnit
public import Idealize.ShloMosaic.Lib.Pipeline.Value

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Offsets all zero, of rank two. -/
theorem hz2 : (![0, 0] : Fin 2 → ℕ) = fun _ => 0 := by decide
/-- Offsets all zero, of rank three. -/
theorem hz3 : (![0, 0, 0] : Fin 3 → ℕ) = fun _ => 0 := by decide

/-- The copy of the scales the first point makes: five bands of 128 rows, each a transposed piece of the scales row. -/
def scol (x1 : Vec F S1x640 .f32) : Vec F S640x128 .f32 := View.canon [
    ⟨Rect.unit (s := S640x128) ![512, 0] S128x128.size inb_S640x128_S128x128_512_0, k0_pay7 (View.ld x1 (Rect.unit (s := S1x640) ![0, 512] S1x128.size inb_S1x640_S1x128_0_512))⟩,
    ⟨Rect.unit (s := S640x128) ![384, 0] S128x128.size inb_S640x128_S128x128_384_0, k0_pay6 (View.ld x1 (Rect.unit (s := S1x640) ![0, 384] S1x128.size inb_S1x640_S1x128_0_384))⟩,
    ⟨Rect.unit (s := S640x128) ![256, 0] S128x128.size inb_S640x128_S128x128_256_0, k0_pay5 (View.ld x1 (Rect.unit (s := S1x640) ![0, 256] S1x128.size inb_S1x640_S1x128_0_256))⟩,
    ⟨Rect.unit (s := S640x128) ![128, 0] S128x128.size inb_S640x128_S128x128_128_0, k0_pay4 (View.ld x1 (Rect.unit (s := S1x640) ![0, 128] S1x128.size inb_S1x640_S1x128_0_128))⟩,
    ⟨Rect.unit (s := S640x128) ![0, 0] S128x128.size inb_S640x128_S128x128_0_0, k0_pay3 (View.ld x1 (Rect.unit (s := S1x640) ![0, 0] S1x128.size inb_S1x640_S1x128_0_0))⟩]

/-- The copy's first column, as the products are scaled by it. -/
abbrev col (s : Vec F S640x128 .f32) : Vec F S640x1 .f32 :=
  View.ld s (Rect.unit (s := S640x128) ![0, 0] S640x1.size inb_S640x128_S640x1_0_0)

/-- The gate columns a point writes. -/
def gOut (x0 : Vec F S640x2048 .fp8e4m3) (s : Vec F S640x128 .f32) (x2 : Vec F S2048x512 .fp8e4m3) (x3 : Vec F S1x512 .f32) : Vec F S640x1x512 .f32 :=
  k0_pay29 (View.ld x0 (Rect.unit (s := S640x2048) ![0, 0] S640x2048.size inb_S640x2048_S640x2048_0_0)) (col s) (View.ld x2 (Rect.unit (s := S2048x512) ![0, 0] S2048x512.size inb_S2048x512_S2048x512_0_0)) (View.ld x3 (Rect.unit (s := S1x512) ![0, 0] S1x512.size inb_S1x512_S1x512_0_0))

/-- The up columns a point writes. -/
def vOut (x0 : Vec F S640x2048 .fp8e4m3) (s : Vec F S640x128 .f32) (x4 : Vec F S2048x512 .fp8e4m3) (x5 : Vec F S1x512 .f32) : Vec F S640x1x512 .f32 :=
  k0_pay30 (View.ld x0 (Rect.unit (s := S640x2048) ![0, 0] S640x2048.size inb_S640x2048_S640x2048_0_0)) (col s) (View.ld x4 (Rect.unit (s := S2048x512) ![0, 0] S2048x512.size inb_S2048x512_S2048x512_0_0)) (View.ld x5 (Rect.unit (s := S1x512) ![0, 0] S1x512.size inb_S1x512_S1x512_0_0))

/-- The hidden columns a point puts in the scratch. -/
def hidCols (x0 : Vec F S640x2048 .fp8e4m3) (s : Vec F S640x128 .f32) (x2 : Vec F S2048x512 .fp8e4m3) (x3 : Vec F S1x512 .f32) (x4 : Vec F S2048x512 .fp8e4m3) (x5 : Vec F S1x512 .f32) : Vec F S640x512 .f32 :=
  k0_pay1 (k0_pay27 (View.ld x0 (Rect.unit (s := S640x2048) ![0, 0] S640x2048.size inb_S640x2048_S640x2048_0_0)) (col s) (View.ld x2 (Rect.unit (s := S2048x512) ![0, 0] S2048x512.size inb_S2048x512_S2048x512_0_0)) (View.ld x3 (Rect.unit (s := S1x512) ![0, 0] S1x512.size inb_S1x512_S1x512_0_0))) (k0_pay28 (View.ld x0 (Rect.unit (s := S640x2048) ![0, 0] S640x2048.size inb_S640x2048_S640x2048_0_0)) (col s) (View.ld x4 (Rect.unit (s := S2048x512) ![0, 0] S2048x512.size inb_S2048x512_S2048x512_0_0)) (View.ld x5 (Rect.unit (s := S1x512) ![0, 0] S1x512.size inb_S1x512_S1x512_0_0))) (k0_pay31 (View.ld x0 (Rect.unit (s := S640x2048) ![0, 0] S640x2048.size inb_S640x2048_S640x2048_0_0)) (col s) (View.ld x2 (Rect.unit (s := S2048x512) ![0, 0] S2048x512.size inb_S2048x512_S2048x512_0_0)) (View.ld x3 (Rect.unit (s := S1x512) ![0, 0] S1x512.size inb_S1x512_S1x512_0_0)))

/-- The scratch `h` with the columns of point `i` replaced by `w`. -/
def hidUp (i : grid0.Coords) (h : Vec F S640x5632 .f32) (w : Vec F S640x512 .f32) : Vec F S640x5632 .f32 := fun y =>
  if hy : ∀ a, k0_off1 i a ≤ (y a).val ∧ (y a).val < k0_off1 i a + S640x512.size a then
    w (Rect.unitLocal (s := S640x5632) (off := k0_off1 i) (size := S640x512.size) y hy)
  else h y

/-- Storing a point's columns in the scratch leaves `hidUp`. -/
theorem read_hidUp (i : grid0.Coords) (M : Memref sig .tc .vmem S640x5632 .f32) (hM : M.IsWhole) (h : Vec F S640x5632 .f32) (w : Vec F S640x512 .f32) :
    M.view.read (Elt F) (M.view.writes (Elt F) (hM.unread h) [⟨Rect.unit (s := S640x5632) (k0_off1 i) S640x512.size (k0_off1_inb i), w⟩])
      = hidUp i h w := by
  funext y
  rw [View.read_writes_cons_unit M.view _ (k0_off1_inb i) w [] y rfl, View.writes_nil, hM.read_unread]
  rfl

/-- The gate columns, the loads of whole blocks read. -/
theorem gOut_eq (x0 : Vec F S640x2048 .fp8e4m3) (s : Vec F S640x128 .f32) (x2 : Vec F S2048x512 .fp8e4m3) (x3 : Vec F S1x512 .f32) :
    gOut x0 s x2 x3 = k0_pay29 x0 (col s) x2 x3 := by
  unfold gOut; rw [View.ld_unit_zero hz2 _ x0, View.ld_unit_zero hz2 _ x2, View.ld_unit_zero hz2 _ x3]

/-- The up columns, the loads of whole blocks read. -/
theorem vOut_eq (x0 : Vec F S640x2048 .fp8e4m3) (s : Vec F S640x128 .f32) (x4 : Vec F S2048x512 .fp8e4m3) (x5 : Vec F S1x512 .f32) :
    vOut x0 s x4 x5 = k0_pay30 x0 (col s) x4 x5 := by
  unfold vOut; rw [View.ld_unit_zero hz2 _ x0, View.ld_unit_zero hz2 _ x4, View.ld_unit_zero hz2 _ x5]

/-- The hidden columns, the loads of whole blocks read. -/
theorem hidCols_eq (x0 : Vec F S640x2048 .fp8e4m3) (s : Vec F S640x128 .f32) (x2 : Vec F S2048x512 .fp8e4m3) (x3 : Vec F S1x512 .f32) (x4 : Vec F S2048x512 .fp8e4m3) (x5 : Vec F S1x512 .f32) :
    hidCols x0 s x2 x3 x4 x5 = k0_pay1 (k0_pay27 x0 (col s) x2 x3) (k0_pay28 x0 (col s) x4 x5) (k0_pay31 x0 (col s) x2 x3) := by
  unfold hidCols; rw [View.ld_unit_zero hz2 _ x0, View.ld_unit_zero hz2 _ x2, View.ld_unit_zero hz2 _ x3, View.ld_unit_zero hz2 _ x4, View.ld_unit_zero hz2 _ x5]

/-- The codes of the hidden rows, in five bands of 128 rows. -/
def codesOf (h : Vec F S640x5632 .f32) : Vec F S640x5632 .fp8e4m3 := View.canon [
    ⟨Rect.unit (s := S640x5632) ![512, 0] S128x5632.size inb_S640x5632_S128x5632_512_0, k0_pay25 (View.ld h (Rect.unit (s := S640x5632) ![512, 0] S128x5632.size inb_S640x5632_S128x5632_512_0))⟩,
    ⟨Rect.unit (s := S640x5632) ![384, 0] S128x5632.size inb_S640x5632_S128x5632_384_0, k0_pay22 (View.ld h (Rect.unit (s := S640x5632) ![384, 0] S128x5632.size inb_S640x5632_S128x5632_384_0)) (k0_pay19 (View.ld h (Rect.unit (s := S640x5632) ![384, 0] S128x5632.size inb_S640x5632_S128x5632_384_0))) (k0_pay20 (F := F))⟩,
    ⟨Rect.unit (s := S640x5632) ![256, 0] S128x5632.size inb_S640x5632_S128x5632_256_0, k0_pay17 (View.ld h (Rect.unit (s := S640x5632) ![256, 0] S128x5632.size inb_S640x5632_S128x5632_256_0))⟩,
    ⟨Rect.unit (s := S640x5632) ![128, 0] S128x5632.size inb_S640x5632_S128x5632_128_0, k0_pay14 (k0_pay12 (View.ld h (Rect.unit (s := S640x5632) ![128, 0] S128x5632.size inb_S640x5632_S128x5632_128_0))) (k0_pay13 (F := F))⟩,
    ⟨Rect.unit (s := S640x5632) ![0, 0] S128x5632.size inb_S640x5632_S128x5632_0_0, k0_pay9 (View.ld h (Rect.unit (s := S640x5632) ![0, 0] S128x5632.size inb_S640x5632_S128x5632_0_0))⟩]

/-- The scales of the hidden rows, in five bands of 128. -/
def scalesOf (h : Vec F S640x5632 .f32) : Vec F S1x640 .f32 := View.canon [
    ⟨Rect.unit (s := S1x640) ![0, 512] S1x128.size inb_S1x640_S1x128_0_512, k0_pay2 (k0_pay26 (View.ld h (Rect.unit (s := S640x5632) ![512, 0] S128x5632.size inb_S640x5632_S128x5632_512_0)))⟩,
    ⟨Rect.unit (s := S1x640) ![0, 384] S1x128.size inb_S1x640_S1x128_0_384, k0_pay23 (k0_pay19 (View.ld h (Rect.unit (s := S640x5632) ![384, 0] S128x5632.size inb_S640x5632_S128x5632_384_0))) (k0_pay20 (F := F))⟩,
    ⟨Rect.unit (s := S1x640) ![0, 256] S1x128.size inb_S1x640_S1x128_0_256, k0_pay18 (View.ld h (Rect.unit (s := S640x5632) ![256, 0] S128x5632.size inb_S640x5632_S128x5632_256_0))⟩,
    ⟨Rect.unit (s := S1x640) ![0, 128] S1x128.size inb_S1x640_S1x128_0_128, k0_pay15 (k0_pay11 (View.ld h (Rect.unit (s := S640x5632) ![128, 0] S128x5632.size inb_S640x5632_S128x5632_128_0)))⟩,
    ⟨Rect.unit (s := S1x640) ![0, 0] S1x128.size inb_S1x640_S1x128_0_0, k0_pay10 (View.ld h (Rect.unit (s := S640x5632) ![0, 0] S128x5632.size inb_S640x5632_S128x5632_0_0))⟩]

/-- The bands' payloads over any five bands of `h`. -/
theorem codesOf_of (h : Vec F S640x5632 .f32) {b0 b1 b2 b3 b4 : Vec F S128x5632 .f32} (h0 : b0 = View.ld h (Rect.unit (s := S640x5632) ![0, 0] S128x5632.size inb_S640x5632_S128x5632_0_0)) (h1 : b1 = View.ld h (Rect.unit (s := S640x5632) ![128, 0] S128x5632.size inb_S640x5632_S128x5632_128_0)) (h2 : b2 = View.ld h (Rect.unit (s := S640x5632) ![256, 0] S128x5632.size inb_S640x5632_S128x5632_256_0)) (h3 : b3 = View.ld h (Rect.unit (s := S640x5632) ![384, 0] S128x5632.size inb_S640x5632_S128x5632_384_0)) (h4 : b4 = View.ld h (Rect.unit (s := S640x5632) ![512, 0] S128x5632.size inb_S640x5632_S128x5632_512_0)) :
    (View.canon [
    ⟨Rect.unit (s := S640x5632) ![512, 0] S128x5632.size inb_S640x5632_S128x5632_512_0, k0_pay25 b4⟩,
    ⟨Rect.unit (s := S640x5632) ![384, 0] S128x5632.size inb_S640x5632_S128x5632_384_0, k0_pay22 b3 (k0_pay19 b3) (k0_pay20 (F := F))⟩,
    ⟨Rect.unit (s := S640x5632) ![256, 0] S128x5632.size inb_S640x5632_S128x5632_256_0, k0_pay17 b2⟩,
    ⟨Rect.unit (s := S640x5632) ![128, 0] S128x5632.size inb_S640x5632_S128x5632_128_0, k0_pay14 (k0_pay12 b1) (k0_pay13 (F := F))⟩,
    ⟨Rect.unit (s := S640x5632) ![0, 0] S128x5632.size inb_S640x5632_S128x5632_0_0, k0_pay9 b0⟩] : Vec F S640x5632 .fp8e4m3) = codesOf h := by
  subst h0 h1 h2 h3 h4; rfl

/-- The bands' payloads over any five bands of `h`. -/
theorem scalesOf_of (h : Vec F S640x5632 .f32) {b0 b1 b2 b3 b4 : Vec F S128x5632 .f32} (h0 : b0 = View.ld h (Rect.unit (s := S640x5632) ![0, 0] S128x5632.size inb_S640x5632_S128x5632_0_0)) (h1 : b1 = View.ld h (Rect.unit (s := S640x5632) ![128, 0] S128x5632.size inb_S640x5632_S128x5632_128_0)) (h2 : b2 = View.ld h (Rect.unit (s := S640x5632) ![256, 0] S128x5632.size inb_S640x5632_S128x5632_256_0)) (h3 : b3 = View.ld h (Rect.unit (s := S640x5632) ![384, 0] S128x5632.size inb_S640x5632_S128x5632_384_0)) (h4 : b4 = View.ld h (Rect.unit (s := S640x5632) ![512, 0] S128x5632.size inb_S640x5632_S128x5632_512_0)) :
    (View.canon [
    ⟨Rect.unit (s := S1x640) ![0, 512] S1x128.size inb_S1x640_S1x128_0_512, k0_pay2 (k0_pay26 b4)⟩,
    ⟨Rect.unit (s := S1x640) ![0, 384] S1x128.size inb_S1x640_S1x128_0_384, k0_pay23 (k0_pay19 b3) (k0_pay20 (F := F))⟩,
    ⟨Rect.unit (s := S1x640) ![0, 256] S1x128.size inb_S1x640_S1x128_0_256, k0_pay18 b2⟩,
    ⟨Rect.unit (s := S1x640) ![0, 128] S1x128.size inb_S1x640_S1x128_0_128, k0_pay15 (k0_pay11 b1)⟩,
    ⟨Rect.unit (s := S1x640) ![0, 0] S1x128.size inb_S1x640_S1x128_0_0, k0_pay10 b0⟩] : Vec F S1x640 .f32) = scalesOf h := by
  subst h0 h1 h2 h3 h4; rfl

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_1, k0_cond2, e0]
    word_cmp
   : ∀ t : Fin grid0.N, cond0_1 (grid0.coords t) ↔ t.val % 11 = 10)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
abbrev ms0_0 (t : Fin cfg0.N) : Memref sig .tc .vmem S640x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x5632 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x640 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S640x5632 .f32 := Memref.whole cc0_scratch0
abbrev scM0_1 : Memref sig .tc .vmem S640x128 .f32 := Memref.whole cc0_scratch1
/-- The scratch `arg12` the kernel carries between points, as a view: what it holds is stated through it. -/
abbrev VS0_1 : View sig .tc .vmem S640x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GateUpIdeal.Hand

end
-- ==== Proof.GateUpIdealRunA.lean ====
/- The body's run at the first grid point. -/
module

public import proofs.«01_k».proof.Proof.GateUpIdealBody

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the row-to-column copy of the scales is made, then this block's columns. -/
theorem run_A (c : Dev nD) (i : grid0.Coords) (arg1 : Memref sig .tc .vmem S640x2048 .fp8e4m3) (harg1 : arg1.IsWhole) (arg2 : Memref sig .tc .vmem S1x640 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S2048x512 .fp8e4m3) (harg5 : arg5.IsWhole) (arg6 : Memref sig .tc .vmem S1x512 .f32) (harg6 : arg6.IsWhole) (arg7 : Memref sig .tc .vmem S640x1x512 .f32) (harg7 : arg7.IsWhole) (arg8 : Memref sig .tc .vmem S640x1x512 .f32) (harg8 : arg8.IsWhole) (arg9 : Memref sig .tc .vmem S640x5632 .fp8e4m3) (harg9 : arg9.IsWhole) (arg10 : Memref sig .tc .vmem S1x640 .f32) (harg10 : arg10.IsWhole) (arg11 : Memref sig .tc .vmem S640x5632 .f32) (harg11 : arg11.IsWhole) (arg12 : Memref sig .tc .vmem S640x128 .f32) (harg12 : arg12.IsWhole) (hc0 : cond0_0 i) (hc1 : ¬cond0_1 i)
    (x0 : Vec F S640x2048 .fp8e4m3) (x1 : Vec F S1x640 .f32) (x2 : Vec F S2048x512 .fp8e4m3) (x3 : Vec F S1x512 .f32) (x4 : Vec F S2048x512 .fp8e4m3) (x5 : Vec F S1x512 .f32) (xh : Vec F S640x5632 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg11 fullShare xh ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gOut x0 (scol x1) x2 x3) ∗ owns (c : Thread nD τ) arg8 fullShare (vOut x0 (scol x1) x4 x5) ∗ owns (c : Thread nD τ) arg11 fullShare (hidUp i xh (hidCols x0 (scol x1) x2 x3 x4 x5)) ∗ owns (c : Thread nD τ) arg12 fullShare (scol x1)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  simp only [k0_part5_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fh, %hfh, HH⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfh
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread]
    rfl
  isplitl [H7]
  · iexists _; isplitr; swap; · iexact H7
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread]
    rfl
  isplitl [HH]
  · iexists _; isplitr; swap; · iexact HH
    ipureintro
    refine (read_hidUp i arg11 harg11 xh _).trans (congrArg (hidUp i xh) ?_)
    sl_unfold_words
    simp only [View.readAt_eq_ld, View.readCov_eq_canon', harg1.read_unread, harg2.read_unread, harg3.read_unread, harg4.read_unread, harg5.read_unread, harg6.read_unread, harg11.read_unread]
    rfl
  iexists _; isplitr; swap; · iexact HS
  ipureintro; rw [View.read_writes_eq_canon _ _ _ (View.cover_of_tiledL (s := S640x128) _ ![128,128] (by sl_kernel_rfl))]
  sl_unfold_words
  simp only [View.readAt_eq_ld, harg1.read_unread, harg2.read_unread, harg3.read_unread, harg4.read_unread, harg5.read_unread, harg6.read_unread, harg11.read_unread]
  rfl

end Cert.GateUpIdeal.Hand

end
-- ==== Proof.GateUpIdealRunB.lean ====
/- The body's run at a middle grid point. -/
module

public import proofs.«01_k».proof.Proof.GateUpIdealBody

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point: the copy of the scales is read as the first point left it. -/
theorem run_B (c : Dev nD) (i : grid0.Coords) (arg1 : Memref sig .tc .vmem S640x2048 .fp8e4m3) (harg1 : arg1.IsWhole) (arg2 : Memref sig .tc .vmem S1x640 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S2048x512 .fp8e4m3) (harg5 : arg5.IsWhole) (arg6 : Memref sig .tc .vmem S1x512 .f32) (harg6 : arg6.IsWhole) (arg7 : Memref sig .tc .vmem S640x1x512 .f32) (harg7 : arg7.IsWhole) (arg8 : Memref sig .tc .vmem S640x1x512 .f32) (harg8 : arg8.IsWhole) (arg9 : Memref sig .tc .vmem S640x5632 .fp8e4m3) (harg9 : arg9.IsWhole) (arg10 : Memref sig .tc .vmem S1x640 .f32) (harg10 : arg10.IsWhole) (arg11 : Memref sig .tc .vmem S640x5632 .f32) (harg11 : arg11.IsWhole) (arg12 : Memref sig .tc .vmem S640x128 .f32) (harg12 : arg12.IsWhole) (hc0 : ¬cond0_0 i) (hc1 : ¬cond0_1 i)
    (x0 : Vec F S640x2048 .fp8e4m3) (x1 : Vec F S1x640 .f32) (x2 : Vec F S2048x512 .fp8e4m3) (x3 : Vec F S1x512 .f32) (x4 : Vec F S2048x512 .fp8e4m3) (x5 : Vec F S1x512 .f32) (xh : Vec F S640x5632 .f32) (xs : Vec F S640x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg11 fullShare xh ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gOut x0 xs x2 x3) ∗ owns (c : Thread nD τ) arg8 fullShare (vOut x0 xs x4 x5) ∗ owns (c : Thread nD τ) arg11 fullShare (hidUp i xh (hidCols x0 xs x2 x3 x4 x5)) ∗ owns (c : Thread nD τ) arg12 fullShare xs) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fh, %hfh, HH⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfh; obtain rfl := harg12.eq_unread hfs
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread, harg12.read_unread]
    rfl
  isplitl [H7]
  · iexists _; isplitr; swap; · iexact H7
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread, harg12.read_unread]
    rfl
  isplitl [HH]
  · iexists _; isplitr; swap; · iexact HH
    ipureintro
    refine (read_hidUp i arg11 harg11 xh _).trans (congrArg (hidUp i xh) ?_)
    sl_unfold_words
    simp only [View.readAt_eq_ld, View.readCov_eq_canon', harg1.read_unread, harg2.read_unread, harg3.read_unread, harg4.read_unread, harg5.read_unread, harg6.read_unread, harg11.read_unread, harg12.read_unread]
    rfl
  iexists _; isplitr; · ipureintro; exact harg12.read_unread _
  iexact HS

end Cert.GateUpIdeal.Hand

end
-- ==== Proof.GateUpIdealRunC.lean ====
/- The body's run at the last grid point. -/
module

public import proofs.«01_k».proof.Proof.GateUpIdealBody

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: with the hidden rows complete, they are quantised too. -/
theorem run_C (c : Dev nD) (i : grid0.Coords) (arg1 : Memref sig .tc .vmem S640x2048 .fp8e4m3) (harg1 : arg1.IsWhole) (arg2 : Memref sig .tc .vmem S1x640 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S2048x512 .fp8e4m3) (harg5 : arg5.IsWhole) (arg6 : Memref sig .tc .vmem S1x512 .f32) (harg6 : arg6.IsWhole) (arg7 : Memref sig .tc .vmem S640x1x512 .f32) (harg7 : arg7.IsWhole) (arg8 : Memref sig .tc .vmem S640x1x512 .f32) (harg8 : arg8.IsWhole) (arg9 : Memref sig .tc .vmem S640x5632 .fp8e4m3) (harg9 : arg9.IsWhole) (arg10 : Memref sig .tc .vmem S1x640 .f32) (harg10 : arg10.IsWhole) (arg11 : Memref sig .tc .vmem S640x5632 .f32) (harg11 : arg11.IsWhole) (arg12 : Memref sig .tc .vmem S640x128 .f32) (harg12 : arg12.IsWhole) (hc0 : ¬cond0_0 i) (hc1 : cond0_1 i)
    (x0 : Vec F S640x2048 .fp8e4m3) (x1 : Vec F S1x640 .f32) (x2 : Vec F S2048x512 .fp8e4m3) (x3 : Vec F S1x512 .f32) (x4 : Vec F S2048x512 .fp8e4m3) (x5 : Vec F S1x512 .f32) (xh : Vec F S640x5632 .f32) (xs : Vec F S640x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xh ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gOut x0 xs x2 x3) ∗ owns (c : Thread nD τ) arg8 fullShare (vOut x0 xs x4 x5) ∗ owns (c : Thread nD τ) arg9 fullShare (codesOf (hidUp i xh (hidCols x0 xs x2 x3 x4 x5))) ∗ owns (c : Thread nD τ) arg10 fullShare (scalesOf (hidUp i xh (hidCols x0 xs x2 x3 x4 x5))) ∗ owns (c : Thread nD τ) arg11 fullShare (hidUp i xh (hidCols x0 xs x2 x3 x4 x5)) ∗ owns (c : Thread nD τ) arg12 fullShare xs) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  simp only [k0_part5_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fh, %hfh, HH⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfh; obtain rfl := harg12.eq_unread hfs
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread, harg12.read_unread]
    rfl
  isplitl [H7]
  · iexists _; isplitr; swap; · iexact H7
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread, harg12.read_unread]
    rfl
  isplitl [H8]
  · iexists _; isplitr; swap; · iexact H8
    ipureintro; rw [View.read_writes_eq_canon _ _ _ (View.cover_of_tiledL (s := S640x5632) _ ![128,5632] (by sl_kernel_rfl))]
    sl_unfold_words
    have hU : ∀ w, w = hidCols x0 xs x2 x3 x4 x5 → arg11.view.read (Elt F) (arg11.view.writes (Elt F) (harg11.unread xh) [⟨Rect.unit (s := S640x5632) (k0_off1 i) S640x512.size (k0_off1_inb i), w⟩]) = hidUp i xh (hidCols x0 xs x2 x3 x4 x5) := fun w hw => by
      rw [read_hidUp, hw]
    refine codesOf_of _ ?_ ?_ ?_ ?_ ?_
    all_goals
      rw [View.readAt_eq_ld]
      refine congrArg (fun q => View.ld q _) (hU _ ?_)
      simp only [View.readAt_eq_ld, harg1.read_unread, harg2.read_unread, harg3.read_unread, harg4.read_unread, harg5.read_unread, harg6.read_unread, harg11.read_unread, harg12.read_unread]
      rfl
  isplitl [H9]
  · iexists _; isplitr; swap; · iexact H9
    ipureintro; rw [View.read_writes_eq_canon _ _ _ (View.cover_of_tiledL (s := S1x640) _ ![1,128] (by sl_kernel_rfl))]
    sl_unfold_words
    have hU : ∀ w, w = hidCols x0 xs x2 x3 x4 x5 → arg11.view.read (Elt F) (arg11.view.writes (Elt F) (harg11.unread xh) [⟨Rect.unit (s := S640x5632) (k0_off1 i) S640x512.size (k0_off1_inb i), w⟩]) = hidUp i xh (hidCols x0 xs x2 x3 x4 x5) := fun w hw => by
      rw [read_hidUp, hw]
    refine scalesOf_of _ ?_ ?_ ?_ ?_ ?_
    all_goals
      rw [View.readAt_eq_ld]
      refine congrArg (fun q => View.ld q _) (hU _ ?_)
      simp only [View.readAt_eq_ld, harg1.read_unread, harg2.read_unread, harg3.read_unread, harg4.read_unread, harg5.read_unread, harg6.read_unread, harg11.read_unread, harg12.read_unread]
      rfl
  isplitl [HH]
  · iexists _; isplitr; swap; · iexact HH
    ipureintro
    refine (read_hidUp i arg11 harg11 xh _).trans (congrArg (hidUp i xh) ?_)
    sl_unfold_words
    simp only [View.readAt_eq_ld, View.readCov_eq_canon', harg1.read_unread, harg2.read_unread, harg3.read_unread, harg4.read_unread, harg5.read_unread, harg6.read_unread, harg11.read_unread, harg12.read_unread]
    rfl
  iexists _; isplitr; · ipureintro; exact harg12.read_unread _
  iexact HS

end Cert.GateUpIdeal.Hand

end
-- ==== Proof.GateUpIdealFrame.lean ====
/- The frame of the gate and up call, with every output's final contents named.
   The hidden rows are gathered in a scratch array one block of columns per grid point: the invariant between points says
   the scratch agrees with the named hidden rows on the columns written so far, and the last point quantises them. -/
module

public import proofs.«01_k».proof.Proof.GateUpIdealRunA
public import proofs.«01_k».proof.Proof.GateUpIdealRunB
public import proofs.«01_k».proof.Proof.GateUpIdealRunC
public import Idealize.ShloMosaic.Lib.Pointwise
public import Idealize.ShloMosaic.Lib.Claim

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The named contents -/

/-- The copy of the scales, as the first point makes it. -/
def sc (c : Dev nD) : Vec F S640x128 .f32 := scol (iblk m c 1 t0_0)

/-- The gate columns of point `t`. -/
def gAt (c : Dev nD) (t : Fin cfg0.N) : Vec F S640x1x512 .f32 := gOut (iblk m c 0 t) (sc m c) (iblk m c 2 t) (iblk m c 3 t)

/-- The up columns of point `t`. -/
def vAt (c : Dev nD) (t : Fin cfg0.N) : Vec F S640x1x512 .f32 := vOut (iblk m c 0 t) (sc m c) (iblk m c 4 t) (iblk m c 5 t)

/-- The hidden columns of point `t`. -/
def hAt (c : Dev nD) (t : Fin cfg0.N) : Vec F S640x512 .f32 :=
  hidCols (iblk m c 0 t) (sc m c) (iblk m c 2 t) (iblk m c 3 t) (iblk m c 4 t) (iblk m c 5 t)

/-- The point that writes hidden column `k`. -/
def colPt (k : Fin 5632) : Fin cfg0.N := ⟨k.val / 512, by have := k.isLt; rw [show cfg0.N = 11 from N_0]; omega⟩

/-- The column's place within that point's block. -/
def colIn (k : Fin 5632) : Fin 512 := ⟨k.val % 512, Nat.mod_lt _ (by decide)⟩

/-- The whole hidden rows. -/
def hidden (c : Dev nD) : Vec F S640x5632 .f32 := fun y => hAt m c (colPt (y 1)) (ix2 (y 0) (colIn (y 1)))

/-- The scratch `h` agrees with the hidden rows on the columns of the first `n` points. -/
def Agree (c : Dev nD) (n : ℕ) (h : Vec F S640x5632 .f32) : Prop := ∀ y : S640x5632.Idx, (y 1).val < 512 * n → h y = hidden m c y

/-- Before the first point there is nothing to agree on. -/
theorem agree_zero (c : Dev nD) (h : Vec F S640x5632 .f32) : Agree m c 0 h := fun y hy => absurd hy (by omega)

/-- A scratch that agrees on all eleven points' columns is the hidden rows. -/
theorem agree_all (c : Dev nD) (h : Vec F S640x5632 .f32) (ha : Agree m c 11 h) : h = hidden m c :=
  funext fun y => ha y (by have : (y 1).val < 5632 := (y 1).isLt; omega)

/-- Point `t` stores its columns at offset `512 t`. -/
theorem off_one (t : Fin cfg0.N) : k0_off1 (grid0.coords t) 1 = 512 * t.val := by
  have ht : t.val < 11 := Nat.lt_of_lt_of_eq t.isLt N_0
  have e0 : (grid0.coords t 0).val = t.val / 1 % 11 := Pipeline.Grid.coords_val t 0 (by decide) rfl
  have e1 : (grid0.coords t 0).val = t.val := by rw [e0]; omega
  show (Scalar.indexCast (Scalar.muli (BitVec.ofNat 32 (grid0.coords t 0).val) 512#32)).toNat = _
  rw [e1]
  show ((BitVec.ofNat 32 t.val) * 512#32).toNat = _
  rw [BitVec.toNat_mul, BitVec.toNat_ofNat, BitVec.toNat_ofNat]
  omega

/-- The row offset is zero. -/
theorem off_zero (t : Fin cfg0.N) : k0_off1 (grid0.coords t) 0 = 0 := rfl

/-- Point `t`'s store takes the agreement from the first `t` points to the first `t + 1`. -/
theorem agree_step (c : Dev nD) (t : Fin cfg0.N) (h : Vec F S640x5632 .f32) (ha : Agree m c t.val h) :
    Agree m c (t.val + 1) (hidUp (grid0.coords t) h (hAt m c t)) := fun y hy => by
  have o0 := off_zero t
  have o1 := off_one t
  unfold hidUp
  split
  · rename_i hin
    have h0 : (y 0).val < 640 := (y 0).isLt
    have h1 : k0_off1 (grid0.coords t) 1 ≤ (y 1).val ∧ (y 1).val < k0_off1 (grid0.coords t) 1 + 512 := hin 1
    rw [o1] at h1
    have et : colPt (y 1) = t := Fin.ext (by show (y 1).val / 512 = t.val; omega)
    unfold hidden
    rw [et]
    refine congrArg (hAt m c t) (funext fun a => Fin.ext ?_)
    match a with
    | ⟨0, _⟩ => show (y 0).val - k0_off1 (grid0.coords t) 0 = (y 0).val; rw [o0]; rfl
    | ⟨1, _⟩ => show (y 1).val - k0_off1 (grid0.coords t) 1 = (y 1).val % 512; rw [o1]; omega
  · rename_i hout
    refine ha y ?_
    by_contra hlt
    refine hout fun a => ?_
    match a with
    | ⟨0, _⟩ =>
      have h0 : (y 0).val < 640 := (y 0).isLt
      show k0_off1 (grid0.coords t) 0 ≤ (y 0).val ∧ (y 0).val < k0_off1 (grid0.coords t) 0 + 640
      rw [o0]; omega
    | ⟨1, _⟩ =>
      show k0_off1 (grid0.coords t) 1 ≤ (y 1).val ∧ (y 1).val < k0_off1 (grid0.coords t) 1 + 512
      rw [o1]; omega

/-! ## The invariant and the proof data -/

/-- The invariant before position `n`: at first the scratch at anything; afterwards the hidden scratch at contents that
    agree with the hidden rows on the columns written so far, and the copy of the scales as the first point made it. -/
def PhiS (c : Dev nD) : (n : ℕ) → n ≤ cfg0.N → sProp 𝕄
  | 0, _ => Pipeline.ΦA spec0 c
  | n + 1, _ => iprop(iprop((∃ h, ⌜Agree m c (n + 1) h⌝ ∗ owns (c : Thread nD τ) scM0_0 fullShare h) ∗ owns (c : Thread nD τ) scM0_1 fullShare (sc m c)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) :
    PhiS m c (n + 1) hn = iprop(iprop((∃ h, ⌜Agree m c (n + 1) h⌝ ∗ owns (c : Thread nD τ) scM0_0 fullShare h) ∗ owns (c : Thread nD τ) scM0_1 fullShare (sc m c)) ∗ (∃ r, prngReg c r)) := rfl

/-- The invariant before a point that is not the first. -/
theorem PhiS_pos (c : Dev nD) (n : ℕ) (h : n ≤ cfg0.N) (hz : n ≠ 0) :
    PhiS m c n h = iprop(iprop((∃ h, ⌜Agree m c n h⌝ ∗ owns (c : Thread nD τ) scM0_0 fullShare h) ∗ owns (c : Thread nD τ) scM0_1 fullShare (sc m c)) ∗ (∃ r, prngReg c r)) := by
  cases n with
  | zero => exact absurd rfl hz
  | succ n => rfl

/-- The proof data: each input's buffer at its block, the gate and up outputs at the point's columns, the codes and scales at
    the quantised hidden rows (what the last point leaves: at the others the two windows are idle). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => gAt m c t
    | ⟨7, _⟩ => vAt m c t
    | ⟨8, _⟩ => codesOf (hidden m c)
    | ⟨9, _⟩ => scalesOf (hidden m c)
  Φ t := PhiS m c t.val (Nat.le_of_lt_succ t.isLt)
  q _ := fullShare
  owed _ := 0

/-- The arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0's buffer holds after point `t`. -/
theorem after0_0 (c : Dev nD) (t : Fin cfg0.N) : (dats m 0 c).after 0 t = iblk m c 0 t := by dsimp only [dats]
/-- What window 1's buffer holds after point `t`. -/
theorem after0_1 (c : Dev nD) (t : Fin cfg0.N) : (dats m 0 c).after 1 t = iblk m c 1 t := by dsimp only [dats]
/-- What window 2's buffer holds after point `t`. -/
theorem after0_2 (c : Dev nD) (t : Fin cfg0.N) : (dats m 0 c).after 2 t = iblk m c 2 t := by dsimp only [dats]
/-- What window 3's buffer holds after point `t`. -/
theorem after0_3 (c : Dev nD) (t : Fin cfg0.N) : (dats m 0 c).after 3 t = iblk m c 3 t := by dsimp only [dats]
/-- What window 4's buffer holds after point `t`. -/
theorem after0_4 (c : Dev nD) (t : Fin cfg0.N) : (dats m 0 c).after 4 t = iblk m c 4 t := by dsimp only [dats]
/-- What window 5's buffer holds after point `t`. -/
theorem after0_5 (c : Dev nD) (t : Fin cfg0.N) : (dats m 0 c).after 5 t = iblk m c 5 t := by dsimp only [dats]
/-- What window 6's buffer holds after point `t`. -/
theorem after0_6 (c : Dev nD) (t : Fin cfg0.N) : (dats m 0 c).after 6 t = gAt m c t := by dsimp only [dats]
/-- What window 7's buffer holds after point `t`. -/
theorem after0_7 (c : Dev nD) (t : Fin cfg0.N) : (dats m 0 c).after 7 t = vAt m c t := by dsimp only [dats]
/-- What window 8's buffer holds after point `t`. -/
theorem after0_8 (c : Dev nD) (t : Fin cfg0.N) : (dats m 0 c).after 8 t = codesOf (hidden m c) := by dsimp only [dats]
/-- What window 9's buffer holds after point `t`. -/
theorem after0_9 (c : Dev nD) (t : Fin cfg0.N) : (dats m 0 c).after 9 t = scalesOf (hidden m c) := by dsimp only [dats]

/-- Input window 0's buffer holds its block at every point. -/
theorem before0_0 (c : Dev nD) (t : Fin cfg0.N) (d) : (dats m 0 c).before 0 t d = iblk m c 0 t :=
  before0_0_of m (dats m 0 c) (A_eq m c 0) (after0_0 m c) t d
/-- Input window 1's buffer holds its block at every point. -/
theorem before0_1 (c : Dev nD) (t : Fin cfg0.N) (d) : (dats m 0 c).before 1 t d = iblk m c 1 t :=
  before0_1_of m (dats m 0 c) (A_eq m c 1) (after0_1 m c) t d
/-- Input window 2's buffer holds its block at every point. -/
theorem before0_2 (c : Dev nD) (t : Fin cfg0.N) (d) : (dats m 0 c).before 2 t d = iblk m c 2 t :=
  before0_2_of m (dats m 0 c) (A_eq m c 2) (after0_2 m c) t d
/-- Input window 3's buffer holds its block at every point. -/
theorem before0_3 (c : Dev nD) (t : Fin cfg0.N) (d) : (dats m 0 c).before 3 t d = iblk m c 3 t :=
  before0_3_of m (dats m 0 c) (A_eq m c 3) (after0_3 m c) t d
/-- Input window 4's buffer holds its block at every point. -/
theorem before0_4 (c : Dev nD) (t : Fin cfg0.N) (d) : (dats m 0 c).before 4 t d = iblk m c 4 t :=
  before0_4_of m (dats m 0 c) (A_eq m c 4) (after0_4 m c) t d
/-- Input window 5's buffer holds its block at every point. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns: the codes' and scales' buffers as found where the windows are idle. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (dats m 0 c).leavesExact 8 t
    ∗ (dats m 0 c).leavesExact 9 t)

/-- Before the last point window 8's buffer is handed back as it was found. -/
theorem leaves_8 (c : Dev nD) (t : Fin cfg0.N) (h : ¬t.val % 11 = 10) :
    (dats m 0 c).leavesExact 8 t = iprop(∃ d, owns (c : Thread nD τ) (ms0_8 t) fullShare ((dats m 0 c).before 8 t d)) := by
  have hi : cfg0.idle 8 (cfg0.grid.coords t) = true := by
    show (!(k0_cond2 (grid0.coords t) == 1#1)) = true
    have hne : ¬k0_cond2 (grid0.coords t) = 1#1 := fun hc => h ((hcond0_1 t).mp hc)
    simp [hne]
  have hf : (cfg0.win 8).flush t = false := by
    cases hfl : (cfg0.win 8).flush t with
    | false => rfl
    | true => exact absurd ((flush0_8 t).mp hfl) h
  exact (dats m 0 c).leavesExact_idle 8 t hi hf

/-- At the last point window 8's buffer holds the quantised hidden rows. -/
theorem leaves_8_last (c : Dev nD) (t : Fin cfg0.N) (h : t.val % 11 = 10) :
    (dats m 0 c).leavesExact 8 t = owns (c : Thread nD τ) (ms0_8 t) fullShare (codesOf (hidden m c)) := by
  have hi : cfg0.idle 8 (cfg0.grid.coords t) = false := by
    show (!(k0_cond2 (grid0.coords t) == 1#1)) = false
    have he : k0_cond2 (grid0.coords t) = 1#1 := (hcond0_1 t).mpr h
    simp [he]
  unfold Pipeline.Dat.leavesExact
  rw [hi, after0_8]

/-- Before the last point window 9's buffer is handed back as it was found. -/
theorem leaves_9 (c : Dev nD) (t : Fin cfg0.N) (h : ¬t.val % 11 = 10) :
    (dats m 0 c).leavesExact 9 t = iprop(∃ d, owns (c : Thread nD τ) (ms0_9 t) fullShare ((dats m 0 c).before 9 t d)) := by
  have hi : cfg0.idle 9 (cfg0.grid.coords t) = true := by
    show (!(k0_cond2 (grid0.coords t) == 1#1)) = true
    have hne : ¬k0_cond2 (grid0.coords t) = 1#1 := fun hc => h ((hcond0_1 t).mp hc)
    simp [hne]
  have hf : (cfg0.win 9).flush t = false := by
    cases hfl : (cfg0.win 9).flush t with
    | false => rfl
    | true => exact absurd ((flush0_9 t).mp hfl) h
  exact (dats m 0 c).leavesExact_idle 9 t hi hf

/-- At the last point window 9's buffer holds the quantised hidden rows. -/
theorem leaves_9_last (c : Dev nD) (t : Fin cfg0.N) (h : t.val % 11 = 10) :
    (dats m 0 c).leavesExact 9 t = owns (c : Thread nD τ) (ms0_9 t) fullShare (scalesOf (hidden m c)) := by
  have hi : cfg0.idle 9 (cfg0.grid.coords t) = false := by
    show (!(k0_cond2 (grid0.coords t) == 1#1)) = false
    have he : k0_cond2 (grid0.coords t) = 1#1 := (hcond0_1 t).mpr h
    simp [he]
  unfold Pipeline.Dat.leavesExact
  rw [hi, after0_9]

set_option maxHeartbeats 6400000 in
/-- The body at any point: the case the point is in, its run, and the invariant restored by `agree_step`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 11 := lt_of_lt_of_eq t.isLt (show cfg0.N = 11 from N_0)
  by_cases hz : t.val = 0
  · have ht : t = t0_0 := Fin.ext hz
    have h0 : t.val % 11 = 0 := by omega
    have h1 : ¬t.val % 11 = 10 := by omega
    have hsc : scol (iblk m c 1 t) = sc m c := by unfold sc; rw [ht]
    rw [PhiS_castSucc m c t, PhiS_zero m c _ _ hz, PhiA0_eq, leaves_8 m c t h1, leaves_9 m c t h1]
    iintro ⟨⟨⟨⟨%xh, HH⟩, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (run_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) xh Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HH]; · iexact HH
    isplitl [HS]; · iexact HS
    rw [hsc]
    iintro ⟨H0, H1, H2, H3, H4, H5, H6, H7, HH, HS⟩
    isplitl [HH HS Hg]
    · isplitl [HH HS]
      · isplitl [HH]
        · iexists _; isplitr
          swap; · iexact HH
          ipureintro; exact agree_step m c t xh (by rw [hz]; exact agree_zero m c xh)
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have h0 : ¬t.val % 11 = 0 := by omega
    rw [PhiS_castSucc m c t, PhiS_pos m c _ _ hz]
    by_cases h1 : t.val % 11 = 10
    · rw [leaves_8_last m c t h1, leaves_9_last m c t h1]
      iintro ⟨⟨⟨⟨%xh, %ha, HH⟩, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hh := agree_step m c t xh ha
      have hall : hidUp (grid0.coords t) xh (hidCols (iblk m c 0 t) (sc m c) (iblk m c 2 t) (iblk m c 3 t) (iblk m c 4 t) (iblk m c 5 t)) = hidden m c :=
        agree_all m c _ (by rw [show t.val + 1 = 11 from by omega] at hh; exact hh)
      rw [show hidUp (grid0.coords t) xh (hAt m c t) = hidden m c from hall] at hh
      iapply (run_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) xh (sc m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HH]; · iexact HH
      isplitl [HS]; · iexact HS
      rw [hall]
      iintro ⟨H0, H1, H2, H3, H4, H5, H6, H7, H8, H9, HH, HS⟩
      isplitl [HH HS Hg]
      · isplitl [HH HS]
        · isplitl [HH]
          · iexists _; isplitr
            swap; · iexact HH
            ipureintro; exact hh
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [leaves_8 m c t h1, leaves_9 m c t h1]
      iintro ⟨⟨⟨⟨%xh, %ha, HH⟩, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (run_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) xh (sc m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HH]; · iexact HH
      isplitl [HS]; · iexact HS
      iintro ⟨H0, H1, H2, H3, H4, H5, H6, H7, HH, HS⟩
      isplitl [HH HS Hg]
      · isplitl [HH HS]
        · isplitl [HH]
          · iexists _; isplitr
            swap; · iexact HH
            ipureintro; exact agree_step m c t xh ha
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%h, %ha, HH⟩, HS⟩, Hg⟩
  isplitl [HH HS]
  · isplitl [HH]
    · iexists _; iexact HH
    iexists _; iexact HS
  iexact Hg

/-- The same after the last point. -/
theorem hout (c : Dev nD) : (dats m 0 c).Φ (Fin.last cfg0.N) ⊢ Pipeline.ΦA spec0 c :=
  Phi_out m c _ (by rw [Fin.val_last]; have : cfg0.N = 11 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_GateUpIdeal`'s statement (Defs.lean) at any `F` — Proof.lean cites it at `Bits`:
    `theorem Cert.Proof.claim : Cert.Claim := ⟨Cert.GateUpIdeal.Hand.facts, fun m ρ _ => Cert.GateUpIdeal.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GateUpIdeal.Hand

end
-- ==== Proof.GateUpKernel.lean ====
/-
  The gate and up call, read entry by entry: two scaled products per block of 512 columns, the gated product gathered over
  the blocks, and the quantiser of its rows in five bands of 128 rows.
-/
module

public import proofs.«01_k».proof.Proof.GateUpIdealFrame
public import proofs.«01_k».proof.Proof.Spec
public import Idealize.ShloMosaic.Lib.StableHlo.ReadAt
public import Idealize.ShloMosaic.Lib.Pipeline.Value

@[expose] public section

set_option maxRecDepth 16384

noncomputable section

namespace Cert.GateUpIdeal.Hand

open Cert.GateUpIdeal Cert.GateUpIdeal.Gen
open Idealize.ShloMosaic Idealize.ShloMosaic.TcCoe Idealize.ShloMosaic.Tactic
open Idealize.ShloMosaic.Pipeline (Dat Cfg Window)
open Cert.Spec (scaledDot siluMul qScale qCode rowMax)
open scoped BigOperators

/-! ## The scales' copy -/

section
variable (x1 : Vec Ideal S1x640 .f32)

/-- The five transposed rows of the scale array that the first point writes into its scratch, read back: row `b`, any
    lane, is the scale of row `b`. -/
theorem scol_at (y : S640x128.Idx) : scol x1 y = x1 (ix2 0 (y 0)) := by
  unfold scol
  refine View.canon_apply_of_pieces (fun y => x1 (ix2 0 (y 0))) _ ?_ y (View.cover_of_tiledL (s := S640x128) _ ![128, 128] (by sl_kernel_rfl) y)
  intro pc hpc
  simp only [List.mem_cons, List.mem_nil_iff, or_false] at hpc
  rcases hpc with rfl | rfl | rfl | rfl | rfl <;> intro x
  · pointwise [k0_pay7]
    refine congrArg (fun z : Fin 640 => x1 (ix2 0 z)) (Fin.ext ?_)
    show 512 + (x 0).val = 512 + 1 * (x 0).val
    omega
  · pointwise [k0_pay6]
    refine congrArg (fun z : Fin 640 => x1 (ix2 0 z)) (Fin.ext ?_)
    show 384 + (x 0).val = 384 + 1 * (x 0).val
    omega
  · pointwise [k0_pay5]
    refine congrArg (fun z : Fin 640 => x1 (ix2 0 z)) (Fin.ext ?_)
    show 256 + (x 0).val = 256 + 1 * (x 0).val
    omega
  · pointwise [k0_pay4]
    refine congrArg (fun z : Fin 640 => x1 (ix2 0 z)) (Fin.ext ?_)
    show 128 + (x 0).val = 128 + 1 * (x 0).val
    omega
  · pointwise [k0_pay3]
    refine congrArg (fun z : Fin 640 => x1 (ix2 0 z)) (Fin.ext ?_)
    show (x 0).val = 0 + 1 * (x 0).val
    omega

/-- The copy's first column: row `b`'s scale. -/
theorem col_at (b : Fin 640) : col (scol x1) (ix2 b 0) = x1 (ix2 0 b) := by
  refine (scol_at x1 _).trans (congrArg (fun z : Fin 640 => x1 (ix2 0 z)) (Fin.ext ?_))
  show 0 + 1 * b.val = b.val
  omega

end

/-! ## A point's columns, at an index -/

section
variable (x0 : Vec Ideal S640x2048 .fp8e4m3) (s : Vec Ideal S640x1 .f32) (x2 : Vec Ideal S2048x512 .fp8e4m3)
  (x3 : Vec Ideal S1x512 .f32) (x4 : Vec Ideal S2048x512 .fp8e4m3) (x5 : Vec Ideal S1x512 .f32)

/-- The gate product, scaled. -/
theorem pay27_at (b : Fin 640) (j : Fin 512) :
    k0_pay27 x0 s x2 x3 (ix2 b j) = scaledDot x0 (fun b => s (ix2 b 0)) x2 (fun i => x3 (ix2 0 (i 0))) b j := by
  pointwise [k0_pay27]
  rfl

/-- The up product, scaled. -/
theorem pay28_at (b : Fin 640) (j : Fin 512) :
    k0_pay28 x0 s x4 x5 (ix2 b j) = scaledDot x0 (fun b => s (ix2 b 0)) x4 (fun i => x5 (ix2 0 (i 0))) b j := by
  pointwise [k0_pay28]
  rfl

/-- The gate product, as it is stored. -/
theorem pay29_at (b : Fin 640) (j : Fin 512) :
    k0_pay29 x0 s x2 x3 (ix3 b 0 j) = scaledDot x0 (fun b => s (ix2 b 0)) x2 (fun i => x3 (ix2 0 (i 0))) b j := by
  pointwise [k0_pay29, pay27_at]

/-- The up product, as it is stored. -/
theorem pay30_at (b : Fin 640) (j : Fin 512) :
    k0_pay30 x0 s x4 x5 (ix3 b 0 j) = scaledDot x0 (fun b => s (ix2 b 0)) x4 (fun i => x5 (ix2 0 (i 0))) b j := by
  pointwise [k0_pay30, pay28_at]

/-- One plus the exponential of the negated gate. -/
theorem pay31_at (b : Fin 640) (j : Fin 512) :
    k0_pay31 x0 s x2 x3 (ix2 b j) = 1 + Ideal.exp (0 - k0_pay27 x0 s x2 x3 (ix2 b j)) := by
  pointwise [k0_pay31]

end

/-- The gated product over a denominator that is given. -/
theorem pay1_at (g v d : FVec Ideal S640x512 .f32) (b : Fin 640) (j : Fin 512) :
    k0_pay1 g v d (ix2 b j) = g (ix2 b j) * Ideal.div 1 (d (ix2 b j)) * v (ix2 b j) := by
  pointwise [k0_pay1]

/-! ## The quantiser of a band of 128 rows, at an index -/

/-- The largest absolute value of each row of a band. -/
theorem max_of (v : FVec Ideal S128x5632 .f32) (b : Fin 128) :
    (shapeCast S128x1 (multiReduction (F := Ideal) .maximumf [1] S128 (absf v) 0xFF800000#32 reduces_S128x5632_S128 (.inl rfl) rfl)
      shapeCasts_S128_S128x1) (ix2 b 0) = rowMax (fun k => v (ix2 b k)) := by
  pointwise []
  rfl

/-- The scale of a row whose largest absolute value is given. -/
theorem scale_of (r : FVec Ideal S128x1 .f32) (b : Fin 128) :
    select (cmpf .oeq r (broadcast S128x1 (Scalar.ofBits .f32 0x00000000#32))) (broadcast S128x1 (Scalar.ofBits .f32 0x3F800000#32))
      (divf r (broadcast S128x1 (Scalar.ofBits .f32 0x43E00000#32))) (ix2 b 0)
      = if r (ix2 b 0) = 0 then 1 else Ideal.div (r (ix2 b 0)) (Ideal.ofBits FTy.f32 0x43E00000#32) := by
  pointwise []

/-- The scale of each row of a band. -/
theorem quant_of (v : FVec Ideal S128x5632 .f32) (b : Fin 128) :
    select (cmpf .oeq (shapeCast S128x1 (multiReduction (F := Ideal) .maximumf [1] S128 (absf v) 0xFF800000#32 reduces_S128x5632_S128 (.inl rfl) rfl)
      shapeCasts_S128_S128x1) (broadcast S128x1 (Scalar.ofBits .f32 0x00000000#32))) (broadcast S128x1 (Scalar.ofBits .f32 0x3F800000#32))
      (divf (shapeCast S128x1 (multiReduction (F := Ideal) .maximumf [1] S128 (absf v) 0xFF800000#32 reduces_S128x5632_S128 (.inl rfl) rfl)
      shapeCasts_S128_S128x1) (broadcast S128x1 (Scalar.ofBits .f32 0x43E00000#32))) (ix2 b 0) = qScale fun k => v (ix2 b k) := by
  refine (scale_of _ b).trans ?_
  rw [max_of]
  unfold qScale
  rfl

/-- The codes of rows whose scales are given. -/
theorem codes_of (v : FVec Ideal S128x5632 .f32) (s : FVec Ideal S128x1 .f32) (b : Fin 128) (j : Fin 5632) :
    truncf .fp8e4m3 (minimumf (broadcast S128x5632 (Scalar.ofBits .f32 0x43E00000#32)) (maximumf (broadcast S128x5632 (Scalar.ofBits .f32 0xC3E00000#32))
      (divf v (broadcastTo S128x5632 s broadcasts_S128x1_S128x5632)))) bitsLt_fp8e4m3_f32 (ix2 b j)
      = min (Ideal.ofBits FTy.f32 0x43E00000#32) (max (Ideal.ofBits FTy.f32 0xC3E00000#32) (Ideal.div (v (ix2 b j)) (s (ix2 b 0)))) := by
  pointwise []

section
variable (v : Vec Ideal S128x5632 .f32)

/-- The first band's scales. -/
theorem pay8_at (b : Fin 128) : k0_pay8 v (ix2 b 0) = qScale fun k => v (ix2 b k) := by
  exact quant_of v b

/-- The first band's codes. -/
theorem pay9_at (b : Fin 128) (j : Fin 5632) : k0_pay9 v (ix2 b j) = qCode (fun k => v (ix2 b k)) j := by
  refine (codes_of v _ b j).trans ?_
  rw [pay8_at]
  unfold qCode
  rfl

/-- The first band's scales, as a row. -/
theorem pay10_at (b : Fin 128) : k0_pay10 v (ix2 0 b) = qScale fun k => v (ix2 b k) := by
  pointwise [k0_pay10, pay8_at]

/-- The second band's scales. -/
theorem pay11_at (b : Fin 128) : k0_pay11 v (ix2 b 0) = qScale fun k => v (ix2 b k) := by
  exact quant_of v b

/-- The second band's codes. -/
theorem pay14_at (b : Fin 128) (j : Fin 5632) : k0_pay14 (k0_pay12 v) (k0_pay13 (F := Ideal)) (ix2 b j) = qCode (fun k => v (ix2 b k)) j := by
  refine (codes_of v _ b j).trans ?_
  rw [pay11_at]
  unfold qCode
  rfl

/-- The second band's scales, as a row. -/
theorem pay15_at (b : Fin 128) : k0_pay15 (k0_pay11 v) (ix2 0 b) = qScale fun k => v (ix2 b k) := by
  pointwise [k0_pay15, pay11_at]

/-- The third band's scales. -/
theorem pay16_at (b : Fin 128) : k0_pay16 v (ix2 b 0) = qScale fun k => v (ix2 b k) := by
  exact quant_of v b

/-- The third band's codes. -/
theorem pay17_at (b : Fin 128) (j : Fin 5632) : k0_pay17 v (ix2 b j) = qCode (fun k => v (ix2 b k)) j := by
  refine (codes_of v _ b j).trans ?_
  rw [pay16_at]
  unfold qCode
  rfl

/-- The third band's scales, as a row. -/
theorem pay18_at (b : Fin 128) : k0_pay18 v (ix2 0 b) = qScale fun k => v (ix2 b k) := by
  pointwise [k0_pay18, pay16_at]

/-- The fourth band's scales. -/
theorem pay21_at (b : Fin 128) : k0_pay21 (k0_pay19 v) (k0_pay20 (F := Ideal)) (ix2 b 0) = qScale fun k => v (ix2 b k) := by
  exact quant_of v b

/-- The fourth band's codes. -/
theorem pay22_at (b : Fin 128) (j : Fin 5632) : k0_pay22 v (k0_pay19 v) (k0_pay20 (F := Ideal)) (ix2 b j) = qCode (fun k => v (ix2 b k)) j := by
  refine (codes_of v _ b j).trans ?_
  rw [pay21_at]
  unfold qCode
  rfl

/-- The fourth band's scales, as a row. -/
theorem pay23_at (b : Fin 128) : k0_pay23 (k0_pay19 v) (k0_pay20 (F := Ideal)) (ix2 0 b) = qScale fun k => v (ix2 b k) := by
  pointwise [k0_pay23, pay21_at]

/-- The fifth band's scales. -/
theorem pay24_at (b : Fin 128) : k0_pay24 v (ix2 b 0) = qScale fun k => v (ix2 b k) := by
  exact quant_of v b

/-- The fifth band's codes. -/
theorem pay25_at (b : Fin 128) (j : Fin 5632) : k0_pay25 v (ix2 b j) = qCode (fun k => v (ix2 b k)) j := by
  refine (codes_of v _ b j).trans ?_
  rw [pay24_at]
  unfold qCode
  rfl

/-- The fifth band's scales, as a row. -/
theorem pay2_at (b : Fin 128) : k0_pay2 (k0_pay26 v) (ix2 0 b) = qScale fun k => v (ix2 b k) := by
  pointwise [k0_pay2, k0_pay26, pay24_at]

end

/-- The codes of the five bands: each row's codes. -/
theorem codesOf_at (h : Vec Ideal S640x5632 .f32) (y : S640x5632.Idx) :
    codesOf h y = qCode (fun k => h (ix2 (y 0) k)) (y 1) := by
  unfold codesOf
  refine View.canon_apply_of_pieces (show Vec Ideal S640x5632 .fp8e4m3 from fun y => qCode (fun k => h (ix2 (y 0) k)) (y 1)) _ ?_ y
    (View.cover_of_tiledL (s := S640x5632) _ ![128, 5632] (by sl_kernel_rfl) y)
  intro pc hpc
  simp only [List.mem_cons, List.mem_nil_iff, or_false] at hpc
  rcases hpc with rfl | rfl | rfl | rfl | rfl <;> intro x
  · idx_vars x
    refine (pay25_at _ x0 x1).trans (congrArg₂ qCode (funext fun k => congrArg h (funext fun a => Fin.ext ?_)) (Fin.ext ?_))
    · match a with
      | ⟨0, _⟩ => rfl
      | ⟨1, _⟩ => show 0 + 1 * k.val = k.val; omega
    · show x1.val = 0 + 1 * x1.val; omega
  · idx_vars x
    refine (pay22_at _ x0 x1).trans (congrArg₂ qCode (funext fun k => congrArg h (funext fun a => Fin.ext ?_)) (Fin.ext ?_))
    · match a with
      | ⟨0, _⟩ => rfl
      | ⟨1, _⟩ => show 0 + 1 * k.val = k.val; omega
    · show x1.val = 0 + 1 * x1.val; omega
  · idx_vars x
    refine (pay17_at _ x0 x1).trans (congrArg₂ qCode (funext fun k => congrArg h (funext fun a => Fin.ext ?_)) (Fin.ext ?_))
    · match a with
      | ⟨0, _⟩ => rfl
      | ⟨1, _⟩ => show 0 + 1 * k.val = k.val; omega
    · show x1.val = 0 + 1 * x1.val; omega
  · idx_vars x
    refine (pay14_at _ x0 x1).trans (congrArg₂ qCode (funext fun k => congrArg h (funext fun a => Fin.ext ?_)) (Fin.ext ?_))
    · match a with
      | ⟨0, _⟩ => rfl
      | ⟨1, _⟩ => show 0 + 1 * k.val = k.val; omega
    · show x1.val = 0 + 1 * x1.val; omega
  · idx_vars x
    refine (pay9_at _ x0 x1).trans (congrArg₂ qCode (funext fun k => congrArg h (funext fun a => Fin.ext ?_)) (Fin.ext ?_))
    · match a with
      | ⟨0, _⟩ => rfl
      | ⟨1, _⟩ => show 0 + 1 * k.val = k.val; omega
    · show x1.val = 0 + 1 * x1.val; omega

/-- The scales of the five bands: each row's scale. -/
theorem scalesOf_at (h : Vec Ideal S640x5632 .f32) (y : S1x640.Idx) :
    scalesOf h y = qScale (fun k => h (ix2 (y 1) k)) := by
  unfold scalesOf
  refine View.canon_apply_of_pieces (show Vec Ideal S1x640 .f32 from fun y => qScale (fun k => h (ix2 (y 1) k))) _ ?_ y
    (View.cover_of_tiledL (s := S1x640) _ ![1, 128] (by sl_kernel_rfl) y)
  intro pc hpc
  simp only [List.mem_cons, List.mem_nil_iff, or_false] at hpc
  rcases hpc with rfl | rfl | rfl | rfl | rfl <;> intro x
  · idx_vars x
    obtain rfl : x0 = 0 := Subsingleton.elim _ _
    refine (pay2_at _ x1).trans (congrArg qScale (funext fun k => congrArg h (funext fun a => Fin.ext ?_)))
    match a with
    | ⟨0, _⟩ => rfl
    | ⟨1, _⟩ => show 0 + 1 * k.val = k.val; omega
  · idx_vars x
    obtain rfl : x0 = 0 := Subsingleton.elim _ _
    refine (pay23_at _ x1).trans (congrArg qScale (funext fun k => congrArg h (funext fun a => Fin.ext ?_)))
    match a with
    | ⟨0, _⟩ => rfl
    | ⟨1, _⟩ => show 0 + 1 * k.val = k.val; omega
  · idx_vars x
    obtain rfl : x0 = 0 := Subsingleton.elim _ _
    refine (pay18_at _ x1).trans (congrArg qScale (funext fun k => congrArg h (funext fun a => Fin.ext ?_)))
    match a with
    | ⟨0, _⟩ => rfl
    | ⟨1, _⟩ => show 0 + 1 * k.val = k.val; omega
  · idx_vars x
    obtain rfl : x0 = 0 := Subsingleton.elim _ _
    refine (pay15_at _ x1).trans (congrArg qScale (funext fun k => congrArg h (funext fun a => Fin.ext ?_)))
    match a with
    | ⟨0, _⟩ => rfl
    | ⟨1, _⟩ => show 0 + 1 * k.val = k.val; omega
  · idx_vars x
    obtain rfl : x0 = 0 := Subsingleton.elim _ _
    refine (pay10_at _ x1).trans (congrArg qScale (funext fun k => congrArg h (funext fun a => Fin.ext ?_)))
    match a with
    | ⟨0, _⟩ => rfl
    | ⟨1, _⟩ => show 0 + 1 * k.val = k.val; omega

variable (m : (ℓ : Loc nD τ sig) → Buf (Elt Ideal) ℓ)

/-! ## The arguments, as arrays of numbers -/

/-- The rows' codes. -/
def A0 (c : Dev nD) : S640x2048.Idx → EReal := m ((c : Thread nD τ).loc main_arg0)
/-- The rows' scales. -/
def A1 (c : Dev nD) : S1x640.Idx → EReal := m ((c : Thread nD τ).loc main_arg1)
/-- The gate weights' codes. -/
def A2 (c : Dev nD) : S2048x5632.Idx → EReal := m ((c : Thread nD τ).loc main_arg2)
/-- The gate weights' scales. -/
def A3 (c : Dev nD) : S5632.Idx → EReal := m ((c : Thread nD τ).loc main_arg3)
/-- The up weights' codes. -/
def A4 (c : Dev nD) : S2048x5632.Idx → EReal := m ((c : Thread nD τ).loc main_arg4)
/-- The up weights' scales. -/
def A5 (c : Dev nD) : S5632.Idx → EReal := m ((c : Thread nD τ).loc main_arg5)

/-- One entry of the gate product. -/
abbrev gate (c : Dev nD) (b : Fin 640) (j : Fin 5632) : EReal :=
  scaledDot (A0 m c) (fun b => A1 m c (ix2 0 b)) (A2 m c) (A3 m c) b j
/-- One entry of the up product. -/
abbrev up (c : Dev nD) (b : Fin 640) (j : Fin 5632) : EReal :=
  scaledDot (A0 m c) (fun b => A1 m c (ix2 0 b)) (A4 m c) (A5 m c) b j
/-- One hidden row. -/
abbrev hrow (c : Dev nD) (b : Fin 640) : Fin 5632 → EReal := fun j => siluMul (gate m c b j) (up m c b j)

/-- The host's reshape of the gate scales to one row. -/
theorem V_v0 (c : Dev nD) (j : Fin 5632) : V m c main_v0 (ix2 0 j) = A3 m c (ix1 j) := by
  unfold V A3
  after_reads_at

/-- The host's reshape of the up scales to one row. -/
theorem V_v1 (c : Dev nD) (j : Fin 5632) : V m c main_v1 (ix2 0 j) = A5 m c (ix1 j) := by
  unfold V A5
  after_reads_at

/-! ## The blocks -/

/-- Which block of its array each input window is at, point by point. -/
theorem idx_facts : ∀ t : Fin cfg0.N, (∀ a : Fin 2, win0_0.index t a = 0) ∧ (∀ a : Fin 2, win0_1.index t a = 0)
    ∧ win0_2.index t = ![0, t.val] ∧ win0_3.index t = ![0, t.val] ∧ win0_4.index t = ![0, t.val] ∧ win0_5.index t = ![0, t.val] :=
  (by decide +kernel : ∀ t : Fin grid0.N, _)

/-- Which block each output window is at. -/
theorem idx_out : ∀ t : Fin cfg0.N, win0_6.index t = ![0, 0, t.val] ∧ win0_7.index t = ![0, 0, t.val]
    ∧ (∀ a : Fin 2, win0_8.index t a = 0) ∧ (∀ a : Fin 2, win0_9.index t a = 0) :=
  (by decide +kernel : ∀ t : Fin grid0.N, _)

/-- The column of the array that column `j` of point `t`'s block is. -/
abbrev colOf (t : Fin cfg0.N) (j : Fin 512) : Fin 5632 :=
  ⟨512 * t.val + j.val, by have := t.isLt; have : cfg0.N = 11 := N_0; omega⟩

/-- The rows' codes are read whole. -/
theorem iblk0 (c : Dev nD) (t : Fin cfg0.N) : iblk m c 0 t = A0 m c := by
  obtain ⟨e, -⟩ := idx_facts t
  funext y
  refine (congrArg (V m c main_arg0) (funext fun a => Fin.ext ?_)).trans (congrFun (V_main_arg0 m c) _)
  show win0_0.index t a * _ + 1 * (y a).val = (y a).val
  rw [e a]; omega

/-- The rows' scales are read whole. -/
theorem iblk1 (c : Dev nD) (t : Fin cfg0.N) : iblk m c 1 t = A1 m c := by
  obtain ⟨-, e, -⟩ := idx_facts t
  funext y
  refine (congrArg (V m c main_arg1) (funext fun a => Fin.ext ?_)).trans (congrFun (V_main_arg1 m c) _)
  show win0_1.index t a * _ + 1 * (y a).val = (y a).val
  rw [e a]; omega

/-- The block of the gate weights at a point: 512 columns. -/
theorem iblk2 (c : Dev nD) (t : Fin cfg0.N) (k : Fin 2048) (j : Fin 512) :
    iblk m c 2 t (ix2 k j) = A2 m c (ix2 k (colOf t j)) := by
  obtain ⟨-, -, e, -⟩ := idx_facts t
  refine (congrArg (V m c main_arg2) (funext fun a => Fin.ext ?_)).trans (congrFun (V_main_arg2 m c) _)
  match a with
  | ⟨0, _⟩ => show win0_2.index t (0 : Fin 2) * 2048 + 1 * k.val = k.val; rw [e]; show 0 * 2048 + 1 * k.val = k.val; omega
  | ⟨1, _⟩ => show win0_2.index t (1 : Fin 2) * 512 + 1 * j.val = 512 * t.val + j.val; rw [e]; show t.val * 512 + 1 * j.val = _; omega

/-- The block of the up weights at a point: 512 columns. -/
theorem iblk4 (c : Dev nD) (t : Fin cfg0.N) (k : Fin 2048) (j : Fin 512) :
    iblk m c 4 t (ix2 k j) = A4 m c (ix2 k (colOf t j)) := by
  obtain ⟨-, -, -, -, e, -⟩ := idx_facts t
  refine (congrArg (V m c main_arg4) (funext fun a => Fin.ext ?_)).trans (congrFun (V_main_arg4 m c) _)
  match a with
  | ⟨0, _⟩ => show win0_4.index t (0 : Fin 2) * 2048 + 1 * k.val = k.val; rw [e]; show 0 * 2048 + 1 * k.val = k.val; omega
  | ⟨1, _⟩ => show win0_4.index t (1 : Fin 2) * 512 + 1 * j.val = 512 * t.val + j.val; rw [e]; show t.val * 512 + 1 * j.val = _; omega

/-- The block of the gate scales at a point: 512 columns. -/
theorem iblk3 (c : Dev nD) (t : Fin cfg0.N) (j : Fin 512) : iblk m c 3 t (ix2 0 j) = A3 m c (ix1 (colOf t j)) := by
  obtain ⟨-, -, -, e, -⟩ := idx_facts t
  refine (congrArg (V m c main_v0) (funext fun a => Fin.ext ?_)).trans (V_v0 m c (colOf t j))
  match a with
  | ⟨0, _⟩ => show win0_3.index t (0 : Fin 2) * 1 + 1 * 0 = 0; rw [e]; rfl
  | ⟨1, _⟩ => show win0_3.index t (1 : Fin 2) * 512 + 1 * j.val = 512 * t.val + j.val; rw [e]; show t.val * 512 + 1 * j.val = _; omega

/-- The block of the up scales at a point: 512 columns. -/
theorem iblk5 (c : Dev nD) (t : Fin cfg0.N) (j : Fin 512) : iblk m c 5 t (ix2 0 j) = A5 m c (ix1 (colOf t j)) := by
  obtain ⟨-, -, -, -, -, e⟩ := idx_facts t
  refine (congrArg (V m c main_v1) (funext fun a => Fin.ext ?_)).trans (V_v1 m c (colOf t j))
  match a with
  | ⟨0, _⟩ => show win0_5.index t (0 : Fin 2) * 1 + 1 * 0 = 0; rw [e]; rfl
  | ⟨1, _⟩ => show win0_5.index t (1 : Fin 2) * 512 + 1 * j.val = 512 * t.val + j.val; rw [e]; show t.val * 512 + 1 * j.val = _; omega

/-- The copy's first column at any point: the rows' scales. -/
theorem sc_at (c : Dev nD) (b : Fin 640) : col (sc m c) (ix2 b 0) = A1 m c (ix2 0 b) := by
  unfold sc
  rw [iblk1]
  exact col_at (A1 m c) b

/-- The scaled product of a point's gate blocks is the arguments' at the point's columns. -/
theorem gate_blk (c : Dev nD) (t : Fin cfg0.N) (b : Fin 640) (j : Fin 512) :
    scaledDot (iblk m c 0 t) (fun b => col (sc m c) (ix2 b 0)) (iblk m c 2 t) (fun i => iblk m c 3 t (ix2 0 (i 0))) b j
      = gate m c b (colOf t j) := by
  unfold gate scaledDot
  refine congrArg₂ (· * ·) (congrArg₂ (· * ·) (Finset.sum_congr rfl fun k _ => ?_) (sc_at m c b)) (iblk3 m c t j)
  rw [iblk2 m c t k j, iblk0]

/-- The scaled product of a point's up blocks is the arguments' at the point's columns. -/
theorem up_blk (c : Dev nD) (t : Fin cfg0.N) (b : Fin 640) (j : Fin 512) :
    scaledDot (iblk m c 0 t) (fun b => col (sc m c) (ix2 b 0)) (iblk m c 4 t) (fun i => iblk m c 5 t (ix2 0 (i 0))) b j
      = up m c b (colOf t j) := by
  unfold up scaledDot
  refine congrArg₂ (· * ·) (congrArg₂ (· * ·) (Finset.sum_congr rfl fun k _ => ?_) (sc_at m c b)) (iblk5 m c t j)
  rw [iblk4 m c t k j, iblk0]

/-- A point's gate columns. -/
theorem gAt_at (c : Dev nD) (t : Fin cfg0.N) (b : Fin 640) (z : Fin 1) (j : Fin 512) :
    gAt m c t (ix3 b z j) = gate m c b (colOf t j) := by
  obtain rfl : z = 0 := Subsingleton.elim _ _
  unfold gAt
  rw [gOut_eq]
  exact (pay29_at (iblk m c 0 t) (col (sc m c)) (iblk m c 2 t) (iblk m c 3 t) b j).trans (gate_blk m c t b j)

/-- A point's up columns. -/
theorem vAt_at (c : Dev nD) (t : Fin cfg0.N) (b : Fin 640) (z : Fin 1) (j : Fin 512) :
    vAt m c t (ix3 b z j) = up m c b (colOf t j) := by
  obtain rfl : z = 0 := Subsingleton.elim _ _
  unfold vAt
  rw [vOut_eq]
  exact (pay30_at (iblk m c 0 t) (col (sc m c)) (iblk m c 4 t) (iblk m c 5 t) b j).trans (up_blk m c t b j)

/-- A point's hidden columns. -/
theorem hAt_at (c : Dev nD) (t : Fin cfg0.N) (b : Fin 640) (j : Fin 512) : hAt m c t (ix2 b j) = hrow m c b (colOf t j) := by
  unfold hAt
  rw [hidCols_eq]
  refine (pay1_at _ _ _ b j).trans ?_
  rw [pay31_at, (pay27_at (iblk m c 0 t) (col (sc m c)) (iblk m c 2 t) (iblk m c 3 t) b j).trans (gate_blk m c t b j),
    (pay28_at (iblk m c 0 t) (col (sc m c)) (iblk m c 4 t) (iblk m c 5 t) b j).trans (up_blk m c t b j)]
  unfold hrow siluMul
  rfl

/-- A column is the one its point and its place there say. -/
theorem colOf_colPt (k : Fin 5632) : colOf (colPt k) (colIn k) = k :=
  Fin.ext (by show 512 * (k.val / 512) + k.val % 512 = k.val; omega)

/-- The gathered hidden rows. -/
theorem hidden_at (c : Dev nD) (b : Fin 640) : (fun k => hidden m c (ix2 b k)) = hrow m c b := funext fun k => by
  refine (hAt_at m c (colPt k) b (colIn k)).trans ?_
  rw [colOf_colPt]

/-! ## The result arrays -/

/-- Window 6's block at a point: an index of it, in the array, -/
theorem emb6 (t : Fin cfg0.N) (y : S640x1x512.Idx) :
    ((cfg0.win 6).blk t).view.emb y = (ix3 (y 0) (y 1) (colOf t (y 2)) : S640x1x5632.Idx) := by
  obtain ⟨e, -⟩ := idx_out t
  refine funext fun a => Fin.ext ?_
  match a with
  | ⟨0, _⟩ => show win0_6.index t (0 : Fin 3) * 640 + 1 * (y (0 : Fin 3)).val = (y (0 : Fin 3)).val; rw [e]; show 0 * _ + 1 * _ = _; omega
  | ⟨1, _⟩ => show win0_6.index t (1 : Fin 3) * 1 + 1 * (y (1 : Fin 3)).val = (y (1 : Fin 3)).val; rw [e]; show 0 * _ + 1 * _ = _; omega
  | ⟨2, _⟩ => show win0_6.index t (2 : Fin 3) * 512 + 1 * (y (2 : Fin 3)).val = 512 * t.val + (y (2 : Fin 3)).val; rw [e]; show t.val * 512 + 1 * _ = _; omega

/-- and every index of the array is in the block of its column's point. -/
theorem mem6 (i : S640x1x5632.Idx) : i ∈ ((cfg0.win 6).blk (colPt (i 2))).view.set := by
  show i ∈ ((View.whole main_v2_0).slice (win0_6.rect (colPt (i 2)))).set
  obtain ⟨e, -⟩ := idx_out (colPt (i 2))
  rw [View.set_slice_whole, Rect.mem_set_unit]
  intro a
  match a with
  | ⟨0, _⟩ =>
    show win0_6.index (colPt (i 2)) (0 : Fin 3) * 640 ≤ (i (0 : Fin 3)).val ∧ (i (0 : Fin 3)).val < win0_6.index (colPt (i 2)) (0 : Fin 3) * 640 + 640
    rw [e]
    have h : (i (0 : Fin 3)).val < 640 := (i (0 : Fin 3)).isLt
    show 0 * 640 ≤ _ ∧ _ < 0 * 640 + 640; omega
  | ⟨1, _⟩ =>
    show win0_6.index (colPt (i 2)) (1 : Fin 3) * 1 ≤ (i (1 : Fin 3)).val ∧ (i (1 : Fin 3)).val < win0_6.index (colPt (i 2)) (1 : Fin 3) * 1 + 1
    rw [e]
    have h : (i (1 : Fin 3)).val < 1 := (i (1 : Fin 3)).isLt
    show 0 * 1 ≤ _ ∧ _ < 0 * 1 + 1; omega
  | ⟨2, _⟩ =>
    show win0_6.index (colPt (i 2)) (2 : Fin 3) * 512 ≤ (i (2 : Fin 3)).val ∧ (i (2 : Fin 3)).val < win0_6.index (colPt (i 2)) (2 : Fin 3) * 512 + 512
    rw [e]
    have h : (i (2 : Fin 3)).val < 5632 := (i (2 : Fin 3)).isLt
    show (i (2 : Fin 3)).val / 512 * 512 ≤ _ ∧ _ < (i (2 : Fin 3)).val / 512 * 512 + 512; omega

/-- Result 0: the gate product. -/
theorem final6 (c : Dev nD) : (dats m 0 c).arrAt 6 cfg0.N = fun i : S640x1x5632.Idx => gate m c (i 0) (i 2) := by
  refine (dats m 0 c).arrAt_eq_of_cover 6 _ (fun t hf => ?_) (fun i => ⟨colPt (i 2), flush0_6 _, mem6 i⟩)
  show (cfg0.win 6).cut (grid0.coords t) ((dats m 0 c).after 6 t) = _
  rw [after0_6]
  funext y
  refine Eq.trans ?_ (congrArg (fun i : S640x1x5632.Idx => gate m c (i 0) (i 2)) (emb6 t y).symm)
  idx_vars y
  exact gAt_at m c t _ _ _

/-- Window 7's block at a point: an index of it, in the array, -/
theorem emb7 (t : Fin cfg0.N) (y : S640x1x512.Idx) :
    ((cfg0.win 7).blk t).view.emb y = (ix3 (y 0) (y 1) (colOf t (y 2)) : S640x1x5632.Idx) := by
  obtain ⟨-, e, -⟩ := idx_out t
  refine funext fun a => Fin.ext ?_
  match a with
  | ⟨0, _⟩ => show win0_7.index t (0 : Fin 3) * 640 + 1 * (y (0 : Fin 3)).val = (y (0 : Fin 3)).val; rw [e]; show 0 * _ + 1 * _ = _; omega
  | ⟨1, _⟩ => show win0_7.index t (1 : Fin 3) * 1 + 1 * (y (1 : Fin 3)).val = (y (1 : Fin 3)).val; rw [e]; show 0 * _ + 1 * _ = _; omega
  | ⟨2, _⟩ => show win0_7.index t (2 : Fin 3) * 512 + 1 * (y (2 : Fin 3)).val = 512 * t.val + (y (2 : Fin 3)).val; rw [e]; show t.val * 512 + 1 * _ = _; omega

/-- and every index of the array is in the block of its column's point. -/
theorem mem7 (i : S640x1x5632.Idx) : i ∈ ((cfg0.win 7).blk (colPt (i 2))).view.set := by
  show i ∈ ((View.whole main_v2_1).slice (win0_7.rect (colPt (i 2)))).set
  obtain ⟨-, e, -⟩ := idx_out (colPt (i 2))
  rw [View.set_slice_whole, Rect.mem_set_unit]
  intro a
  match a with
  | ⟨0, _⟩ =>
    show win0_7.index (colPt (i 2)) (0 : Fin 3) * 640 ≤ (i (0 : Fin 3)).val ∧ (i (0 : Fin 3)).val < win0_7.index (colPt (i 2)) (0 : Fin 3) * 640 + 640
    rw [e]
    have h : (i (0 : Fin 3)).val < 640 := (i (0 : Fin 3)).isLt
    show 0 * 640 ≤ _ ∧ _ < 0 * 640 + 640; omega
  | ⟨1, _⟩ =>
    show win0_7.index (colPt (i 2)) (1 : Fin 3) * 1 ≤ (i (1 : Fin 3)).val ∧ (i (1 : Fin 3)).val < win0_7.index (colPt (i 2)) (1 : Fin 3) * 1 + 1
    rw [e]
    have h : (i (1 : Fin 3)).val < 1 := (i (1 : Fin 3)).isLt
    show 0 * 1 ≤ _ ∧ _ < 0 * 1 + 1; omega
  | ⟨2, _⟩ =>
    show win0_7.index (colPt (i 2)) (2 : Fin 3) * 512 ≤ (i (2 : Fin 3)).val ∧ (i (2 : Fin 3)).val < win0_7.index (colPt (i 2)) (2 : Fin 3) * 512 + 512
    rw [e]
    have h : (i (2 : Fin 3)).val < 5632 := (i (2 : Fin 3)).isLt
    show (i (2 : Fin 3)).val / 512 * 512 ≤ _ ∧ _ < (i (2 : Fin 3)).val / 512 * 512 + 512; omega

/-- Result 1: the up product. -/
theorem final7 (c : Dev nD) : (dats m 0 c).arrAt 7 cfg0.N = fun i : S640x1x5632.Idx => up m c (i 0) (i 2) := by
  refine (dats m 0 c).arrAt_eq_of_cover 7 _ (fun t hf => ?_) (fun i => ⟨colPt (i 2), flush0_7 _, mem7 i⟩)
  show (cfg0.win 7).cut (grid0.coords t) ((dats m 0 c).after 7 t) = _
  rw [after0_7]
  funext y
  refine Eq.trans ?_ (congrArg (fun i : S640x1x5632.Idx => up m c (i 0) (i 2)) (emb7 t y).symm)
  idx_vars y
  exact vAt_at m c t _ _ _

/-- Window 8's one block is its array: an index of the block is that index of the array, -/
theorem emb8 (t : Fin cfg0.N) (y : S640x5632.Idx) : ((cfg0.win 8).blk t).view.emb y = y := by
  obtain ⟨-, -, e, -⟩ := idx_out t
  refine funext fun a => Fin.ext ?_
  show win0_8.index t a * _ + 1 * (y a).val = (y a).val
  rw [e a]; omega

/-- and every index of the array is in it. -/
theorem mem8 (t : Fin cfg0.N) (i : S640x5632.Idx) : i ∈ ((cfg0.win 8).blk t).view.set := by
  show i ∈ ((View.whole main_v2_2).slice (win0_8.rect t)).set
  obtain ⟨-, -, e, -⟩ := idx_out t
  rw [View.set_slice_whole, Rect.mem_set_unit]
  intro a
  show win0_8.index t a * S640x5632.size a ≤ (i a).val ∧ (i a).val < win0_8.index t a * S640x5632.size a + S640x5632.size a
  rw [e a]
  exact ⟨by omega, by have := (i a).isLt; omega⟩

/-- Result 2: the hidden rows' codes. -/
theorem final8 (c : Dev nD) : (dats m 0 c).arrAt 8 cfg0.N = fun i : S640x5632.Idx => qCode (hrow m c (i 0)) (i 1) := by
  refine (dats m 0 c).arrAt_eq_of_cover 8 _ (fun t hf => ?_)
    (fun i => ⟨⟨10, by rw [show cfg0.N = 11 from N_0]; omega⟩, (flush0_8 _).mpr rfl, mem8 _ i⟩)
  show (cfg0.win 8).cut (grid0.coords t) ((dats m 0 c).after 8 t) = _
  rw [after0_8]
  funext y
  refine Eq.trans ?_ (congrArg (fun i : S640x5632.Idx => qCode (hrow m c (i 0)) (i 1)) (emb8 t y).symm)
  exact (codesOf_at (hidden m c) y).trans (congrArg (fun v => qCode v (y 1)) (hidden_at m c (y 0)))

/-- Window 9's one block is its array: an index of the block is that index of the array, -/
theorem emb9 (t : Fin cfg0.N) (y : S1x640.Idx) : ((cfg0.win 9).blk t).view.emb y = y := by
  obtain ⟨-, -, -, e⟩ := idx_out t
  refine funext fun a => Fin.ext ?_
  show win0_9.index t a * _ + 1 * (y a).val = (y a).val
  rw [e a]; omega

/-- and every index of the array is in it. -/
theorem mem9 (t : Fin cfg0.N) (i : S1x640.Idx) : i ∈ ((cfg0.win 9).blk t).view.set := by
  show i ∈ ((View.whole main_v2_3).slice (win0_9.rect t)).set
  obtain ⟨-, -, -, e⟩ := idx_out t
  rw [View.set_slice_whole, Rect.mem_set_unit]
  intro a
  show win0_9.index t a * S1x640.size a ≤ (i a).val ∧ (i a).val < win0_9.index t a * S1x640.size a + S1x640.size a
  rw [e a]
  exact ⟨by omega, by have := (i a).isLt; omega⟩

/-- Result 3: the hidden rows' scales. -/
theorem final9 (c : Dev nD) : (dats m 0 c).arrAt 9 cfg0.N = fun i : S1x640.Idx => qScale (hrow m c (i 1)) := by
  refine (dats m 0 c).arrAt_eq_of_cover 9 _ (fun t hf => ?_)
    (fun i => ⟨⟨10, by rw [show cfg0.N = 11 from N_0]; omega⟩, (flush0_9 _).mpr rfl, mem9 _ i⟩)
  show (cfg0.win 9).cut (grid0.coords t) ((dats m 0 c).after 9 t) = _
  rw [after0_9]
  funext y
  refine Eq.trans ?_ (congrArg (fun i : S1x640.Idx => qScale (hrow m c (i 1))) (emb9 t y).symm)
  exact (scalesOf_at (hidden m c) y).trans (congrArg qScale (hidden_at m c (y 1)))

/-! ## The run, its arrays named -/

variable (ρ : Dev nD → PrngReg)

/-- After the frame run each output window's array is what the write-backs leave in it, and the arguments are as launched. -/
theorem run_blocks : θ_run defs (onTc (τ := τ) (main (F := Ideal))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_v2_2) = (dats m 0 c).arrAt 8 cfg0.N
      ∧ r.2.mem ((c : Thread nD τ).loc main_v2_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, (h c).1 9,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c)⟩)
    (run_main m ρ)

end Cert.GateUpIdeal.Hand

end
-- ==== Proof.GateUpReference.lean ====
/-
  The reference of the gate and up call, read entry by entry: two scaled products, the gated product and its quantiser,
  in one step.
-/
module

public import proofs.«01_k».proof.Proof.Gen.GateUpRefIdeal.Value
public import proofs.«01_k».proof.Proof.Spec
public import Idealize.ShloMosaic.Lib.StableHlo.ReadAt
public import Idealize.ShloMosaic.Lib.Pipeline.Value

@[expose] public section

set_option maxRecDepth 16384

noncomputable section

namespace Cert.GateUpRefIdeal.Hand

open Cert.GateUpRefIdeal Cert.GateUpRefIdeal.Gen Cert.GateUpRefIdeal.Value
open Idealize.ShloMosaic Idealize.ShloMosaic.TcCoe Idealize.ShloMosaic.Tactic
open Idealize.ShloMosaic.Pipeline (Dat Cfg Window)
open Cert.Spec (scaledDot siluMul qScale qCode)
open scoped BigOperators

/-- The zero offset of a rank 2 access. -/
theorem hz2 : (![0, 0] : Fin 2 → Nat) = fun _ => 0 := funext fun a => by fin_cases a <;> rfl
/-- The zero offset of a rank 3 access. -/
theorem hz3 : (![0, 0, 0] : Fin 3 → Nat) = fun _ => 0 := funext fun a => by fin_cases a <;> rfl

/-! ## The payloads at an index -/

/-- The scale of a row whose largest absolute value is given. -/
theorem pay1_of (r : FVec Ideal S640x1 .f32) (b : Fin 640) :
    k0_pay1 (cmpf .oeq r (broadcast S640x1 (Scalar.ofBits .f32 0x00000000#32)))
      (divf r (broadcast S640x1 (Scalar.ofBits .f32 0x43E00000#32))) (broadcast S640x1 (Scalar.ofBits .f32 0x3F800000#32)) (ix2 b 0)
      = if r (ix2 b 0) = 0 then 1 else Ideal.div (r (ix2 b 0)) (Ideal.ofBits FTy.f32 0x43E00000#32) := by
  pointwise [k0_pay1]

/-- The codes of rows whose scales are given. -/
theorem pay2_of (h : FVec Ideal S640x5632 .f32) (v33 : IVec S640x1 1) (v35 v36 : FVec Ideal S640x1 .f32) (b : Fin 640) (j : Fin 5632) :
    k0_pay2 h v33 v35 v36 (ix2 b j) = min (Ideal.ofBits FTy.f32 0x43E00000#32)
      (max (Ideal.ofBits FTy.f32 0xC3E00000#32) (Ideal.div (h (ix2 b j)) (k0_pay1 v33 v35 v36 (ix2 b 0)))) := by
  pointwise [k0_pay2]

section
variable (x0 : Vec Ideal S640x2048 .fp8e4m3) (x1 : Vec Ideal S1x640 .f32) (x2 : Vec Ideal S2048x5632 .fp8e4m3)
  (x3 : Vec Ideal S1x5632 .f32) (x4 : Vec Ideal S2048x5632 .fp8e4m3) (x5 : Vec Ideal S1x5632 .f32)

/-- The gate product, scaled. -/
theorem pay7_at (b : Fin 640) (j : Fin 5632) :
    k0_pay7 x1 x0 x2 x3 (ix2 b j) = scaledDot x0 (fun b => x1 (ix2 0 b)) x2 (fun i => x3 (ix2 0 (i 0))) b j := by
  pointwise [k0_pay7, k0_pay6]
  rfl

/-- The up product, scaled. -/
theorem pay8_at (b : Fin 640) (j : Fin 5632) :
    k0_pay8 x1 x0 x4 x5 (ix2 b j) = scaledDot x0 (fun b => x1 (ix2 0 b)) x4 (fun i => x5 (ix2 0 (i 0))) b j := by
  pointwise [k0_pay8, k0_pay6]
  rfl

/-- A hidden row, of whole arrays. -/
@[irreducible] def hrowOf (b : Fin 640) : Fin 5632 → EReal := fun j =>
  siluMul (scaledDot x0 (fun b => x1 (ix2 0 b)) x2 (fun i => x3 (ix2 0 (i 0))) b j)
    (scaledDot x0 (fun b => x1 (ix2 0 b)) x4 (fun i => x5 (ix2 0 (i 0))) b j)

/-- The hidden rows. -/
theorem pay9_at (b : Fin 640) (j : Fin 5632) : k0_pay9 x1 x0 x2 x3 x0 x4 x5 (ix2 b j) = hrowOf x0 x1 x2 x3 x4 x5 b j := by
  pointwise [k0_pay9, pay7_at, pay8_at]
  unfold hrowOf siluMul
  rfl

/-- Their largest absolute values. -/
theorem pay10_at (b : Fin 640) : k0_pay10 x1 x0 x2 x3 x0 x4 x5 (ix2 b 0) = Cert.Spec.rowMax (hrowOf x0 x1 x2 x3 x4 x5 b) := by
  pointwise [k0_pay10, pay9_at]
  rfl

/-- Their scales. -/
theorem pay1_at (b : Fin 640) :
    k0_pay1 (k0_pay11 x1 x0 x2 x3 x0 x4 x5) (k0_pay12 x1 x0 x2 x3 x0 x4 x5) (k0_pay13 (F := Ideal)) (ix2 b 0)
      = qScale (hrowOf x0 x1 x2 x3 x4 x5 b) := by
  refine (pay1_of (k0_pay10 x1 x0 x2 x3 x0 x4 x5) b).trans ?_
  rw [pay10_at]
  unfold qScale
  rfl

/-- Their codes. -/
theorem pay2_at (b : Fin 640) (j : Fin 5632) :
    k0_pay2 (k0_pay9 x1 x0 x2 x3 x0 x4 x5) (k0_pay11 x1 x0 x2 x3 x0 x4 x5) (k0_pay12 x1 x0 x2 x3 x0 x4 x5) (k0_pay13 (F := Ideal))
      (ix2 b j) = qCode (hrowOf x0 x1 x2 x3 x4 x5 b) j := by
  refine (pay2_of _ _ _ _ b j).trans ?_
  rw [pay1_at, pay9_at]
  unfold qCode
  rfl

/-! ## The blocks the body leaves, at an index -/

/-- The load of the scales is the whole block. -/
theorem ld1 : View.ld x1 r0_0 = x1 := View.ld_unit_zero hz2 _ _
/-- The load of the codes is the whole block. -/
theorem ld0 : View.ld x0 r0_1 = x0 := View.ld_unit_zero hz2 _ _
/-- The load of the gate weights is the whole block. -/
theorem ld2 : View.ld x2 r0_2 = x2 := View.ld_unit_zero hz2 _ _
/-- The load of the gate scales is the whole block. -/
theorem ld3 : View.ld x3 r0_3 = x3 := View.ld_unit_zero hz2 _ _
/-- The load of the up weights is the whole block. -/
theorem ld4 : View.ld x4 r0_2 = x4 := View.ld_unit_zero hz2 _ _
/-- The load of the up scales is the whole block. -/
theorem ld5 : View.ld x5 r0_3 = x5 := View.ld_unit_zero hz2 _ _

/-- Window 6's block: the gate product. -/
theorem out6_at (b : Fin 640) (z : Fin 1) (j : Fin 5632) : out0_6 x0 x1 x2 x3 x4 x5 (ix3 b z j)
    = scaledDot x0 (fun b => x1 (ix2 0 b)) x2 (fun i => x3 (ix2 0 (i 0))) b j := by
  obtain rfl : z = 0 := Subsingleton.elim _ _
  unfold out0_6
  rw [View.canon_unit_zero hz3]
  simp only [ld0, ld1, ld2, ld3, ld4, ld5]
  pointwise [k0_pay3, pay7_at]

/-- Window 7's block: the up product. -/
theorem out7_at (b : Fin 640) (z : Fin 1) (j : Fin 5632) : out0_7 x0 x1 x2 x3 x4 x5 (ix3 b z j)
    = scaledDot x0 (fun b => x1 (ix2 0 b)) x4 (fun i => x5 (ix2 0 (i 0))) b j := by
  obtain rfl : z = 0 := Subsingleton.elim _ _
  unfold out0_7
  rw [View.canon_unit_zero hz3]
  simp only [ld0, ld1, ld2, ld3, ld4, ld5]
  pointwise [k0_pay4, pay8_at]

/-- Window 8's block: the hidden rows' codes. -/
theorem out8_at (b : Fin 640) (j : Fin 5632) : out0_8 x0 x1 x2 x3 x4 x5 (ix2 b j)
    = qCode (hrowOf x0 x1 x2 x3 x4 x5 b) j := by
  unfold out0_8
  rw [View.canon_unit_zero hz2]
  simp only [k0_pay14, k0_pay15, k0_pay16, ld0, ld1, ld2, ld3, ld4, ld5]
  exact pay2_at x0 x1 x2 x3 x4 x5 b j

/-- Window 9's block: the hidden rows' scales. -/
theorem out9_at (z : Fin 1) (b : Fin 640) : out0_9 x0 x1 x2 x3 x4 x5 (ix2 z b)
    = qScale (hrowOf x0 x1 x2 x3 x4 x5 b) := by
  obtain rfl : z = 0 := Subsingleton.elim _ _
  unfold out0_9
  rw [View.canon_unit_zero hz2]
  simp only [k0_pay14, k0_pay15, k0_pay16, ld0, ld1, ld2, ld3, ld4, ld5]
  pointwise [k0_pay5, pay1_at]

end

variable (m : (ℓ : Loc nD τ sig) → Buf (Elt Ideal) ℓ)

/-! ## The arguments, as arrays of numbers -/

/-- The rows' codes. -/
def A0 (c : Dev nD) : S640x2048.Idx → EReal := m ((c : Thread nD τ).loc main_arg0)
/-- The rows' scales. -/
def A1 (c : Dev nD) : S1x640.Idx → EReal := m ((c : Thread nD τ).loc main_arg1)
/-- The gate weights' codes. -/
def A2 (c : Dev nD) : S2048x5632.Idx → EReal := m ((c : Thread nD τ).loc main_arg2)
/-- The gate weights' scales. -/
def A3 (c : Dev nD) : S5632.Idx → EReal := m ((c : Thread nD τ).loc main_arg3)
/-- The up weights' codes. -/
def A4 (c : Dev nD) : S2048x5632.Idx → EReal := m ((c : Thread nD τ).loc main_arg4)
/-- The up weights' scales. -/
def A5 (c : Dev nD) : S5632.Idx → EReal := m ((c : Thread nD τ).loc main_arg5)

/-- One entry of the gate product. -/
abbrev gate (c : Dev nD) (b : Fin 640) (j : Fin 5632) : EReal :=
  scaledDot (A0 m c) (fun b => A1 m c (ix2 0 b)) (A2 m c) (A3 m c) b j
/-- One entry of the up product. -/
abbrev up (c : Dev nD) (b : Fin 640) (j : Fin 5632) : EReal :=
  scaledDot (A0 m c) (fun b => A1 m c (ix2 0 b)) (A4 m c) (A5 m c) b j
/-- One hidden row. -/
abbrev hrow (c : Dev nD) (b : Fin 640) : Fin 5632 → EReal := fun j => siluMul (gate m c b j) (up m c b j)

/-- The host's reshape of the gate scales to one row. -/
theorem V_v0 (c : Dev nD) (j : Fin 5632) : V m c main_v0 (ix2 0 j) = A3 m c (ix1 j) := by
  unfold V A3
  after_reads_at

/-- The host's reshape of the up scales to one row. -/
theorem V_v1 (c : Dev nD) (j : Fin 5632) : V m c main_v1 (ix2 0 j) = A5 m c (ix1 j) := by
  unfold V A5
  after_reads_at

/-! ## The one point's blocks are the whole arrays -/

/-- Every window is at its array's one block. -/
theorem idx_facts : ∀ t : Fin cfg0.N, (∀ a : Fin 2, win0_0.index t a = 0) ∧ (∀ a : Fin 2, win0_1.index t a = 0) ∧ (∀ a : Fin 2, win0_2.index t a = 0) ∧ (∀ a : Fin 2, win0_3.index t a = 0) ∧ (∀ a : Fin 2, win0_4.index t a = 0) ∧ (∀ a : Fin 2, win0_5.index t a = 0) :=
  (by decide +kernel : ∀ t : Fin grid0.N, _)

/-- So is every output window. -/
theorem idx_out : ∀ t : Fin cfg0.N, (∀ a : Fin 3, win0_6.index t a = 0) ∧ (∀ a : Fin 3, win0_7.index t a = 0) ∧ (∀ a : Fin 2, win0_8.index t a = 0) ∧ (∀ a : Fin 2, win0_9.index t a = 0) :=
  (by decide +kernel : ∀ t : Fin grid0.N, _)

/-- The rows' codes, read whole. -/
theorem iblk0 (c : Dev nD) (t : Fin cfg0.N) : iblk m c 0 t = A0 m c := by
  obtain ⟨e, -⟩ := idx_facts t
  funext y
  refine (congrArg (V m c main_arg0) (funext fun a => Fin.ext ?_)).trans (congrFun (V_main_arg0 m c) _)
  show win0_0.index t a * _ + 1 * (y a).val = (y a).val
  rw [e a]; omega

/-- The rows' scales, read whole. -/
theorem iblk1 (c : Dev nD) (t : Fin cfg0.N) : iblk m c 1 t = A1 m c := by
  obtain ⟨-, e, -⟩ := idx_facts t
  funext y
  refine (congrArg (V m c main_arg1) (funext fun a => Fin.ext ?_)).trans (congrFun (V_main_arg1 m c) _)
  show win0_1.index t a * _ + 1 * (y a).val = (y a).val
  rw [e a]; omega

/-- The gate weights' codes, read whole. -/
theorem iblk2 (c : Dev nD) (t : Fin cfg0.N) : iblk m c 2 t = A2 m c := by
  obtain ⟨-, -, e, -⟩ := idx_facts t
  funext y
  refine (congrArg (V m c main_arg2) (funext fun a => Fin.ext ?_)).trans (congrFun (V_main_arg2 m c) _)
  show win0_2.index t a * _ + 1 * (y a).val = (y a).val
  rw [e a]; omega

/-- The up weights' codes, read whole. -/
theorem iblk4 (c : Dev nD) (t : Fin cfg0.N) : iblk m c 4 t = A4 m c := by
  obtain ⟨-, -, -, -, e, -⟩ := idx_facts t
  funext y
  refine (congrArg (V m c main_arg4) (funext fun a => Fin.ext ?_)).trans (congrFun (V_main_arg4 m c) _)
  show win0_4.index t a * _ + 1 * (y a).val = (y a).val
  rw [e a]; omega

/-- The gate scales, read whole. -/
theorem iblk3 (c : Dev nD) (t : Fin cfg0.N) : (fun i : S5632.Idx => iblk m c 3 t (ix2 0 (i 0))) = A3 m c := by
  obtain ⟨-, -, -, e, -⟩ := idx_facts t
  funext i
  refine ((congrArg (V m c main_v0) (funext fun a => Fin.ext ?_)).trans (V_v0 m c (i 0))).trans
    (congrArg (A3 m c) (funext fun a => by match a with | ⟨0, _⟩ => rfl))
  show win0_3.index t a * _ + 1 * ((ix2 (0 : Fin 1) (i 0) : S1x5632.Idx) a).val = ((ix2 (0 : Fin 1) (i 0) : S1x5632.Idx) a).val
  rw [e a]; omega

/-- The up scales, read whole. -/
theorem iblk5 (c : Dev nD) (t : Fin cfg0.N) : (fun i : S5632.Idx => iblk m c 5 t (ix2 0 (i 0))) = A5 m c := by
  obtain ⟨-, -, -, -, -, e⟩ := idx_facts t
  funext i
  refine ((congrArg (V m c main_v1) (funext fun a => Fin.ext ?_)).trans (V_v1 m c (i 0))).trans
    (congrArg (A5 m c) (funext fun a => by match a with | ⟨0, _⟩ => rfl))
  show win0_5.index t a * _ + 1 * ((ix2 (0 : Fin 1) (i 0) : S1x5632.Idx) a).val = ((ix2 (0 : Fin 1) (i 0) : S1x5632.Idx) a).val
  rw [e a]; omega

/-- A hidden row of the blocks is the hidden row of the arguments. -/
theorem hrow_blk (c : Dev nD) (t : Fin cfg0.N) (b : Fin 640) :
    hrowOf (iblk m c 0 t) (iblk m c 1 t) (iblk m c 2 t) (iblk m c 3 t) (iblk m c 4 t) (iblk m c 5 t) b = hrow m c b := by
  unfold hrowOf hrow gate up
  rw [iblk0, iblk1, iblk2, iblk3, iblk4, iblk5]

/-! ## The result arrays -/

/-- Window 6's one block is its array: an index of the block is that index of the array, -/
theorem emb6 (t : Fin cfg0.N) (y : S640x1x5632.Idx) : ((cfg0.win 6).blk t).view.emb y = y := by
  obtain ⟨e, -⟩ := idx_out t
  refine funext fun a => Fin.ext ?_
  show win0_6.index t a * _ + 1 * (y a).val = (y a).val
  rw [e a]; omega

/-- and every index of the array is in it. -/
theorem mem6 (t : Fin cfg0.N) (i : S640x1x5632.Idx) : i ∈ ((cfg0.win 6).blk t).view.set := by
  show i ∈ ((View.whole main_v2_0).slice (win0_6.rect t)).set
  obtain ⟨e, -⟩ := idx_out t
  rw [View.set_slice_whole, Rect.mem_set_unit]
  intro a
  show win0_6.index t a * S640x1x5632.size a ≤ (i a).val ∧ (i a).val < win0_6.index t a * S640x1x5632.size a + S640x1x5632.size a
  rw [e a]
  exact ⟨by omega, by have := (i a).isLt; omega⟩

/-- Result 0: the gate product. -/
theorem final6 (c : Dev nD) : (dats m 0 c).arrAt 6 cfg0.N = fun i : S640x1x5632.Idx => gate m c (i 0) (i 2) := by
  refine (dats m 0 c).arrAt_eq_of_cover 6 _ (fun t hf => ?_) (fun i => ⟨⟨0, by decide⟩, flush0_6 _, mem6 _ i⟩)
  show (cfg0.win 6).cut (grid0.coords t) ((dats m 0 c).after 6 t) = _
  rw [after0_6]
  funext y
  refine Eq.trans ?_ (congrArg (fun i : S640x1x5632.Idx => gate m c (i 0) (i 2)) (emb6 t y).symm)
  idx_vars y
  refine (out6_at (iblk m c 0 t) (iblk m c 1 t) (iblk m c 2 t) (iblk m c 3 t) (iblk m c 4 t) (iblk m c 5 t) _ _ _).trans ?_
  simp only [iblk0, iblk1, iblk2, iblk3, iblk4, iblk5]

/-- Window 7's one block is its array: an index of the block is that index of the array, -/
theorem emb7 (t : Fin cfg0.N) (y : S640x1x5632.Idx) : ((cfg0.win 7).blk t).view.emb y = y := by
  obtain ⟨-, e, -⟩ := idx_out t
  refine funext fun a => Fin.ext ?_
  show win0_7.index t a * _ + 1 * (y a).val = (y a).val
  rw [e a]; omega

/-- and every index of the array is in it. -/
theorem mem7 (t : Fin cfg0.N) (i : S640x1x5632.Idx) : i ∈ ((cfg0.win 7).blk t).view.set := by
  show i ∈ ((View.whole main_v2_1).slice (win0_7.rect t)).set
  obtain ⟨-, e, -⟩ := idx_out t
  rw [View.set_slice_whole, Rect.mem_set_unit]
  intro a
  show win0_7.index t a * S640x1x5632.size a ≤ (i a).val ∧ (i a).val < win0_7.index t a * S640x1x5632.size a + S640x1x5632.size a
  rw [e a]
  exact ⟨by omega, by have := (i a).isLt; omega⟩

/-- Result 1: the up product. -/
theorem final7 (c : Dev nD) : (dats m 0 c).arrAt 7 cfg0.N = fun i : S640x1x5632.Idx => up m c (i 0) (i 2) := by
  refine (dats m 0 c).arrAt_eq_of_cover 7 _ (fun t hf => ?_) (fun i => ⟨⟨0, by decide⟩, flush0_7 _, mem7 _ i⟩)
  show (cfg0.win 7).cut (grid0.coords t) ((dats m 0 c).after 7 t) = _
  rw [after0_7]
  funext y
  refine Eq.trans ?_ (congrArg (fun i : S640x1x5632.Idx => up m c (i 0) (i 2)) (emb7 t y).symm)
  idx_vars y
  refine (out7_at (iblk m c 0 t) (iblk m c 1 t) (iblk m c 2 t) (iblk m c 3 t) (iblk m c 4 t) (iblk m c 5 t) _ _ _).trans ?_
  simp only [iblk0, iblk1, iblk2, iblk3, iblk4, iblk5]

/-- Window 8's one block is its array: an index of the block is that index of the array, -/
theorem emb8 (t : Fin cfg0.N) (y : S640x5632.Idx) : ((cfg0.win 8).blk t).view.emb y = y := by
  obtain ⟨-, -, e, -⟩ := idx_out t
  refine funext fun a => Fin.ext ?_
  show win0_8.index t a * _ + 1 * (y a).val = (y a).val
  rw [e a]; omega

/-- and every index of the array is in it. -/
theorem mem8 (t : Fin cfg0.N) (i : S640x5632.Idx) : i ∈ ((cfg0.win 8).blk t).view.set := by
  show i ∈ ((View.whole main_v2_2).slice (win0_8.rect t)).set
  obtain ⟨-, -, e, -⟩ := idx_out t
  rw [View.set_slice_whole, Rect.mem_set_unit]
  intro a
  show win0_8.index t a * S640x5632.size a ≤ (i a).val ∧ (i a).val < win0_8.index t a * S640x5632.size a + S640x5632.size a
  rw [e a]
  exact ⟨by omega, by have := (i a).isLt; omega⟩

/-- Result 2: the hidden rows' codes. -/
theorem final8 (c : Dev nD) : (dats m 0 c).arrAt 8 cfg0.N = fun i : S640x5632.Idx => qCode (hrow m c (i 0)) (i 1) := by
  refine (dats m 0 c).arrAt_eq_of_cover 8 _ (fun t hf => ?_) (fun i => ⟨⟨0, by decide⟩, flush0_8 _, mem8 _ i⟩)
  show (cfg0.win 8).cut (grid0.coords t) ((dats m 0 c).after 8 t) = _
  rw [after0_8]
  funext y
  refine Eq.trans ?_ (congrArg (fun i : S640x5632.Idx => qCode (hrow m c (i 0)) (i 1)) (emb8 t y).symm)
  idx_vars y
  refine (out8_at (iblk m c 0 t) (iblk m c 1 t) (iblk m c 2 t) (iblk m c 3 t) (iblk m c 4 t) (iblk m c 5 t) _ _).trans ?_
  rw [hrow_blk]

/-- Window 9's one block is its array: an index of the block is that index of the array, -/
theorem emb9 (t : Fin cfg0.N) (y : S1x640.Idx) : ((cfg0.win 9).blk t).view.emb y = y := by
  obtain ⟨-, -, -, e⟩ := idx_out t
  refine funext fun a => Fin.ext ?_
  show win0_9.index t a * _ + 1 * (y a).val = (y a).val
  rw [e a]; omega

/-- and every index of the array is in it. -/
theorem mem9 (t : Fin cfg0.N) (i : S1x640.Idx) : i ∈ ((cfg0.win 9).blk t).view.set := by
  show i ∈ ((View.whole main_v2_3).slice (win0_9.rect t)).set
  obtain ⟨-, -, -, e⟩ := idx_out t
  rw [View.set_slice_whole, Rect.mem_set_unit]
  intro a
  show win0_9.index t a * S1x640.size a ≤ (i a).val ∧ (i a).val < win0_9.index t a * S1x640.size a + S1x640.size a
  rw [e a]
  exact ⟨by omega, by have := (i a).isLt; omega⟩

/-- Result 3: the hidden rows' scales. -/
theorem final9 (c : Dev nD) : (dats m 0 c).arrAt 9 cfg0.N = fun i : S1x640.Idx => qScale (hrow m c (i 1)) := by
  refine (dats m 0 c).arrAt_eq_of_cover 9 _ (fun t hf => ?_) (fun i => ⟨⟨0, by decide⟩, flush0_9 _, mem9 _ i⟩)
  show (cfg0.win 9).cut (grid0.coords t) ((dats m 0 c).after 9 t) = _
  rw [after0_9]
  funext y
  refine Eq.trans ?_ (congrArg (fun i : S1x640.Idx => qScale (hrow m c (i 1))) (emb9 t y).symm)
  idx_vars y
  refine (out9_at (iblk m c 0 t) (iblk m c 1 t) (iblk m c 2 t) (iblk m c 3 t) (iblk m c 4 t) (iblk m c 5 t) _ _).trans ?_
  rw [hrow_blk]

end Cert.GateUpRefIdeal.Hand

end
-- ==== Proof.GateUpClaim.lean ====
/-
  The gate and up call against its reference: from memories that agree on the arguments both runs leave the same four arrays.
-/
module

public import proofs.«01_k».proof.Defs
public import proofs.«01_k».proof.Proof.GateUpKernel
public import proofs.«01_k».proof.Proof.GateUpReference

@[expose] public section

set_option maxRecDepth 16384

noncomputable section

namespace Cert.GateUpClaim

open Idealize.ShloMosaic Idealize.ShloMosaic.TcCoe Idealize.SL.Sem Cert Cert.Spec

/-- Both programs leave, entry by entry, the same function of the arguments in each of the four result arrays. -/
theorem algebraic : algebraic_GateUpIdeal_GateUpRefIdeal (hGateUpIdeal := Cert.GateUpIdeal.Gen.facts)
    (hGateUpRefIdeal := Cert.GateUpRefIdeal.Gen.facts) := by
  intro m ρ m' ρ' _ hag
  have e0 : ∀ c, Cert.GateUpRefIdeal.Hand.A0 m' c = Cert.GateUpIdeal.Hand.A0 m c := fun c => (hag c).1
  have e1 : ∀ c, Cert.GateUpRefIdeal.Hand.A1 m' c = Cert.GateUpIdeal.Hand.A1 m c := fun c => (hag c).2.1
  have e2 : ∀ c, Cert.GateUpRefIdeal.Hand.A2 m' c = Cert.GateUpIdeal.Hand.A2 m c := fun c => (hag c).2.2.1
  have e3 : ∀ c, Cert.GateUpRefIdeal.Hand.A3 m' c = Cert.GateUpIdeal.Hand.A3 m c := fun c => (hag c).2.2.2.1
  have e4 : ∀ c, Cert.GateUpRefIdeal.Hand.A4 m' c = Cert.GateUpIdeal.Hand.A4 m c := fun c => (hag c).2.2.2.2.1
  have e5 : ∀ c, Cert.GateUpRefIdeal.Hand.A5 m' c = Cert.GateUpIdeal.Hand.A5 m c := fun c => (hag c).2.2.2.2.2
  have eg : ∀ c b j, Cert.GateUpRefIdeal.Hand.gate m' c b j = Cert.GateUpIdeal.Hand.gate m c b j := fun c b j => by
    unfold Cert.GateUpRefIdeal.Hand.gate Cert.GateUpIdeal.Hand.gate
    rw [e0, e1, e2, e3]
  have eu : ∀ c b j, Cert.GateUpRefIdeal.Hand.up m' c b j = Cert.GateUpIdeal.Hand.up m c b j := fun c b j => by
    unfold Cert.GateUpRefIdeal.Hand.up Cert.GateUpIdeal.Hand.up
    rw [e0, e1, e4, e5]
  have eh : ∀ c b, Cert.GateUpRefIdeal.Hand.hrow m' c b = Cert.GateUpIdeal.Hand.hrow m c b := fun c b => funext fun j => by
    unfold Cert.GateUpRefIdeal.Hand.hrow Cert.GateUpIdeal.Hand.hrow
    rw [eg, eu]
  refine ⟨_, _, _, _, Cert.GateUpIdeal.Hand.run_blocks m ρ,
    (θ_run _ _ _).mono (fun r h c => ⟨(h c).1.trans ?_, (h c).2.1.trans ?_, (h c).2.2.1.trans ?_, (h c).2.2.2.1.trans ?_,
      (h c).2.2.2.2⟩) (Cert.GateUpRefIdeal.Value.run_blocks m' ρ')⟩
  · have h6 : (fun i : Cert.GateUpIdeal.S640x1x5632.Idx => Cert.GateUpRefIdeal.Hand.gate m' c (i 0) (i 2))
        = fun i : Cert.GateUpIdeal.S640x1x5632.Idx => Cert.GateUpIdeal.Hand.gate m c (i 0) (i 2) :=
      funext fun i => eg c (i 0) (i 2)
    exact ((Cert.GateUpRefIdeal.Hand.final6 m' c).trans h6).trans (Cert.GateUpIdeal.Hand.final6 m c).symm
  · have h7 : (fun i : Cert.GateUpIdeal.S640x1x5632.Idx => Cert.GateUpRefIdeal.Hand.up m' c (i 0) (i 2))
        = fun i : Cert.GateUpIdeal.S640x1x5632.Idx => Cert.GateUpIdeal.Hand.up m c (i 0) (i 2) :=
      funext fun i => eu c (i 0) (i 2)
    exact ((Cert.GateUpRefIdeal.Hand.final7 m' c).trans h7).trans (Cert.GateUpIdeal.Hand.final7 m c).symm
  · have h8 : (fun i : Cert.GateUpIdeal.S640x5632.Idx => qCode (Cert.GateUpRefIdeal.Hand.hrow m' c (i 0)) (i 1))
        = fun i : Cert.GateUpIdeal.S640x5632.Idx => qCode (Cert.GateUpIdeal.Hand.hrow m c (i 0)) (i 1) :=
      funext fun i => congrArg (fun v => qCode v (i 1)) (eh c (i 0))
    exact ((Cert.GateUpRefIdeal.Hand.final8 m' c).trans h8).trans (Cert.GateUpIdeal.Hand.final8 m c).symm
  · have h9 : (fun i : Cert.GateUpIdeal.S1x640.Idx => qScale (Cert.GateUpRefIdeal.Hand.hrow m' c (i 1)))
        = fun i : Cert.GateUpIdeal.S1x640.Idx => qScale (Cert.GateUpIdeal.Hand.hrow m c (i 1)) :=
      funext fun i => congrArg qScale (eh c (i 1))
    exact ((Cert.GateUpRefIdeal.Hand.final9 m' c).trans h9).trans (Cert.GateUpIdeal.Hand.final9 m c).symm

end Cert.GateUpClaim

end
-- ==== Proof.GateUpBody.lean ====
/- What the kernel's body leaves at one grid point, as functions of the blocks it reads, and the body's branch conditions. -/
module

public import proofs.«01_k».proof.Proof.Gen.GateUp.Frame
public import proofs.«01_k».proof.Proof.Gen.GateUp.Skeleton
public import Idealize.ShloMosaic.Lib.WritesUnit
public import Idealize.ShloMosaic.Lib.Pipeline.Value

@[expose] public section

set_option maxRecDepth 16384

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Offsets all zero, of rank two. -/
theorem hz2 : (![0, 0] : Fin 2 → ℕ) = fun _ => 0 := by decide
/-- Offsets all zero, of rank three. -/
theorem hz3 : (![0, 0, 0] : Fin 3 → ℕ) = fun _ => 0 := by decide

/-- The copy of the scales the first point makes: five bands of 128 rows, each a transposed piece of the scales row. -/
def scol (x1 : Vec F S1x640 .f32) : Vec F S640x128 .f32 := View.canon [
    ⟨Rect.unit (s := S640x128) ![512, 0] S128x128.size inb_S640x128_S128x128_512_0, k0_pay7 (View.ld x1 (Rect.unit (s := S1x640) ![0, 512] S1x128.size inb_S1x640_S1x128_0_512))⟩,
    ⟨Rect.unit (s := S640x128) ![384, 0] S128x128.size inb_S640x128_S128x128_384_0, k0_pay6 (View.ld x1 (Rect.unit (s := S1x640) ![0, 384] S1x128.size inb_S1x640_S1x128_0_384))⟩,
    ⟨Rect.unit (s := S640x128) ![256, 0] S128x128.size inb_S640x128_S128x128_256_0, k0_pay5 (View.ld x1 (Rect.unit (s := S1x640) ![0, 256] S1x128.size inb_S1x640_S1x128_0_256))⟩,
    ⟨Rect.unit (s := S640x128) ![128, 0] S128x128.size inb_S640x128_S128x128_128_0, k0_pay4 (View.ld x1 (Rect.unit (s := S1x640) ![0, 128] S1x128.size inb_S1x640_S1x128_0_128))⟩,
    ⟨Rect.unit (s := S640x128) ![0, 0] S128x128.size inb_S640x128_S128x128_0_0, k0_pay3 (View.ld x1 (Rect.unit (s := S1x640) ![0, 0] S1x128.size inb_S1x640_S1x128_0_0))⟩]

/-- The copy's first column, as the products are scaled by it. -/
abbrev col (s : Vec F S640x128 .f32) : Vec F S640x1 .f32 :=
  View.ld s (Rect.unit (s := S640x128) ![0, 0] S640x1.size inb_S640x128_S640x1_0_0)

/-- The gate columns a point writes. -/
def gOut (x0 : Vec F S640x2048 .fp8e4m3) (s : Vec F S640x128 .f32) (x2 : Vec F S2048x512 .fp8e4m3) (x3 : Vec F S1x512 .f32) : Vec F S640x1x512 .f32 :=
  k0_pay29 (View.ld x0 (Rect.unit (s := S640x2048) ![0, 0] S640x2048.size inb_S640x2048_S640x2048_0_0)) (col s) (View.ld x2 (Rect.unit (s := S2048x512) ![0, 0] S2048x512.size inb_S2048x512_S2048x512_0_0)) (View.ld x3 (Rect.unit (s := S1x512) ![0, 0] S1x512.size inb_S1x512_S1x512_0_0))

/-- The up columns a point writes. -/
def vOut (x0 : Vec F S640x2048 .fp8e4m3) (s : Vec F S640x128 .f32) (x4 : Vec F S2048x512 .fp8e4m3) (x5 : Vec F S1x512 .f32) : Vec F S640x1x512 .f32 :=
  k0_pay30 (View.ld x0 (Rect.unit (s := S640x2048) ![0, 0] S640x2048.size inb_S640x2048_S640x2048_0_0)) (col s) (View.ld x4 (Rect.unit (s := S2048x512) ![0, 0] S2048x512.size inb_S2048x512_S2048x512_0_0)) (View.ld x5 (Rect.unit (s := S1x512) ![0, 0] S1x512.size inb_S1x512_S1x512_0_0))

/-- The hidden columns a point puts in the scratch. -/
def hidCols (x0 : Vec F S640x2048 .fp8e4m3) (s : Vec F S640x128 .f32) (x2 : Vec F S2048x512 .fp8e4m3) (x3 : Vec F S1x512 .f32) (x4 : Vec F S2048x512 .fp8e4m3) (x5 : Vec F S1x512 .f32) : Vec F S640x512 .f32 :=
  k0_pay1 (k0_pay27 (View.ld x0 (Rect.unit (s := S640x2048) ![0, 0] S640x2048.size inb_S640x2048_S640x2048_0_0)) (col s) (View.ld x2 (Rect.unit (s := S2048x512) ![0, 0] S2048x512.size inb_S2048x512_S2048x512_0_0)) (View.ld x3 (Rect.unit (s := S1x512) ![0, 0] S1x512.size inb_S1x512_S1x512_0_0))) (k0_pay28 (View.ld x0 (Rect.unit (s := S640x2048) ![0, 0] S640x2048.size inb_S640x2048_S640x2048_0_0)) (col s) (View.ld x4 (Rect.unit (s := S2048x512) ![0, 0] S2048x512.size inb_S2048x512_S2048x512_0_0)) (View.ld x5 (Rect.unit (s := S1x512) ![0, 0] S1x512.size inb_S1x512_S1x512_0_0))) (k0_pay31 (View.ld x0 (Rect.unit (s := S640x2048) ![0, 0] S640x2048.size inb_S640x2048_S640x2048_0_0)) (col s) (View.ld x2 (Rect.unit (s := S2048x512) ![0, 0] S2048x512.size inb_S2048x512_S2048x512_0_0)) (View.ld x3 (Rect.unit (s := S1x512) ![0, 0] S1x512.size inb_S1x512_S1x512_0_0)))

/-- The scratch `h` with the columns of point `i` replaced by `w`. -/
def hidUp (i : grid0.Coords) (h : Vec F S640x5632 .f32) (w : Vec F S640x512 .f32) : Vec F S640x5632 .f32 := fun y =>
  if hy : ∀ a, k0_off1 i a ≤ (y a).val ∧ (y a).val < k0_off1 i a + S640x512.size a then
    w (Rect.unitLocal (s := S640x5632) (off := k0_off1 i) (size := S640x512.size) y hy)
  else h y

/-- Storing a point's columns in the scratch leaves `hidUp`. -/
theorem read_hidUp (i : grid0.Coords) (M : Memref sig .tc .vmem S640x5632 .f32) (hM : M.IsWhole) (h : Vec F S640x5632 .f32) (w : Vec F S640x512 .f32) :
    M.view.read (Elt F) (M.view.writes (Elt F) (hM.unread h) [⟨Rect.unit (s := S640x5632) (k0_off1 i) S640x512.size (k0_off1_inb i), w⟩])
      = hidUp i h w := by
  funext y
  rw [View.read_writes_cons_unit M.view _ (k0_off1_inb i) w [] y rfl, View.writes_nil, hM.read_unread]
  rfl

/-- The gate columns, the loads of whole blocks read. -/
theorem gOut_eq (x0 : Vec F S640x2048 .fp8e4m3) (s : Vec F S640x128 .f32) (x2 : Vec F S2048x512 .fp8e4m3) (x3 : Vec F S1x512 .f32) :
    gOut x0 s x2 x3 = k0_pay29 x0 (col s) x2 x3 := by
  unfold gOut; rw [View.ld_unit_zero hz2 _ x0, View.ld_unit_zero hz2 _ x2, View.ld_unit_zero hz2 _ x3]

/-- The up columns, the loads of whole blocks read. -/
theorem vOut_eq (x0 : Vec F S640x2048 .fp8e4m3) (s : Vec F S640x128 .f32) (x4 : Vec F S2048x512 .fp8e4m3) (x5 : Vec F S1x512 .f32) :
    vOut x0 s x4 x5 = k0_pay30 x0 (col s) x4 x5 := by
  unfold vOut; rw [View.ld_unit_zero hz2 _ x0, View.ld_unit_zero hz2 _ x4, View.ld_unit_zero hz2 _ x5]

/-- The hidden columns, the loads of whole blocks read. -/
theorem hidCols_eq (x0 : Vec F S640x2048 .fp8e4m3) (s : Vec F S640x128 .f32) (x2 : Vec F S2048x512 .fp8e4m3) (x3 : Vec F S1x512 .f32) (x4 : Vec F S2048x512 .fp8e4m3) (x5 : Vec F S1x512 .f32) :
    hidCols x0 s x2 x3 x4 x5 = k0_pay1 (k0_pay27 x0 (col s) x2 x3) (k0_pay28 x0 (col s) x4 x5) (k0_pay31 x0 (col s) x2 x3) := by
  unfold hidCols; rw [View.ld_unit_zero hz2 _ x0, View.ld_unit_zero hz2 _ x2, View.ld_unit_zero hz2 _ x3, View.ld_unit_zero hz2 _ x4, View.ld_unit_zero hz2 _ x5]

/-- The codes of the hidden rows, in five bands of 128 rows. -/
def codesOf (h : Vec F S640x5632 .f32) : Vec F S640x5632 .fp8e4m3 := View.canon [
    ⟨Rect.unit (s := S640x5632) ![512, 0] S128x5632.size inb_S640x5632_S128x5632_512_0, k0_pay25 (View.ld h (Rect.unit (s := S640x5632) ![512, 0] S128x5632.size inb_S640x5632_S128x5632_512_0))⟩,
    ⟨Rect.unit (s := S640x5632) ![384, 0] S128x5632.size inb_S640x5632_S128x5632_384_0, k0_pay22 (View.ld h (Rect.unit (s := S640x5632) ![384, 0] S128x5632.size inb_S640x5632_S128x5632_384_0)) (k0_pay19 (View.ld h (Rect.unit (s := S640x5632) ![384, 0] S128x5632.size inb_S640x5632_S128x5632_384_0))) (k0_pay20 (F := F))⟩,
    ⟨Rect.unit (s := S640x5632) ![256, 0] S128x5632.size inb_S640x5632_S128x5632_256_0, k0_pay17 (View.ld h (Rect.unit (s := S640x5632) ![256, 0] S128x5632.size inb_S640x5632_S128x5632_256_0))⟩,
    ⟨Rect.unit (s := S640x5632) ![128, 0] S128x5632.size inb_S640x5632_S128x5632_128_0, k0_pay14 (k0_pay12 (View.ld h (Rect.unit (s := S640x5632) ![128, 0] S128x5632.size inb_S640x5632_S128x5632_128_0))) (k0_pay13 (F := F))⟩,
    ⟨Rect.unit (s := S640x5632) ![0, 0] S128x5632.size inb_S640x5632_S128x5632_0_0, k0_pay9 (View.ld h (Rect.unit (s := S640x5632) ![0, 0] S128x5632.size inb_S640x5632_S128x5632_0_0))⟩]

/-- The scales of the hidden rows, in five bands of 128. -/
def scalesOf (h : Vec F S640x5632 .f32) : Vec F S1x640 .f32 := View.canon [
    ⟨Rect.unit (s := S1x640) ![0, 512] S1x128.size inb_S1x640_S1x128_0_512, k0_pay2 (k0_pay26 (View.ld h (Rect.unit (s := S640x5632) ![512, 0] S128x5632.size inb_S640x5632_S128x5632_512_0)))⟩,
    ⟨Rect.unit (s := S1x640) ![0, 384] S1x128.size inb_S1x640_S1x128_0_384, k0_pay23 (k0_pay19 (View.ld h (Rect.unit (s := S640x5632) ![384, 0] S128x5632.size inb_S640x5632_S128x5632_384_0))) (k0_pay20 (F := F))⟩,
    ⟨Rect.unit (s := S1x640) ![0, 256] S1x128.size inb_S1x640_S1x128_0_256, k0_pay18 (View.ld h (Rect.unit (s := S640x5632) ![256, 0] S128x5632.size inb_S640x5632_S128x5632_256_0))⟩,
    ⟨Rect.unit (s := S1x640) ![0, 128] S1x128.size inb_S1x640_S1x128_0_128, k0_pay15 (k0_pay11 (View.ld h (Rect.unit (s := S640x5632) ![128, 0] S128x5632.size inb_S640x5632_S128x5632_128_0)))⟩,
    ⟨Rect.unit (s := S1x640) ![0, 0] S1x128.size inb_S1x640_S1x128_0_0, k0_pay10 (View.ld h (Rect.unit (s := S640x5632) ![0, 0] S128x5632.size inb_S640x5632_S128x5632_0_0))⟩]

/-- The bands' payloads over any five bands of `h`. -/
theorem codesOf_of (h : Vec F S640x5632 .f32) {b0 b1 b2 b3 b4 : Vec F S128x5632 .f32} (h0 : b0 = View.ld h (Rect.unit (s := S640x5632) ![0, 0] S128x5632.size inb_S640x5632_S128x5632_0_0)) (h1 : b1 = View.ld h (Rect.unit (s := S640x5632) ![128, 0] S128x5632.size inb_S640x5632_S128x5632_128_0)) (h2 : b2 = View.ld h (Rect.unit (s := S640x5632) ![256, 0] S128x5632.size inb_S640x5632_S128x5632_256_0)) (h3 : b3 = View.ld h (Rect.unit (s := S640x5632) ![384, 0] S128x5632.size inb_S640x5632_S128x5632_384_0)) (h4 : b4 = View.ld h (Rect.unit (s := S640x5632) ![512, 0] S128x5632.size inb_S640x5632_S128x5632_512_0)) :
    (View.canon [
    ⟨Rect.unit (s := S640x5632) ![512, 0] S128x5632.size inb_S640x5632_S128x5632_512_0, k0_pay25 b4⟩,
    ⟨Rect.unit (s := S640x5632) ![384, 0] S128x5632.size inb_S640x5632_S128x5632_384_0, k0_pay22 b3 (k0_pay19 b3) (k0_pay20 (F := F))⟩,
    ⟨Rect.unit (s := S640x5632) ![256, 0] S128x5632.size inb_S640x5632_S128x5632_256_0, k0_pay17 b2⟩,
    ⟨Rect.unit (s := S640x5632) ![128, 0] S128x5632.size inb_S640x5632_S128x5632_128_0, k0_pay14 (k0_pay12 b1) (k0_pay13 (F := F))⟩,
    ⟨Rect.unit (s := S640x5632) ![0, 0] S128x5632.size inb_S640x5632_S128x5632_0_0, k0_pay9 b0⟩] : Vec F S640x5632 .fp8e4m3) = codesOf h := by
  subst h0 h1 h2 h3 h4; rfl

/-- The bands' payloads over any five bands of `h`. -/
theorem scalesOf_of (h : Vec F S640x5632 .f32) {b0 b1 b2 b3 b4 : Vec F S128x5632 .f32} (h0 : b0 = View.ld h (Rect.unit (s := S640x5632) ![0, 0] S128x5632.size inb_S640x5632_S128x5632_0_0)) (h1 : b1 = View.ld h (Rect.unit (s := S640x5632) ![128, 0] S128x5632.size inb_S640x5632_S128x5632_128_0)) (h2 : b2 = View.ld h (Rect.unit (s := S640x5632) ![256, 0] S128x5632.size inb_S640x5632_S128x5632_256_0)) (h3 : b3 = View.ld h (Rect.unit (s := S640x5632) ![384, 0] S128x5632.size inb_S640x5632_S128x5632_384_0)) (h4 : b4 = View.ld h (Rect.unit (s := S640x5632) ![512, 0] S128x5632.size inb_S640x5632_S128x5632_512_0)) :
    (View.canon [
    ⟨Rect.unit (s := S1x640) ![0, 512] S1x128.size inb_S1x640_S1x128_0_512, k0_pay2 (k0_pay26 b4)⟩,
    ⟨Rect.unit (s := S1x640) ![0, 384] S1x128.size inb_S1x640_S1x128_0_384, k0_pay23 (k0_pay19 b3) (k0_pay20 (F := F))⟩,
    ⟨Rect.unit (s := S1x640) ![0, 256] S1x128.size inb_S1x640_S1x128_0_256, k0_pay18 b2⟩,
    ⟨Rect.unit (s := S1x640) ![0, 128] S1x128.size inb_S1x640_S1x128_0_128, k0_pay15 (k0_pay11 b1)⟩,
    ⟨Rect.unit (s := S1x640) ![0, 0] S1x128.size inb_S1x640_S1x128_0_0, k0_pay10 b0⟩] : Vec F S1x640 .f32) = scalesOf h := by
  subst h0 h1 h2 h3 h4; rfl

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, e0]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 11 = 10 :=
  (fun t => by
    have ht : t.val < 11 := Nat.lt_of_lt_of_eq t.isLt N_0
    have e0 : (grid0.coords t 0).val = t.val / 1 % 11 := Pipeline.Grid.coords_val t 0 (by decide) rfl
    simp only [cond0_1, k0_cond2, e0]
    word_cmp
   : ∀ t : Fin grid0.N, cond0_1 (grid0.coords t) ↔ t.val % 11 = 10)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
abbrev ms0_0 (t : Fin cfg0.N) : Memref sig .tc .vmem S640x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x5632 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x640 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S640x5632 .f32 := Memref.whole cc0_scratch0
abbrev scM0_1 : Memref sig .tc .vmem S640x128 .f32 := Memref.whole cc0_scratch1
/-- The scratch `arg12` the kernel carries between points, as a view: what it holds is stated through it. -/
abbrev VS0_1 : View sig .tc .vmem S640x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GateUp.Hand

end
-- ==== Proof.GateUpRunA.lean ====
/- The body's run at the first grid point. -/
module

public import proofs.«01_k».proof.Proof.GateUpBody

@[expose] public section

set_option maxRecDepth 16384

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the row-to-column copy of the scales is made, then this block's columns. -/
theorem run_A (c : Dev nD) (i : grid0.Coords) (arg1 : Memref sig .tc .vmem S640x2048 .fp8e4m3) (harg1 : arg1.IsWhole) (arg2 : Memref sig .tc .vmem S1x640 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S2048x512 .fp8e4m3) (harg5 : arg5.IsWhole) (arg6 : Memref sig .tc .vmem S1x512 .f32) (harg6 : arg6.IsWhole) (arg7 : Memref sig .tc .vmem S640x1x512 .f32) (harg7 : arg7.IsWhole) (arg8 : Memref sig .tc .vmem S640x1x512 .f32) (harg8 : arg8.IsWhole) (arg9 : Memref sig .tc .vmem S640x5632 .fp8e4m3) (harg9 : arg9.IsWhole) (arg10 : Memref sig .tc .vmem S1x640 .f32) (harg10 : arg10.IsWhole) (arg11 : Memref sig .tc .vmem S640x5632 .f32) (harg11 : arg11.IsWhole) (arg12 : Memref sig .tc .vmem S640x128 .f32) (harg12 : arg12.IsWhole) (hc0 : cond0_0 i) (hc1 : ¬cond0_1 i)
    (x0 : Vec F S640x2048 .fp8e4m3) (x1 : Vec F S1x640 .f32) (x2 : Vec F S2048x512 .fp8e4m3) (x3 : Vec F S1x512 .f32) (x4 : Vec F S2048x512 .fp8e4m3) (x5 : Vec F S1x512 .f32) (xh : Vec F S640x5632 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg11 fullShare xh ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gOut x0 (scol x1) x2 x3) ∗ owns (c : Thread nD τ) arg8 fullShare (vOut x0 (scol x1) x4 x5) ∗ owns (c : Thread nD τ) arg11 fullShare (hidUp i xh (hidCols x0 (scol x1) x2 x3 x4 x5)) ∗ owns (c : Thread nD τ) arg12 fullShare (scol x1)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  simp only [k0_part5_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fh, %hfh, HH⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfh
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread]
    rfl
  isplitl [H7]
  · iexists _; isplitr; swap; · iexact H7
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread]
    rfl
  isplitl [HH]
  · iexists _; isplitr; swap; · iexact HH
    ipureintro
    refine (read_hidUp i arg11 harg11 xh _).trans (congrArg (hidUp i xh) ?_)
    sl_unfold_words
    simp only [View.readAt_eq_ld, View.readCov_eq_canon', harg1.read_unread, harg2.read_unread, harg3.read_unread, harg4.read_unread, harg5.read_unread, harg6.read_unread, harg11.read_unread]
    rfl
  iexists _; isplitr; swap; · iexact HS
  ipureintro; rw [View.read_writes_eq_canon _ _ _ (View.cover_of_tiledL (s := S640x128) _ ![128,128] (by sl_kernel_rfl))]
  sl_unfold_words
  simp only [View.readAt_eq_ld, harg1.read_unread, harg2.read_unread, harg3.read_unread, harg4.read_unread, harg5.read_unread, harg6.read_unread, harg11.read_unread]
  rfl

end Cert.GateUp.Hand

end
-- ==== Proof.GateUpRunB.lean ====
/- The body's run at a middle grid point. -/
module

public import proofs.«01_k».proof.Proof.GateUpBody

@[expose] public section

set_option maxRecDepth 16384

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point: the copy of the scales is read as the first point left it. -/
theorem run_B (c : Dev nD) (i : grid0.Coords) (arg1 : Memref sig .tc .vmem S640x2048 .fp8e4m3) (harg1 : arg1.IsWhole) (arg2 : Memref sig .tc .vmem S1x640 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S2048x512 .fp8e4m3) (harg5 : arg5.IsWhole) (arg6 : Memref sig .tc .vmem S1x512 .f32) (harg6 : arg6.IsWhole) (arg7 : Memref sig .tc .vmem S640x1x512 .f32) (harg7 : arg7.IsWhole) (arg8 : Memref sig .tc .vmem S640x1x512 .f32) (harg8 : arg8.IsWhole) (arg9 : Memref sig .tc .vmem S640x5632 .fp8e4m3) (harg9 : arg9.IsWhole) (arg10 : Memref sig .tc .vmem S1x640 .f32) (harg10 : arg10.IsWhole) (arg11 : Memref sig .tc .vmem S640x5632 .f32) (harg11 : arg11.IsWhole) (arg12 : Memref sig .tc .vmem S640x128 .f32) (harg12 : arg12.IsWhole) (hc0 : ¬cond0_0 i) (hc1 : ¬cond0_1 i)
    (x0 : Vec F S640x2048 .fp8e4m3) (x1 : Vec F S1x640 .f32) (x2 : Vec F S2048x512 .fp8e4m3) (x3 : Vec F S1x512 .f32) (x4 : Vec F S2048x512 .fp8e4m3) (x5 : Vec F S1x512 .f32) (xh : Vec F S640x5632 .f32) (xs : Vec F S640x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg11 fullShare xh ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gOut x0 xs x2 x3) ∗ owns (c : Thread nD τ) arg8 fullShare (vOut x0 xs x4 x5) ∗ owns (c : Thread nD τ) arg11 fullShare (hidUp i xh (hidCols x0 xs x2 x3 x4 x5)) ∗ owns (c : Thread nD τ) arg12 fullShare xs) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fh, %hfh, HH⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfh; obtain rfl := harg12.eq_unread hfs
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread, harg12.read_unread]
    rfl
  isplitl [H7]
  · iexists _; isplitr; swap; · iexact H7
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread, harg12.read_unread]
    rfl
  isplitl [HH]
  · iexists _; isplitr; swap; · iexact HH
    ipureintro
    refine (read_hidUp i arg11 harg11 xh _).trans (congrArg (hidUp i xh) ?_)
    sl_unfold_words
    simp only [View.readAt_eq_ld, View.readCov_eq_canon', harg1.read_unread, harg2.read_unread, harg3.read_unread, harg4.read_unread, harg5.read_unread, harg6.read_unread, harg11.read_unread, harg12.read_unread]
    rfl
  iexists _; isplitr; · ipureintro; exact harg12.read_unread _
  iexact HS

end Cert.GateUp.Hand

end
-- ==== Proof.GateUpRunC.lean ====
/- The body's run at the last grid point. -/
module

public import proofs.«01_k».proof.Proof.GateUpBody

@[expose] public section

set_option maxRecDepth 16384

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: with the hidden rows complete, they are quantised too. -/
theorem run_C (c : Dev nD) (i : grid0.Coords) (arg1 : Memref sig .tc .vmem S640x2048 .fp8e4m3) (harg1 : arg1.IsWhole) (arg2 : Memref sig .tc .vmem S1x640 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S2048x512 .fp8e4m3) (harg5 : arg5.IsWhole) (arg6 : Memref sig .tc .vmem S1x512 .f32) (harg6 : arg6.IsWhole) (arg7 : Memref sig .tc .vmem S640x1x512 .f32) (harg7 : arg7.IsWhole) (arg8 : Memref sig .tc .vmem S640x1x512 .f32) (harg8 : arg8.IsWhole) (arg9 : Memref sig .tc .vmem S640x5632 .fp8e4m3) (harg9 : arg9.IsWhole) (arg10 : Memref sig .tc .vmem S1x640 .f32) (harg10 : arg10.IsWhole) (arg11 : Memref sig .tc .vmem S640x5632 .f32) (harg11 : arg11.IsWhole) (arg12 : Memref sig .tc .vmem S640x128 .f32) (harg12 : arg12.IsWhole) (hc0 : ¬cond0_0 i) (hc1 : cond0_1 i)
    (x0 : Vec F S640x2048 .fp8e4m3) (x1 : Vec F S1x640 .f32) (x2 : Vec F S2048x512 .fp8e4m3) (x3 : Vec F S1x512 .f32) (x4 : Vec F S2048x512 .fp8e4m3) (x5 : Vec F S1x512 .f32) (xh : Vec F S640x5632 .f32) (xs : Vec F S640x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xh ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gOut x0 xs x2 x3) ∗ owns (c : Thread nD τ) arg8 fullShare (vOut x0 xs x4 x5) ∗ owns (c : Thread nD τ) arg9 fullShare (codesOf (hidUp i xh (hidCols x0 xs x2 x3 x4 x5))) ∗ owns (c : Thread nD τ) arg10 fullShare (scalesOf (hidUp i xh (hidCols x0 xs x2 x3 x4 x5))) ∗ owns (c : Thread nD τ) arg11 fullShare (hidUp i xh (hidCols x0 xs x2 x3 x4 x5)) ∗ owns (c : Thread nD τ) arg12 fullShare xs) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  simp only [k0_part5_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fh, %hfh, HH⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfh; obtain rfl := harg12.eq_unread hfs
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread, harg12.read_unread]
    rfl
  isplitl [H7]
  · iexists _; isplitr; swap; · iexact H7
    ipureintro; rw [View.read_writes_eq_canon _ _ _ (View.cover_of_tiledL (s := S640x1x512) _ ![640,1,512] (by sl_kernel_rfl)), View.canon_unit_zero hz3]
    sl_unfold_words
    simp only [View.readAt_eq_ld, View.readCov_eq_canon', harg1.read_unread, harg2.read_unread, harg3.read_unread, harg4.read_unread, harg5.read_unread, harg6.read_unread, harg11.read_unread, harg12.read_unread]
    rfl
  isplitl [H8]
  · iexists _; isplitr; swap; · iexact H8
    ipureintro; rw [View.read_writes_eq_canon _ _ _ (View.cover_of_tiledL (s := S640x5632) _ ![128,5632] (by sl_kernel_rfl))]
    sl_unfold_words
    have hU : ∀ w, w = hidCols x0 xs x2 x3 x4 x5 → arg11.view.read (Elt F) (arg11.view.writes (Elt F) (harg11.unread xh) [⟨Rect.unit (s := S640x5632) (k0_off1 i) S640x512.size (k0_off1_inb i), w⟩]) = hidUp i xh (hidCols x0 xs x2 x3 x4 x5) := fun w hw => by
      rw [read_hidUp, hw]
    refine codesOf_of _ ?_ ?_ ?_ ?_ ?_
    all_goals
      rw [View.readAt_eq_ld]
      refine congrArg (fun q => View.ld q _) (hU _ ?_)
      simp only [View.readAt_eq_ld, harg1.read_unread, harg2.read_unread, harg3.read_unread, harg4.read_unread, harg5.read_unread, harg6.read_unread, harg11.read_unread, harg12.read_unread]
      rfl
  isplitl [H9]
  · iexists _; isplitr; swap; · iexact H9
    ipureintro; rw [View.read_writes_eq_canon _ _ _ (View.cover_of_tiledL (s := S1x640) _ ![1,128] (by sl_kernel_rfl))]
    sl_unfold_words
    have hU : ∀ w, w = hidCols x0 xs x2 x3 x4 x5 → arg11.view.read (Elt F) (arg11.view.writes (Elt F) (harg11.unread xh) [⟨Rect.unit (s := S640x5632) (k0_off1 i) S640x512.size (k0_off1_inb i), w⟩]) = hidUp i xh (hidCols x0 xs x2 x3 x4 x5) := fun w hw => by
      rw [read_hidUp, hw]
    refine scalesOf_of _ ?_ ?_ ?_ ?_ ?_
    all_goals
      rw [View.readAt_eq_ld]
      refine congrArg (fun q => View.ld q _) (hU _ ?_)
      simp only [View.readAt_eq_ld, harg1.read_unread, harg2.read_unread, harg3.read_unread, harg4.read_unread, harg5.read_unread, harg6.read_unread, harg11.read_unread, harg12.read_unread]
      rfl
  isplitl [HH]
  · iexists _; isplitr; swap; · iexact HH
    ipureintro
    refine (read_hidUp i arg11 harg11 xh _).trans (congrArg (hidUp i xh) ?_)
    sl_unfold_words
    simp only [View.readAt_eq_ld, View.readCov_eq_canon', harg1.read_unread, harg2.read_unread, harg3.read_unread, harg4.read_unread, harg5.read_unread, harg6.read_unread, harg11.read_unread, harg12.read_unread]
    rfl
  iexists _; isplitr; · ipureintro; exact harg12.read_unread _
  iexact HS

end Cert.GateUp.Hand

end
-- ==== Proof.GateUpFrame.lean ====
/- The frame of the gate and up call, with every output's final contents named.
   The hidden rows are gathered in a scratch array one block of columns per grid point: the invariant between points says
   the scratch agrees with the named hidden rows on the columns written so far, and the last point quantises them. -/
module

public import proofs.«01_k».proof.Proof.GateUpRunA
public import proofs.«01_k».proof.Proof.GateUpRunB
public import proofs.«01_k».proof.Proof.GateUpRunC
public import Idealize.ShloMosaic.Lib.Pointwise
public import Idealize.ShloMosaic.Lib.Claim

@[expose] public section

set_option maxRecDepth 16384

noncomputable section

namespace Cert.GateUp.Hand

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The named contents -/

/-- The copy of the scales, as the first point makes it. -/
def sc (c : Dev nD) : Vec F S640x128 .f32 := scol (iblk m c 1 t0_0)

/-- The gate columns of point `t`. -/
def gAt (c : Dev nD) (t : Fin cfg0.N) : Vec F S640x1x512 .f32 := gOut (iblk m c 0 t) (sc m c) (iblk m c 2 t) (iblk m c 3 t)

/-- The up columns of point `t`. -/
def vAt (c : Dev nD) (t : Fin cfg0.N) : Vec F S640x1x512 .f32 := vOut (iblk m c 0 t) (sc m c) (iblk m c 4 t) (iblk m c 5 t)

/-- The hidden columns of point `t`. -/
def hAt (c : Dev nD) (t : Fin cfg0.N) : Vec F S640x512 .f32 :=
  hidCols (iblk m c 0 t) (sc m c) (iblk m c 2 t) (iblk m c 3 t) (iblk m c 4 t) (iblk m c 5 t)

/-- The point that writes hidden column `k`. -/
def colPt (k : Fin 5632) : Fin cfg0.N := ⟨k.val / 512, by have := k.isLt; rw [show cfg0.N = 11 from N_0]; omega⟩

/-- The column's place within that point's block. -/
def colIn (k : Fin 5632) : Fin 512 := ⟨k.val % 512, Nat.mod_lt _ (by decide)⟩

/-- The whole hidden rows. -/
def hidden (c : Dev nD) : Vec F S640x5632 .f32 := fun y => hAt m c (colPt (y 1)) (ix2 (y 0) (colIn (y 1)))

/-- The scratch `h` agrees with the hidden rows on the columns of the first `n` points. -/
def Agree (c : Dev nD) (n : ℕ) (h : Vec F S640x5632 .f32) : Prop := ∀ y : S640x5632.Idx, (y 1).val < 512 * n → h y = hidden m c y

/-- Before the first point there is nothing to agree on. -/
theorem agree_zero (c : Dev nD) (h : Vec F S640x5632 .f32) : Agree m c 0 h := fun y hy => absurd hy (by omega)

/-- A scratch that agrees on all eleven points' columns is the hidden rows. -/
theorem agree_all (c : Dev nD) (h : Vec F S640x5632 .f32) (ha : Agree m c 11 h) : h = hidden m c :=
  funext fun y => ha y (by have : (y 1).val < 5632 := (y 1).isLt; omega)

/-- Point `t` stores its columns at offset `512 t`. -/
theorem off_one (t : Fin cfg0.N) : k0_off1 (grid0.coords t) 1 = 512 * t.val := by
  have ht : t.val < 11 := Nat.lt_of_lt_of_eq t.isLt N_0
  have e0 : (grid0.coords t 0).val = t.val / 1 % 11 := Pipeline.Grid.coords_val t 0 (by decide) rfl
  have e1 : (grid0.coords t 0).val = t.val := by rw [e0]; omega
  show (Scalar.indexCast (Scalar.muli (BitVec.ofNat 32 (grid0.coords t 0).val) 512#32)).toNat = _
  rw [e1]
  show ((BitVec.ofNat 32 t.val) * 512#32).toNat = _
  rw [BitVec.toNat_mul, BitVec.toNat_ofNat, BitVec.toNat_ofNat]
  omega

/-- The row offset is zero. -/
theorem off_zero (t : Fin cfg0.N) : k0_off1 (grid0.coords t) 0 = 0 := rfl

/-- Point `t`'s store takes the agreement from the first `t` points to the first `t + 1`. -/
theorem agree_step (c : Dev nD) (t : Fin cfg0.N) (h : Vec F S640x5632 .f32) (ha : Agree m c t.val h) :
    Agree m c (t.val + 1) (hidUp (grid0.coords t) h (hAt m c t)) := fun y hy => by
  have o0 := off_zero t
  have o1 := off_one t
  unfold hidUp
  split
  · rename_i hin
    have h0 : (y 0).val < 640 := (y 0).isLt
    have h1 : k0_off1 (grid0.coords t) 1 ≤ (y 1).val ∧ (y 1).val < k0_off1 (grid0.coords t) 1 + 512 := hin 1
    rw [o1] at h1
    have et : colPt (y 1) = t := Fin.ext (by show (y 1).val / 512 = t.val; omega)
    unfold hidden
    rw [et]
    refine congrArg (hAt m c t) (funext fun a => Fin.ext ?_)
    match a with
    | ⟨0, _⟩ => show (y 0).val - k0_off1 (grid0.coords t) 0 = (y 0).val; rw [o0]; rfl
    | ⟨1, _⟩ => show (y 1).val - k0_off1 (grid0.coords t) 1 = (y 1).val % 512; rw [o1]; omega
  · rename_i hout
    refine ha y ?_
    by_contra hlt
    refine hout fun a => ?_
    match a with
    | ⟨0, _⟩ =>
      have h0 : (y 0).val < 640 := (y 0).isLt
      show k0_off1 (grid0.coords t) 0 ≤ (y 0).val ∧ (y 0).val < k0_off1 (grid0.coords t) 0 + 640
      rw [o0]; omega
    | ⟨1, _⟩ =>
      show k0_off1 (grid0.coords t) 1 ≤ (y 1).val ∧ (y 1).val < k0_off1 (grid0.coords t) 1 + 512
      rw [o1]; omega

/-! ## The invariant and the proof data -/

/-- The invariant before position `n`: at first the scratch at anything; afterwards the hidden scratch at contents that
    agree with the hidden rows on the columns written so far, and the copy of the scales as the first point made it. -/
def PhiS (c : Dev nD) : (n : ℕ) → n ≤ cfg0.N → sProp 𝕄
  | 0, _ => Pipeline.ΦA spec0 c
  | n + 1, _ => iprop(iprop((∃ h, ⌜Agree m c (n + 1) h⌝ ∗ owns (c : Thread nD τ) scM0_0 fullShare h) ∗ owns (c : Thread nD τ) scM0_1 fullShare (sc m c)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) :
    PhiS m c (n + 1) hn = iprop(iprop((∃ h, ⌜Agree m c (n + 1) h⌝ ∗ owns (c : Thread nD τ) scM0_0 fullShare h) ∗ owns (c : Thread nD τ) scM0_1 fullShare (sc m c)) ∗ (∃ r, prngReg c r)) := rfl

/-- The invariant before a point that is not the first. -/
theorem PhiS_pos (c : Dev nD) (n : ℕ) (h : n ≤ cfg0.N) (hz : n ≠ 0) :
    PhiS m c n h = iprop(iprop((∃ h, ⌜Agree m c n h⌝ ∗ owns (c : Thread nD τ) scM0_0 fullShare h) ∗ owns (c : Thread nD τ) scM0_1 fullShare (sc m c)) ∗ (∃ r, prngReg c r)) := by
  cases n with
  | zero => exact absurd rfl hz
  | succ n => rfl

/-- The proof data: each input's buffer at its block, the gate and up outputs at the point's columns, the codes and scales at
    the quantised hidden rows (what the last point leaves: at the others the two windows are idle). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => gAt m c t
    | ⟨7, _⟩ => vAt m c t
    | ⟨8, _⟩ => codesOf (hidden m c)
    | ⟨9, _⟩ => scalesOf (hidden m c)
  Φ t := PhiS m c t.val (Nat.le_of_lt_succ t.isLt)
  q _ := fullShare
  owed _ := 0

/-- The arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0's buffer holds after point `t`. -/
theorem after0_0 (c : Dev nD) (t : Fin cfg0.N) : (dats m 0 c).after 0 t = iblk m c 0 t := by dsimp only [dats]
/-- What window 1's buffer holds after point `t`. -/
theorem after0_1 (c : Dev nD) (t : Fin cfg0.N) : (dats m 0 c).after 1 t = iblk m c 1 t := by dsimp only [dats]
/-- What window 2's buffer holds after point `t`. -/
theorem after0_2 (c : Dev nD) (t : Fin cfg0.N) : (dats m 0 c).after 2 t = iblk m c 2 t := by dsimp only [dats]
/-- What window 3's buffer holds after point `t`. -/
theorem after0_3 (c : Dev nD) (t : Fin cfg0.N) : (dats m 0 c).after 3 t = iblk m c 3 t := by dsimp only [dats]
/-- What window 4's buffer holds after point `t`. -/
theorem after0_4 (c : Dev nD) (t : Fin cfg0.N) : (dats m 0 c).after 4 t = iblk m c 4 t := by dsimp only [dats]
/-- What window 5's buffer holds after point `t`. -/
theorem after0_5 (c : Dev nD) (t : Fin cfg0.N) : (dats m 0 c).after 5 t = iblk m c 5 t := by dsimp only [dats]
/-- What window 6's buffer holds after point `t`. -/
theorem after0_6 (c : Dev nD) (t : Fin cfg0.N) : (dats m 0 c).after 6 t = gAt m c t := by dsimp only [dats]
/-- What window 7's buffer holds after point `t`. -/
theorem after0_7 (c : Dev nD) (t : Fin cfg0.N) : (dats m 0 c).after 7 t = vAt m c t := by dsimp only [dats]
/-- What window 8's buffer holds after point `t`. -/
theorem after0_8 (c : Dev nD) (t : Fin cfg0.N) : (dats m 0 c).after 8 t = codesOf (hidden m c) := by dsimp only [dats]
/-- What window 9's buffer holds after point `t`. -/
theorem after0_9 (c : Dev nD) (t : Fin cfg0.N) : (dats m 0 c).after 9 t = scalesOf (hidden m c) := by dsimp only [dats]

/-- Input window 0's buffer holds its block at every point. -/
theorem before0_0 (c : Dev nD) (t : Fin cfg0.N) (d) : (dats m 0 c).before 0 t d = iblk m c 0 t :=
  before0_0_of m (dats m 0 c) (A_eq m c 0) (after0_0 m c) t d
/-- Input window 1's buffer holds its block at every point. -/
theorem before0_1 (c : Dev nD) (t : Fin cfg0.N) (d) : (dats m 0 c).before 1 t d = iblk m c 1 t :=
  before0_1_of m (dats m 0 c) (A_eq m c 1) (after0_1 m c) t d
/-- Input window 2's buffer holds its block at every point. -/
theorem before0_2 (c : Dev nD) (t : Fin cfg0.N) (d) : (dats m 0 c).before 2 t d = iblk m c 2 t :=
  before0_2_of m (dats m 0 c) (A_eq m c 2) (after0_2 m c) t d
/-- Input window 3's buffer holds its block at every point. -/
theorem before0_3 (c : Dev nD) (t : Fin cfg0.N) (d) : (dats m 0 c).before 3 t d = iblk m c 3 t :=
  before0_3_of m (dats m 0 c) (A_eq m c 3) (after0_3 m c) t d
/-- Input window 4's buffer holds its block at every point. -/
theorem before0_4 (c : Dev nD) (t : Fin cfg0.N) (d) : (dats m 0 c).before 4 t d = iblk m c 4 t :=
  before0_4_of m (dats m 0 c) (A_eq m c 4) (after0_4 m c) t d
/-- Input window 5's buffer holds its block at every point. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns: the codes' and scales' buffers as found where the windows are idle. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (dats m 0 c).leavesExact 8 t
    ∗ (dats m 0 c).leavesExact 9 t)

/-- Before the last point window 8's buffer is handed back as it was found. -/
theorem leaves_8 (c : Dev nD) (t : Fin cfg0.N) (h : ¬t.val % 11 = 10) :
    (dats m 0 c).leavesExact 8 t = iprop(∃ d, owns (c : Thread nD τ) (ms0_8 t) fullShare ((dats m 0 c).before 8 t d)) := by
  have hi : cfg0.idle 8 (cfg0.grid.coords t) = true := by
    show (!(k0_cond2 (grid0.coords t) == 1#1)) = true
    have hne : ¬k0_cond2 (grid0.coords t) = 1#1 := fun hc => h ((hcond0_1 t).mp hc)
    simp [hne]
  have hf : (cfg0.win 8).flush t = false := by
    cases hfl : (cfg0.win 8).flush t with
    | false => rfl
    | true => exact absurd ((flush0_8 t).mp hfl) h
  exact (dats m 0 c).leavesExact_idle 8 t hi hf

/-- At the last point window 8's buffer holds the quantised hidden rows. -/
theorem leaves_8_last (c : Dev nD) (t : Fin cfg0.N) (h : t.val % 11 = 10) :
    (dats m 0 c).leavesExact 8 t = owns (c : Thread nD τ) (ms0_8 t) fullShare (codesOf (hidden m c)) := by
  have hi : cfg0.idle 8 (cfg0.grid.coords t) = false := by
    show (!(k0_cond2 (grid0.coords t) == 1#1)) = false
    have he : k0_cond2 (grid0.coords t) = 1#1 := (hcond0_1 t).mpr h
    simp [he]
  unfold Pipeline.Dat.leavesExact
  rw [hi, after0_8]

/-- Before the last point window 9's buffer is handed back as it was found. -/
theorem leaves_9 (c : Dev nD) (t : Fin cfg0.N) (h : ¬t.val % 11 = 10) :
    (dats m 0 c).leavesExact 9 t = iprop(∃ d, owns (c : Thread nD τ) (ms0_9 t) fullShare ((dats m 0 c).before 9 t d)) := by
  have hi : cfg0.idle 9 (cfg0.grid.coords t) = true := by
    show (!(k0_cond2 (grid0.coords t) == 1#1)) = true
    have hne : ¬k0_cond2 (grid0.coords t) = 1#1 := fun hc => h ((hcond0_1 t).mp hc)
    simp [hne]
  have hf : (cfg0.win 9).flush t = false := by
    cases hfl : (cfg0.win 9).flush t with
    | false => rfl
    | true => exact absurd ((flush0_9 t).mp hfl) h
  exact (dats m 0 c).leavesExact_idle 9 t hi hf

/-- At the last point window 9's buffer holds the quantised hidden rows. -/
theorem leaves_9_last (c : Dev nD) (t : Fin cfg0.N) (h : t.val % 11 = 10) :
    (dats m 0 c).leavesExact 9 t = owns (c : Thread nD τ) (ms0_9 t) fullShare (scalesOf (hidden m c)) := by
  have hi : cfg0.idle 9 (cfg0.grid.coords t) = false := by
    show (!(k0_cond2 (grid0.coords t) == 1#1)) = false
    have he : k0_cond2 (grid0.coords t) = 1#1 := (hcond0_1 t).mpr h
    simp [he]
  unfold Pipeline.Dat.leavesExact
  rw [hi, after0_9]

set_option maxHeartbeats 6400000 in
/-- The body at any point: the case the point is in, its run, and the invariant restored by `agree_step`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 11 := lt_of_lt_of_eq t.isLt (show cfg0.N = 11 from N_0)
  by_cases hz : t.val = 0
  · have ht : t = t0_0 := Fin.ext hz
    have h0 : t.val % 11 = 0 := by omega
    have h1 : ¬t.val % 11 = 10 := by omega
    have hsc : scol (iblk m c 1 t) = sc m c := by unfold sc; rw [ht]
    rw [PhiS_castSucc m c t, PhiS_zero m c _ _ hz, PhiA0_eq, leaves_8 m c t h1, leaves_9 m c t h1]
    iintro ⟨⟨⟨⟨%xh, HH⟩, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (run_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) xh Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HH]; · iexact HH
    isplitl [HS]; · iexact HS
    rw [hsc]
    iintro ⟨H0, H1, H2, H3, H4, H5, H6, H7, HH, HS⟩
    isplitl [HH HS Hg]
    · isplitl [HH HS]
      · isplitl [HH]
        · iexists _; isplitr
          swap; · iexact HH
          ipureintro; exact agree_step m c t xh (by rw [hz]; exact agree_zero m c xh)
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have h0 : ¬t.val % 11 = 0 := by omega
    rw [PhiS_castSucc m c t, PhiS_pos m c _ _ hz]
    by_cases h1 : t.val % 11 = 10
    · rw [leaves_8_last m c t h1, leaves_9_last m c t h1]
      iintro ⟨⟨⟨⟨%xh, %ha, HH⟩, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have hh := agree_step m c t xh ha
      have hall : hidUp (grid0.coords t) xh (hidCols (iblk m c 0 t) (sc m c) (iblk m c 2 t) (iblk m c 3 t) (iblk m c 4 t) (iblk m c 5 t)) = hidden m c :=
        agree_all m c _ (by rw [show t.val + 1 = 11 from by omega] at hh; exact hh)
      rw [show hidUp (grid0.coords t) xh (hAt m c t) = hidden m c from hall] at hh
      iapply (run_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) xh (sc m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HH]; · iexact HH
      isplitl [HS]; · iexact HS
      rw [hall]
      iintro ⟨H0, H1, H2, H3, H4, H5, H6, H7, H8, H9, HH, HS⟩
      isplitl [HH HS Hg]
      · isplitl [HH HS]
        · isplitl [HH]
          · iexists _; isplitr
            swap; · iexact HH
            ipureintro; exact hh
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [leaves_8 m c t h1, leaves_9 m c t h1]
      iintro ⟨⟨⟨⟨%xh, %ha, HH⟩, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (run_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) xh (sc m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HH]; · iexact HH
      isplitl [HS]; · iexact HS
      iintro ⟨H0, H1, H2, H3, H4, H5, H6, H7, HH, HS⟩
      isplitl [HH HS Hg]
      · isplitl [HH HS]
        · isplitl [HH]
          · iexists _; isplitr
            swap; · iexact HH
            ipureintro; exact agree_step m c t xh ha
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%h, %ha, HH⟩, HS⟩, Hg⟩
  isplitl [HH HS]
  · isplitl [HH]
    · iexists _; iexact HH
    iexists _; iexact HS
  iexact Hg

/-- The same after the last point. -/
theorem hout (c : Dev nD) : (dats m 0 c).Φ (Fin.last cfg0.N) ⊢ Pipeline.ΦA spec0 c :=
  Phi_out m c _ (by rw [Fin.val_last]; have : cfg0.N = 11 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_GateUp`'s statement (Defs.lean) at any `F` — Proof.lean cites it at `Bits`:
    `theorem Cert.Proof.claim : Cert.Claim := ⟨Cert.GateUp.Hand.facts, fun m ρ _ => Cert.GateUp.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GateUp.Hand

end
-- ==== Proof.DownKernel.lean ====
module

public import proofs.«01_k».proof.Proof.Gen.DownIdeal.Value
public import proofs.«01_k».proof.Proof.Spec
public import Idealize.ShloMosaic.Lib.StableHlo.ReadAt

@[expose] public section

set_option maxRecDepth 16384

noncomputable section

namespace Cert.DownIdeal.Hand

open Cert.DownIdeal Cert.DownIdeal.Gen Cert.DownIdeal.Value
open Idealize.ShloMosaic Idealize.ShloMosaic.TcCoe Idealize.ShloMosaic.Tactic
open Idealize.ShloMosaic.Pipeline (Dat Cfg Window)
open Cert.Spec
open scoped BigOperators

section
variable (c : Dev nD) (i : grid0.Coords) (arg1 : Memref sig .tc .vmem S640x5632 .fp8e4m3) (harg1 : arg1.IsWhole) (arg2 : Memref sig .tc .vmem S1x640 .f32) (harg2 : arg2.IsWhole) (arg3 : Memref sig .tc .vmem S5632x512 .fp8e4m3) (harg3 : arg3.IsWhole) (arg4 : Memref sig .tc .vmem S1x512 .f32) (harg4 : arg4.IsWhole) (arg5 : Memref sig .tc .vmem S640x512 .f32) (harg5 : arg5.IsWhole) (arg6 : Memref sig .tc .vmem S640x1x512 .f32) (harg6 : arg6.IsWhole) (arg7 : Memref sig .tc .vmem S640x512 .bf16) (harg7 : arg7.IsWhole) (arg8 : Memref sig .tc .vmem S640x128 .f32) (harg8 : arg8.IsWhole)
  (x0 : Vec Ideal S640x5632 .fp8e4m3) (x1 : Vec Ideal S1x640 .f32) (x2 : Vec Ideal S5632x512 .fp8e4m3) (x3 : Vec Ideal S1x512 .f32) (x4 : Vec Ideal S640x512 .f32) (xs0 : Vec Ideal S640x128 .f32)

theorem out_B5 (hc0 : ¬cond0_0 i) (b : Fin 640) (j : Fin 512) :
    out0_B_5 c i arg1 harg1 arg2 harg2 arg3 harg3 arg4 harg4 arg5 harg5 arg6 harg6 arg7 harg7 arg8 harg8 hc0 x0 x1 x2 x3 x4 xs0 (ix3 b 0 j)
      = (∑ k : Fin 5632, x0 (ix2 b k) * x2 (ix2 k j)) * xs0 (ix2 b 0) * x3 (ix2 0 j) := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz3]
  simp only [View.readAt_eq_ld, harg1.read_unread, harg2.read_unread, harg3.read_unread, harg4.read_unread, harg5.read_unread, harg8.read_unread]
  pointwise [k0_pay2, k0_pay1]

/-- The five transposed rows of the scale array that the first point writes into its scratch, read back: row `b`, any
    lane, is the scale of row `b`. -/
theorem canon_scol (y : S640x128.Idx) :
    View.canon (Val := Elt Ideal) [⟨Rect.unit (s := S640x128) ![512, 0] ![128, 128] inb_S640x128_S128x128_512_0,
              k0_pay8 (View.ld x1 (Rect.unit (s := S1x640) ![0, 512] ![1, 128] inb_S1x640_S1x128_0_512))⟩,
            ⟨Rect.unit (s := S640x128) ![384, 0] ![128, 128] inb_S640x128_S128x128_384_0,
              k0_pay7 (View.ld x1 (Rect.unit (s := S1x640) ![0, 384] ![1, 128] inb_S1x640_S1x128_0_384))⟩,
            ⟨Rect.unit (s := S640x128) ![256, 0] ![128, 128] inb_S640x128_S128x128_256_0,
              k0_pay6 (View.ld x1 (Rect.unit (s := S1x640) ![0, 256] ![1, 128] inb_S1x640_S1x128_0_256))⟩,
            ⟨Rect.unit (s := S640x128) ![128, 0] ![128, 128] inb_S640x128_S128x128_128_0,
              k0_pay5 (View.ld x1 (Rect.unit (s := S1x640) ![0, 128] ![1, 128] inb_S1x640_S1x128_0_128))⟩,
            ⟨Rect.unit (s := S640x128) ![0, 0] ![128, 128] inb_S640x128_S128x128_0_0,
              k0_pay4 (View.ld x1 (Rect.unit (s := S1x640) ![0, 0] ![1, 128] inb_S1x640_S1x128_0_0))⟩] y
      = x1 (ix2 0 (y 0)) := by
  refine View.canon_apply_of_pieces (fun y => x1 (ix2 0 (y 0))) _ ?_ y (View.cover_of_tiledL (s := S640x128) _ ![128, 128] (by sl_kernel_rfl) y)
  intro pc hpc
  simp only [List.mem_cons, List.mem_nil_iff, or_false] at hpc
  rcases hpc with rfl | rfl | rfl | rfl | rfl <;> intro x
  · pointwise [k0_pay8]
    refine congrArg (fun z : Fin 640 => x1 (ix2 0 z)) (Fin.ext ?_)
    show 512 + (x 0).val = 512 + 1 * (x 0).val
    omega
  · pointwise [k0_pay7]
    refine congrArg (fun z : Fin 640 => x1 (ix2 0 z)) (Fin.ext ?_)
    show 384 + (x 0).val = 384 + 1 * (x 0).val
    omega
  · pointwise [k0_pay6]
    refine congrArg (fun z : Fin 640 => x1 (ix2 0 z)) (Fin.ext ?_)
    show 256 + (x 0).val = 256 + 1 * (x 0).val
    omega
  · pointwise [k0_pay5]
    refine congrArg (fun z : Fin 640 => x1 (ix2 0 z)) (Fin.ext ?_)
    show 128 + (x 0).val = 128 + 1 * (x 0).val
    omega
  · pointwise [k0_pay4]
    refine congrArg (fun z : Fin 640 => x1 (ix2 0 z)) (Fin.ext ?_)
    show (x 0).val = 0 + 1 * (x 0).val
    omega

theorem out_A5 (hc0 : cond0_0 i) (b : Fin 640) (j : Fin 512) :
    out0_A_5 c i arg1 harg1 arg2 harg2 arg3 harg3 arg4 harg4 arg5 harg5 arg6 harg6 arg7 harg7 arg8 harg8 hc0 x0 x1 x2 x3 x4 (ix3 b 0 j)
      = (∑ k : Fin 5632, x0 (ix2 b k) * x2 (ix2 k j)) * x1 (ix2 0 b) * x3 (ix2 0 j) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz3]
  simp only [View.readAt_eq_ld, harg1.read_unread, harg2.read_unread, harg3.read_unread, harg4.read_unread, harg5.read_unread,
    View.readCov_eq_canon']
  pointwise [k0_pay2, k0_pay1, canon_scol]
  done

theorem sout_A (hc0 : cond0_0 i) (y : S640x128.Idx) :
    sout0_A_0 c i arg1 harg1 arg2 harg2 arg3 harg3 arg4 harg4 arg5 harg5 arg6 harg6 arg7 harg7 arg8 harg8 hc0 x0 x1 x2 x3 x4 y = x1 (ix2 0 (y 0)) := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread]
  exact canon_scol x1 y

theorem out_A6 (hc0 : cond0_0 i) (b : Fin 640) (j : Fin 512) :
    out0_A_6 c i arg1 harg1 arg2 harg2 arg3 harg3 arg4 harg4 arg5 harg5 arg6 harg6 arg7 harg7 arg8 harg8 hc0 x0 x1 x2 x3 x4 (ix2 b j)
      = x4 (ix2 b j) + (∑ k : Fin 5632, x0 (ix2 b k) * x2 (ix2 k j)) * x1 (ix2 0 b) * x3 (ix2 0 j) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread,
    View.readCov_eq_canon']
  pointwise [k0_pay3, k0_pay1, canon_scol]
  done

theorem out_B6 (hc0 : ¬cond0_0 i) (b : Fin 640) (j : Fin 512) :
    out0_B_6 c i arg1 harg1 arg2 harg2 arg3 harg3 arg4 harg4 arg5 harg5 arg6 harg6 arg7 harg7 arg8 harg8 hc0 x0 x1 x2 x3 x4 xs0 (ix2 b j)
      = x4 (ix2 b j) + (∑ k : Fin 5632, x0 (ix2 b k) * x2 (ix2 k j)) * xs0 (ix2 b 0) * x3 (ix2 0 j) := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz2]
  simp only [View.readAt_eq_ld, harg1.read_unread, harg2.read_unread, harg3.read_unread, harg4.read_unread, harg5.read_unread, harg8.read_unread]
  pointwise [k0_pay3, k0_pay1]
end

variable (m : (ℓ : Loc nD τ sig) → Buf (Elt Ideal) ℓ)

/-! ## The arguments, as arrays of numbers -/

/-- The codes. -/
def A0 (c : Dev nD) : S640x5632.Idx → EReal := m ((c : Thread nD τ).loc main_arg0)
/-- The codes' scales, one row. -/
def A1 (c : Dev nD) : S1x640.Idx → EReal := m ((c : Thread nD τ).loc main_arg1)
/-- The weights' codes. -/
def A2 (c : Dev nD) : S5632x2048.Idx → EReal := m ((c : Thread nD τ).loc main_arg2)
/-- The weights' scales. -/
def A3 (c : Dev nD) : S2048.Idx → EReal := m ((c : Thread nD τ).loc main_arg3)
/-- The rows the product is added to. -/
def A4 (c : Dev nD) : S640x2048.Idx → EReal := m ((c : Thread nD τ).loc main_arg4)

/-! ## The windows' blocks, read off the arrays -/

theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The column of the whole array that column `j` of point `t`'s block is. -/
abbrev col (t : Fin cfg0.N) (j : Fin 512) : Fin 2048 :=
  ⟨512 * t.val + j.val, by have := t.isLt; have : cfg0.N = 4 := N_0; omega⟩

/-- The host's reshape of the weights' scales to one row. -/
theorem V_v0 (c : Dev nD) (j : Fin 2048) : V m c main_v0 (ix2 0 j) = A3 m c (ix1 j) := by
  unfold V A3
  after_reads_at

theorem iblk0 (c : Dev nD) (t : Fin cfg0.N) (b : Fin 640) (k : Fin 5632) :
    iblk m c 0 t (ix2 b k) = A0 m c (ix2 b k) := by
  obtain ⟨e0, e1, -⟩ := idx_facts t
  refine (congrArg (V m c main_arg0) (funext fun a => Fin.ext ?_)).trans (congrFun (V_main_arg0 m c) _)
  match a with
  | ⟨0, _⟩ => show win0_0.index t (0 : Fin 2) * 640 + 1 * b.val = b.val; omega
  | ⟨1, _⟩ => show win0_0.index t (1 : Fin 2) * 5632 + 1 * k.val = k.val; omega

theorem iblk1 (c : Dev nD) (t : Fin cfg0.N) (b : Fin 640) :
    iblk m c 1 t (ix2 0 b) = A1 m c (ix2 0 b) := by
  obtain ⟨-, -, e0, e1, -⟩ := idx_facts t
  refine (congrArg (V m c main_arg1) (funext fun a => Fin.ext ?_)).trans (congrFun (V_main_arg1 m c) _)
  match a with
  | ⟨0, _⟩ => show win0_1.index t (0 : Fin 2) * 1 + 1 * 0 = 0; omega
  | ⟨1, _⟩ => show win0_1.index t (1 : Fin 2) * 640 + 1 * b.val = b.val; omega

theorem iblk2 (c : Dev nD) (t : Fin cfg0.N) (k : Fin 5632) (j : Fin 512) :
    iblk m c 2 t (ix2 k j) = A2 m c (ix2 k (col t j)) := by
  obtain ⟨-, -, -, -, e0, e1, -⟩ := idx_facts t
  refine (congrArg (V m c main_arg2) (funext fun a => Fin.ext ?_)).trans (congrFun (V_main_arg2 m c) _)
  match a with
  | ⟨0, _⟩ => show win0_2.index t (0 : Fin 2) * 5632 + 1 * k.val = k.val; omega
  | ⟨1, _⟩ => show win0_2.index t (1 : Fin 2) * 512 + 1 * j.val = 512 * t.val + j.val; omega

theorem iblk3 (c : Dev nD) (t : Fin cfg0.N) (j : Fin 512) :
    iblk m c 3 t (ix2 0 j) = A3 m c (ix1 (col t j)) := by
  obtain ⟨-, -, -, -, -, -, e0, e1, -⟩ := idx_facts t
  refine (congrArg (V m c main_v0) (funext fun a => Fin.ext ?_)).trans (V_v0 m c (col t j))
  match a with
  | ⟨0, _⟩ => show win0_3.index t (0 : Fin 2) * 1 + 1 * 0 = 0; omega
  | ⟨1, _⟩ => show win0_3.index t (1 : Fin 2) * 512 + 1 * j.val = 512 * t.val + j.val; omega

theorem iblk4 (c : Dev nD) (t : Fin cfg0.N) (b : Fin 640) (j : Fin 512) :
    iblk m c 4 t (ix2 b j) = A4 m c (ix2 b (col t j)) := by
  obtain ⟨-, -, -, -, -, -, -, -, e0, e1⟩ := idx_facts t
  refine (congrArg (V m c main_arg4) (funext fun a => Fin.ext ?_)).trans (congrFun (V_main_arg4 m c) _)
  match a with
  | ⟨0, _⟩ => show win0_4.index t (0 : Fin 2) * 640 + 1 * b.val = b.val; omega
  | ⟨1, _⟩ => show win0_4.index t (1 : Fin 2) * 512 + 1 * j.val = 512 * t.val + j.val; omega

/-! ## What the points leave -/

/-- The scratch holds the row scales, one row each, after every point. -/
theorem scol (c : Dev nD) : ∀ (n : ℕ) (h : n < cfg0.N) (y : S640x128.Idx),
    (outsAt0 m c n h).2.2 y = A1 m c (ix2 0 (y 0))
  | 0, h, y => by
    rw [outsAt0_A m c ⟨0, h⟩ rfl]
    dsimp only
    rw [sout_A]
    exact iblk1 m c _ _
  | n + 1, h, y => by
    have hN : cfg0.N = 4 := N_0
    rw [outsAt0_B m c ⟨n + 1, h⟩ (by dsimp only; omega)]
    dsimp only [sout0_B_0]
    exact scol c n _ y

/-- One entry of the product, in the arguments. -/
abbrev dn (c : Dev nD) (b : Fin 640) (j : Fin 2048) : EReal :=
  scaledDot (A0 m c) (fun b => A1 m c (ix2 0 b)) (A2 m c) (A3 m c) b j

theorem out5 (c : Dev nD) (t : Fin cfg0.N) (b : Fin 640) (j : Fin 512) :
    (outsAt0 m c t.val t.isLt).1 (ix3 b 0 j) = dn m c b (col t j) := by
  by_cases h0 : t.val % 4 = 0
  · rw [outsAt0_A m c t h0]
    dsimp only
    rw [out_A5]
    simp only [iblk0, iblk1, iblk2, iblk3, iblk4, scol]
    rfl
  · rw [outsAt0_B m c t h0]
    dsimp only
    rw [out_B5]
    simp only [iblk0, iblk1, iblk2, iblk3, iblk4, scol]
    rfl

theorem out6 (c : Dev nD) (t : Fin cfg0.N) (b : Fin 640) (j : Fin 512) :
    (outsAt0 m c t.val t.isLt).2.1 (ix2 b j) = A4 m c (ix2 b (col t j)) + dn m c b (col t j) := by
  by_cases h0 : t.val % 4 = 0
  · rw [outsAt0_A m c t h0]
    dsimp only
    rw [out_A6]
    simp only [iblk0, iblk1, iblk2, iblk3, iblk4, scol]
    rfl
  · rw [outsAt0_B m c t h0]
    dsimp only
    rw [out_B6]
    simp only [iblk0, iblk1, iblk2, iblk3, iblk4, scol]
    rfl

/-! ## The result arrays -/

theorem G5_eq (c : Dev nD) : G5 m c = fun i : S640x1x2048.Idx => dn m c (i 0) (i 2) := by
  funext i
  have hN : cfg0.N = 4 := N_0
  have h0 : (i 0).val < 640 := (i 0).isLt
  have h1 : (i 1).val < 1 := (i 1).isLt
  have h2 : (i 2).val < 2048 := (i 2).isLt
  have hp : pt5Of i = (i 2).val / 512 := by show 4 * ((i 0).val / 640 - 0) + 4 * ((i 1).val / 1 - 0) + 1 * ((i 2).val / 512 - 0) = _; omega
  have hlt : pt5Of i < cfg0.N := by omega
  unfold G5
  rw [dif_pos hlt, ← outsAt0_sweep m c (pt5Of i) hlt]
  have hl : loc5Of i = ix3 (i 0) 0 ⟨(i 2).val % 512, Nat.mod_lt _ (by decide)⟩ := by
    funext a; apply Fin.ext
    match a with
    | ⟨0, _⟩ => show (i 0).val % 640 = (i 0).val; omega
    | ⟨1, _⟩ => show (i 1).val % 1 = 0; omega
    | ⟨2, _⟩ => rfl
  rw [hl]
  refine (out5 m c ⟨pt5Of i, hlt⟩ _ _).trans (congrArg (dn m c (i 0)) (Fin.ext ?_))
  show 512 * pt5Of i + (i 2).val % 512 = (i 2).val
  omega

theorem G6_eq (c : Dev nD) : G6 m c = fun i : S640x2048.Idx => A4 m c i + dn m c (i 0) (i 1) := by
  funext i
  have hN : cfg0.N = 4 := N_0
  have h0 : (i 0).val < 640 := (i 0).isLt
  have h1 : (i 1).val < 2048 := (i 1).isLt
  have hp : pt6Of i = (i 1).val / 512 := by show 4 * ((i 0).val / 640 - 0) + 1 * ((i 1).val / 512 - 0) = _; omega
  have hlt : pt6Of i < cfg0.N := by omega
  unfold G6
  rw [dif_pos hlt, ← outsAt0_sweep m c (pt6Of i) hlt]
  have hl : loc6Of i = ix2 (i 0) ⟨(i 1).val % 512, Nat.mod_lt _ (by decide)⟩ := by
    funext a; apply Fin.ext
    match a with
    | ⟨0, _⟩ => show (i 0).val % 640 = (i 0).val; omega
    | ⟨1, _⟩ => rfl
  rw [hl]
  have hc : col ⟨pt6Of i, hlt⟩ ⟨(i 1).val % 512, Nat.mod_lt _ (by decide)⟩ = i 1 := by
    apply Fin.ext
    show 512 * pt6Of i + (i 1).val % 512 = (i 1).val
    omega
  refine (out6 m c ⟨pt6Of i, hlt⟩ _ _).trans ?_
  rw [hc, ← eq_ix2 i]

end Cert.DownIdeal.Hand
-- ==== Proof.DownReference.lean ====
/-
  The reference of the last call, read entry by entry: the whole product in one step, then the residual sum.
-/
module

public import proofs.«01_k».proof.Proof.Gen.DownRefIdeal.Value
public import proofs.«01_k».proof.Proof.Spec
public import Idealize.ShloMosaic.Lib.StableHlo.ReadAt

@[expose] public section

set_option maxRecDepth 16384

noncomputable section

namespace Cert.DownRefIdeal.Hand

open Cert.DownRefIdeal Cert.DownRefIdeal.Gen Cert.DownRefIdeal.Value
open Idealize.ShloMosaic Idealize.ShloMosaic.TcCoe Idealize.ShloMosaic.Tactic
open Idealize.ShloMosaic.Pipeline (Dat Cfg Window)
open Cert.Spec
open scoped BigOperators

variable (m : (ℓ : Loc nD τ sig) → Buf (Elt Ideal) ℓ)

/-! ## The arguments, as arrays of numbers -/

/-- The codes. -/
def A0 (c : Dev nD) : S640x5632.Idx → EReal := m ((c : Thread nD τ).loc main_arg0)
/-- The codes' scales, one row. -/
def A1 (c : Dev nD) : S1x640.Idx → EReal := m ((c : Thread nD τ).loc main_arg1)
/-- The weights' codes. -/
def A2 (c : Dev nD) : S5632x2048.Idx → EReal := m ((c : Thread nD τ).loc main_arg2)
/-- The weights' scales. -/
def A3 (c : Dev nD) : S2048.Idx → EReal := m ((c : Thread nD τ).loc main_arg3)
/-- The rows the product is added to. -/
def A4 (c : Dev nD) : S640x2048.Idx → EReal := m ((c : Thread nD τ).loc main_arg4)

/-! ## The one point's blocks are the whole arrays -/

theorem idx_facts : ∀ t : Fin cfg0.N, (∀ a : Fin 2, win0_0.index t a = 0) ∧ (∀ a : Fin 2, win0_1.index t a = 0)
    ∧ (∀ a : Fin 2, win0_2.index t a = 0) ∧ (∀ a : Fin 2, win0_3.index t a = 0) ∧ (∀ a : Fin 2, win0_4.index t a = 0)
    ∧ (∀ a : Fin 3, win0_5.index t a = 0) ∧ (∀ a : Fin 2, win0_6.index t a = 0) :=
  (by decide +kernel : ∀ t : Fin grid0.N, _)

/-- The host's reshape of the weights' scales to one row. -/
theorem V_v0 (c : Dev nD) (j : Fin 2048) : V m c main_v0 (ix2 0 j) = A3 m c (ix1 j) := by
  unfold V A3
  after_reads_at

theorem iblk0 (c : Dev nD) (t : Fin cfg0.N) : iblk m c 0 t = A0 m c := by
  obtain ⟨e, -⟩ := idx_facts t
  funext y
  refine (congrArg (V m c main_arg0) (funext fun a => Fin.ext ?_)).trans (congrFun (V_main_arg0 m c) _)
  show win0_0.index t a * _ + 1 * (y a).val = (y a).val
  rw [e a]; omega

theorem iblk1 (c : Dev nD) (t : Fin cfg0.N) : iblk m c 1 t = A1 m c := by
  obtain ⟨-, e, -⟩ := idx_facts t
  funext y
  refine (congrArg (V m c main_arg1) (funext fun a => Fin.ext ?_)).trans (congrFun (V_main_arg1 m c) _)
  show win0_1.index t a * _ + 1 * (y a).val = (y a).val
  rw [e a]; omega

theorem iblk2 (c : Dev nD) (t : Fin cfg0.N) : iblk m c 2 t = A2 m c := by
  obtain ⟨-, -, e, -⟩ := idx_facts t
  funext y
  refine (congrArg (V m c main_arg2) (funext fun a => Fin.ext ?_)).trans (congrFun (V_main_arg2 m c) _)
  show win0_2.index t a * _ + 1 * (y a).val = (y a).val
  rw [e a]; omega

theorem iblk3 (c : Dev nD) (t : Fin cfg0.N) (j : Fin 2048) : iblk m c 3 t (ix2 0 j) = A3 m c (ix1 j) := by
  obtain ⟨-, -, -, e, -⟩ := idx_facts t
  refine (congrArg (V m c main_v0) (funext fun a => Fin.ext ?_)).trans (V_v0 m c j)
  show win0_3.index t a * _ + 1 * ((ix2 (0 : Fin 1) j : S1x2048.Idx) a).val = ((ix2 (0 : Fin 1) j : S1x2048.Idx) a).val
  rw [e a]; omega

theorem iblk4 (c : Dev nD) (t : Fin cfg0.N) : iblk m c 4 t = A4 m c := by
  obtain ⟨-, -, -, -, e, -⟩ := idx_facts t
  funext y
  refine (congrArg (V m c main_arg4) (funext fun a => Fin.ext ?_)).trans (congrFun (V_main_arg4 m c) _)
  show win0_4.index t a * _ + 1 * (y a).val = (y a).val
  rw [e a]; omega

/-- One entry of the product, in the arguments. -/
abbrev dn (c : Dev nD) (b : Fin 640) (j : Fin 2048) : EReal :=
  scaledDot (A0 m c) (fun b => A1 m c (ix2 0 b)) (A2 m c) (A3 m c) b j

/-- Window 5's one block is its array: an index of the block is that index of the array, -/
theorem emb5 (t : Fin cfg0.N) (y : S640x1x2048.Idx) : ((cfg0.win 5).blk t).view.emb y = y := by
  obtain ⟨-, -, -, -, -, e, -⟩ := idx_facts t
  refine funext fun a => Fin.ext ?_
  show win0_5.index t a * _ + 1 * (y a).val = (y a).val
  rw [e a]; omega

/-- and every index of the array is in it. -/
theorem mem5 (t : Fin cfg0.N) (i : S640x1x2048.Idx) : i ∈ ((cfg0.win 5).blk t).view.set := by
  show i ∈ ((View.whole main_v1_0).slice (win0_5.rect t)).set
  obtain ⟨-, -, -, -, -, e, -⟩ := idx_facts t
  rw [View.set_slice_whole, Rect.mem_set_unit]
  intro a
  show win0_5.index t a * S640x1x2048.size a ≤ (i a).val ∧ (i a).val < win0_5.index t a * S640x1x2048.size a + S640x1x2048.size a
  rw [e a]
  exact ⟨by omega, by have := (i a).isLt; omega⟩

/-- Window 6's one block is its array: an index of the block is that index of the array, -/
theorem emb6 (t : Fin cfg0.N) (y : S640x2048.Idx) : ((cfg0.win 6).blk t).view.emb y = y := by
  obtain ⟨-, -, -, -, -, -, e⟩ := idx_facts t
  refine funext fun a => Fin.ext ?_
  show win0_6.index t a * _ + 1 * (y a).val = (y a).val
  rw [e a]; omega

/-- and every index of the array is in it. -/
theorem mem6 (t : Fin cfg0.N) (i : S640x2048.Idx) : i ∈ ((cfg0.win 6).blk t).view.set := by
  show i ∈ ((View.whole main_v1_1).slice (win0_6.rect t)).set
  obtain ⟨-, -, -, -, -, -, e⟩ := idx_facts t
  rw [View.set_slice_whole, Rect.mem_set_unit]
  intro a
  show win0_6.index t a * S640x2048.size a ≤ (i a).val ∧ (i a).val < win0_6.index t a * S640x2048.size a + S640x2048.size a
  rw [e a]
  exact ⟨by omega, by have := (i a).isLt; omega⟩

/-! ## The result arrays -/

theorem final5 (c : Dev nD) : (dats m 0 c).arrAt 5 cfg0.N = fun i : S640x1x2048.Idx => dn m c (i 0) (i 2) := by
  refine (dats m 0 c).arrAt_eq_of_cover 5 _ (fun t hf => ?_) (fun i => ⟨⟨0, by decide⟩, flush0_5 _, mem5 _ i⟩)
  show (cfg0.win 5).cut (grid0.coords t) ((dats m 0 c).after 5 t) = _
  rw [after0_5]
  unfold out0_5
  rw [View.canon_unit_zero hz3]
  funext y
  refine Eq.trans ?_ (congrArg (fun i : S640x1x2048.Idx => dn m c (i 0) (i 2)) (emb5 t y).symm)
  idx_vars y
  pointwise [k0_pay2, k0_pay1, iblk0, iblk1, iblk2, iblk3]
  rfl

theorem final6 (c : Dev nD) : (dats m 0 c).arrAt 6 cfg0.N = fun i : S640x2048.Idx => A4 m c i + dn m c (i 0) (i 1) := by
  refine (dats m 0 c).arrAt_eq_of_cover 6 _ (fun t hf => ?_) (fun i => ⟨⟨0, by decide⟩, flush0_6 _, mem6 _ i⟩)
  show (cfg0.win 6).cut (grid0.coords t) ((dats m 0 c).after 6 t) = _
  rw [after0_6]
  unfold out0_6
  rw [View.canon_unit_zero hz2]
  funext y
  refine Eq.trans ?_ (congrArg (fun i : S640x2048.Idx => A4 m c i + dn m c (i 0) (i 1)) (emb6 t y).symm)
  idx_vars y
  pointwise [k0_pay3, k0_pay1, iblk0, iblk1, iblk2, iblk3, iblk4]
  rfl

end Cert.DownRefIdeal.Hand

end
-- ==== Proof.DownClaim.lean ====
/-
  The last call against its reference: from memories that agree on the arguments both runs leave the same product and
  the same residual sum.
-/
module

public import proofs.«01_k».proof.Defs
public import proofs.«01_k».proof.Proof.DownKernel
public import proofs.«01_k».proof.Proof.DownReference

@[expose] public section

set_option maxRecDepth 16384

noncomputable section

namespace Cert.DownClaim

open Idealize.ShloMosaic Idealize.ShloMosaic.TcCoe Idealize.SL.Sem

open Cert in
/-- Both programs leave `dn` and the residual plus `dn`, entry by entry the same function of the arguments. -/
theorem algebraic : algebraic_DownIdeal_DownRefIdeal (hDownIdeal := Cert.DownIdeal.Gen.facts) (hDownRefIdeal := Cert.DownRefIdeal.Gen.facts) := by
  intro m ρ m' ρ' _ hag
  have e0 : ∀ c, Cert.DownRefIdeal.Hand.A0 m' c = Cert.DownIdeal.Hand.A0 m c := fun c => (hag c).1
  have e1 : ∀ c, Cert.DownRefIdeal.Hand.A1 m' c = Cert.DownIdeal.Hand.A1 m c := fun c => (hag c).2.1
  have e2 : ∀ c, Cert.DownRefIdeal.Hand.A2 m' c = Cert.DownIdeal.Hand.A2 m c := fun c => (hag c).2.2.1
  have e3 : ∀ c, Cert.DownRefIdeal.Hand.A3 m' c = Cert.DownIdeal.Hand.A3 m c := fun c => (hag c).2.2.2.1
  have e4 : ∀ c, Cert.DownRefIdeal.Hand.A4 m' c = Cert.DownIdeal.Hand.A4 m c := fun c => (hag c).2.2.2.2
  have ed : ∀ c b j, Cert.DownRefIdeal.Hand.dn m' c b j = Cert.DownIdeal.Hand.dn m c b j := fun c b j => by
    unfold Cert.DownRefIdeal.Hand.dn Cert.DownIdeal.Hand.dn
    rw [e0, e1, e2, e3]
  refine ⟨fun c => Cert.DownIdeal.Value.G5 m c, fun c => Cert.DownIdeal.Value.G6 m c, Cert.DownIdeal.Value.run m ρ,
    (θ_run _ _ _).mono (fun r h c => ⟨(h c).1.trans ?_, (h c).2.1.trans ?_, (h c).2.2⟩) (Cert.DownRefIdeal.Value.run_blocks m' ρ')⟩
  · have h5 : (fun i : Cert.DownIdeal.S640x1x2048.Idx => Cert.DownRefIdeal.Hand.dn m' c (i 0) (i 2))
        = fun i : Cert.DownIdeal.S640x1x2048.Idx => Cert.DownIdeal.Hand.dn m c (i 0) (i 2) := funext fun i => ed c (i 0) (i 2)
    exact ((Cert.DownRefIdeal.Hand.final5 m' c).trans h5).trans (Cert.DownIdeal.Hand.G5_eq m c).symm
  · have h6 : (fun i : Cert.DownIdeal.S640x2048.Idx => Cert.DownRefIdeal.Hand.A4 m' c i + Cert.DownRefIdeal.Hand.dn m' c (i 0) (i 1))
        = fun i : Cert.DownIdeal.S640x2048.Idx => Cert.DownIdeal.Hand.A4 m c i + Cert.DownIdeal.Hand.dn m c (i 0) (i 1) :=
      funext fun i => congrArg₂ (· + ·) (congrFun (e4 c) i) (ed c (i 0) (i 1))
    exact ((Cert.DownRefIdeal.Hand.final6 m' c).trans h6).trans (Cert.DownIdeal.Hand.G6_eq m c).symm

end Cert.DownClaim

end
-- ==== Proof.lean ====
module

public import proofs.«01_k».proof.Defs
public import proofs.«01_k».proof.Proof.InProjClaim
public import proofs.«01_k».proof.Proof.InProjFrame
public import proofs.«01_k».proof.Proof.InProjIdealFrame
public import proofs.«01_k».proof.Proof.Gen.InProjRefIdeal.Frame
public import proofs.«01_k».proof.Proof.OutProjClaim
public import proofs.«01_k».proof.Proof.Gen.OutProj.Frame
public import proofs.«01_k».proof.Proof.Gen.OutProjIdeal.Frame
public import proofs.«01_k».proof.Proof.Gen.OutProjRefIdeal.Frame
public import proofs.«01_k».proof.Proof.GateUpClaim
public import proofs.«01_k».proof.Proof.GateUpFrame
public import proofs.«01_k».proof.Proof.GateUpIdealFrame
public import proofs.«01_k».proof.Proof.Gen.GateUpRefIdeal.Frame
public import proofs.«01_k».proof.Proof.DownClaim
public import proofs.«01_k».proof.Proof.Gen.Down.Frame
public import proofs.«01_k».proof.Proof.Gen.DownIdeal.Frame
public import proofs.«01_k».proof.Proof.Gen.DownRefIdeal.Frame

@[expose] public section

noncomputable section

namespace Cert.Proof

open Idealize.ShloMosaic Idealize.SL.Sem

/-- The whole claim. For each call, in order: the frame of the program as printed, of its reading over the extended
    reals and of the reference; then that the reading keeps the program, and that it and the reference leave the same arrays. -/
theorem claim : Cert.Claim := ⟨Cert.InProj.Gen.facts, Cert.InProjIdeal.Gen.facts, Cert.InProjRefIdeal.Gen.facts, Cert.OutProj.Gen.facts, Cert.OutProjIdeal.Gen.facts, Cert.OutProjRefIdeal.Gen.facts, Cert.GateUp.Gen.facts, Cert.GateUpIdeal.Gen.facts, Cert.GateUpRefIdeal.Gen.facts, Cert.Down.Gen.facts, Cert.DownIdeal.Gen.facts, Cert.DownRefIdeal.Gen.facts,
    fun m ρ _ => Cert.InProj.Hand.frame m ρ,
    fun m ρ _ => Cert.InProjIdeal.Hand.frame m ρ,
    fun m ρ _ => Cert.InProjRefIdeal.Gen.frame m ρ,
    fun m ρ _ => Cert.OutProj.Gen.frame m ρ,
    fun m ρ _ => Cert.OutProjIdeal.Gen.frame m ρ,
    fun m ρ _ => Cert.OutProjRefIdeal.Gen.frame m ρ,
    fun m ρ _ => Cert.GateUp.Hand.frame m ρ,
    fun m ρ _ => Cert.GateUpIdeal.Hand.frame m ρ,
    fun m ρ _ => Cert.GateUpRefIdeal.Gen.frame m ρ,
    fun m ρ _ => Cert.Down.Gen.frame m ρ,
    fun m ρ _ => Cert.DownIdeal.Gen.frame m ρ,
    fun m ρ _ => Cert.DownRefIdeal.Gen.frame m ρ,
    trivial,
    Cert.InProjClaim.algebraic,
    trivial,
    Cert.OutProjClaim.algebraic,
    trivial,
    Cert.GateUpClaim.algebraic,
    trivial,
    Cert.DownClaim.algebraic⟩

end Cert.Proof

end
